-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_scheduled : Cert.Pre_scheduled.Facts] (m : (ℓ : Loc Cert.Kernel4.nD Cert.Kernel4.τ Cert.Kernel4.sig) → Buf (Elt Bits) ℓ) : Prop :=
  ∀ c : Dev Cert.Kernel4.nD,
    (Cert.Pre_scheduled.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_scheduled : Cert.Pre_scheduled.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_scheduled.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_scheduled [hPre_scheduled : Cert.Pre_scheduled.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_scheduled.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] [hPre_scheduled : Cert.Pre_scheduled.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_scheduled : Cert.Pre_scheduled.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_scheduled [hReference4Ideal : Cert.Reference4Ideal.Facts] [hPre_scheduled : Cert.Pre_scheduled.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_scheduled m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  IdealRules.named_const.Statement Cert.Kernel4Ideal.κ "mask" .f32 0xF149F2CA#32 ⊥

def algebraic_Kernel4Ideal_Reference4Ideal [hKernel4Ideal : Cert.Kernel4Ideal.Facts] [hReference4Ideal : Cert.Reference4Ideal.Facts] [hPre_scheduled : Cert.Pre_scheduled.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_scheduled : Cert.Pre_scheduled.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_scheduled := hPre_scheduled)
    ∧ quiescent_Kernel4Ideal (hKernel4Ideal := hKernel4Ideal) (hPre_scheduled := hPre_scheduled)
    ∧ quiescent_Reference4Ideal (hReference4Ideal := hReference4Ideal)
    ∧ quiescent_Reference4Ideal_pre_scheduled (hReference4Ideal := hReference4Ideal) (hPre_scheduled := hPre_scheduled)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_scheduled := hPre_scheduled)
-- ==== Pre_finite.lean ====
abbrev S32x64x8x256 : Shape := ⟨4, ![32, 64, 8, 256]⟩
abbrev S32x64x8x32 : Shape := ⟨4, ![32, 64, 8, 32]⟩
abbrev S32x64x256 : Shape := ⟨3, ![32, 64, 256]⟩
abbrev S32x64x32 : Shape := ⟨3, ![32, 64, 32]⟩
abbrev S32x4096x256 : Shape := ⟨3, ![32, 4096, 256]⟩
abbrev S32x4096x32 : Shape := ⟨3, ![32, 4096, 32]⟩
abbrev S256x8x64 : Shape := ⟨3, ![256, 8, 64]⟩
abbrev S_ : Shape := ⟨0, ![]⟩

class Facts : Prop where
  bcast_S_S32x64x8x256 : S_.BroadcastsInDim S32x64x8x256 (![] : Fin 0 → Fin S32x64x8x256.rank)
  reducesTo_S32x64x8x256_S_d0_1_2_3 : S32x64x8x256.ReducesTo [0, 1, 2, 3] S_
  h_S_ : 0 < S_.numel
  bcast_S_S32x64x8x32 : S_.BroadcastsInDim S32x64x8x32 (![] : Fin 0 → Fin S32x64x8x32.rank)
  reducesTo_S32x64x8x32_S_d0_1_2_3 : S32x64x8x32.ReducesTo [0, 1, 2, 3] S_
  bcast_S_S32x64x256 : S_.BroadcastsInDim S32x64x256 (![] : Fin 0 → Fin S32x64x256.rank)
  reducesTo_S32x64x256_S_d0_1_2 : S32x64x256.ReducesTo [0, 1, 2] S_
  bcast_S_S32x64x32 : S_.BroadcastsInDim S32x64x32 (![] : Fin 0 → Fin S32x64x32.rank)
  reducesTo_S32x64x32_S_d0_1_2 : S32x64x32.ReducesTo [0, 1, 2] S_
  bcast_S_S32x4096x256 : S_.BroadcastsInDim S32x4096x256 (![] : Fin 0 → Fin S32x4096x256.rank)
  reducesTo_S32x4096x256_S_d0_1_2 : S32x4096x256.ReducesTo [0, 1, 2] S_
  bcast_S_S32x4096x32 : S_.BroadcastsInDim S32x4096x32 (![] : Fin 0 → Fin S32x4096x32.rank)
  reducesTo_S32x4096x32_S_d0_1_2 : S32x4096x32.ReducesTo [0, 1, 2] S_

variable [Facts]

def fn_part1 {F : FTy → Type} [FloatOps F] (main_arg4 : FVec F S32x4096x256 .f32) (main_arg5 : FVec F S32x4096x32 .f32) (main_v13 : IVec S_ 1) (main_v16 : IVec S32x64x32 1) : IVec S_ 1 :=
  let main_c_5 : IVec S_ 1 := constantI S_ 1 1#1
  let main_v17 : IVec S_ 1 := (fun x v => Host.reduce IntOp.andi x v reducesTo_S32x64x32_S_d0_1_2 h_S_) main_v16 main_c_5
  let main_v18 : IVec S_ 1 := andi main_v13 main_v17
  let main_v19 : FVec F S32x4096x256 .f32 := Host.absf main_arg4
  let main_cst_6 : FVec F S_ .f32 := constant S_ .f32 0x7F800000#32
  let main_v20 : FVec F S32x4096x256 .f32 := broadcastInDim S32x4096x256 ![] bcast_S_S32x4096x256 main_cst_6
  let main_v21 : IVec S32x4096x256 1 := cmpf .olt main_v19 main_v20
  let main_c_7 : IVec S_ 1 := constantI S_ 1 1#1
  let main_v22 : IVec S_ 1 := (fun x v => Host.reduce IntOp.andi x v reducesTo_S32x4096x256_S_d0_1_2 h_S_) main_v21 main_c_7
  let main_v23 : IVec S_ 1 := andi main_v18 main_v22
  let main_v24 : FVec F S32x4096x32 .f32 := Host.absf main_arg5
  let main_cst_8 : FVec F S_ .f32 := constant S_ .f32 0x7F800000#32
  let main_v25 : FVec F S32x4096x32 .f32 := broadcastInDim S32x4096x32 ![] bcast_S_S32x4096x32 main_cst_8
  let main_v26 : IVec S32x4096x32 1 := cmpf .olt main_v24 main_v25
  let main_c_9 : IVec S_ 1 := constantI S_ 1 1#1
  let main_v27 : IVec S_ 1 := (fun x v => Host.reduce IntOp.andi x v reducesTo_S32x4096x32_S_d0_1_2 h_S_) main_v26 main_c_9
  let main_v28 : IVec S_ 1 := andi main_v23 main_v27
  main_v28

def fn {F : FTy → Type} [FloatOps F] (main_arg0 : FVec F S32x64x8x256 .f32) (main_arg1 : FVec F S32x64x8x32 .f32) (main_arg2 : FVec F S32x64x256 .f32) (main_arg3 : FVec F S32x64x32 .f32) (main_arg4 : FVec F S32x4096x256 .f32) (main_arg5 : FVec F S32x4096x32 .f32) (main_arg6 : FVec F S256x8x64 .f32) : IVec S_ 1 :=
  let main_v0 : FVec F S32x64x8x256 .f32 := Host.absf main_arg0
  let main_cst : FVec F S_ .f32 := constant S_ .f32 0x7F800000#32
  let main_v1 : FVec F S32x64x8x256 .f32 := broadcastInDim S32x64x8x256 ![] bcast_S_S32x64x8x256 main_cst
  let main_v2 : IVec S32x64x8x256 1 := cmpf .olt main_v0 main_v1
  let main_c : IVec S_ 1 := constantI S_ 1 1#1
  let main_v3 : IVec S_ 1 := (fun x v => Host.reduce IntOp.andi x v reducesTo_S32x64x8x256_S_d0_1_2_3 h_S_) main_v2 main_c
  let main_v4 : FVec F S32x64x8x32 .f32 := Host.absf main_arg1
  let main_cst_0 : FVec F S_ .f32 := constant S_ .f32 0x7F800000#32
  let main_v5 : FVec F S32x64x8x32 .f32 := broadcastInDim S32x64x8x32 ![] bcast_S_S32x64x8x32 main_cst_0
  let main_v6 : IVec S32x64x8x32 1 := cmpf .olt main_v4 main_v5
  let main_c_1 : IVec S_ 1 := constantI S_ 1 1#1
  let main_v7 : IVec S_ 1 := (fun x v => Host.reduce IntOp.andi x v reducesTo_S32x64x8x32_S_d0_1_2_3 h_S_) main_v6 main_c_1
  let main_v8 : IVec S_ 1 := andi main_v3 main_v7
  let main_v9 : FVec F S32x64x256 .f32 := Host.absf main_arg2
  let main_cst_2 : FVec F S_ .f32 := constant S_ .f32 0x7F800000#32
  let main_v10 : FVec F S32x64x256 .f32 := broadcastInDim S32x64x256 ![] bcast_S_S32x64x256 main_cst_2
  let main_v11 : IVec S32x64x256 1 := cmpf .olt main_v9 main_v10
  let main_c_3 : IVec S_ 1 := constantI S_ 1 1#1
  let main_v12 : IVec S_ 1 := (fun x v => Host.reduce IntOp.andi x v reducesTo_S32x64x256_S_d0_1_2 h_S_) main_v11 main_c_3
  let main_v13 : IVec S_ 1 := andi main_v8 main_v12
  let main_v14 : FVec F S32x64x32 .f32 := Host.absf main_arg3
  let main_cst_4 : FVec F S_ .f32 := constant S_ .f32 0x7F800000#32
  let main_v15 : FVec F S32x64x32 .f32 := broadcastInDim S32x64x32 ![] bcast_S_S32x64x32 main_cst_4
  let main_v16 : IVec S32x64x32 1 := cmpf .olt main_v14 main_v15
  fn_part1 (F := F) main_arg4 main_arg5 main_v13 main_v16
-- ==== Pre_scheduled.lean ====
abbrev S10 : Shape := ⟨1, ![10]⟩
abbrev S16384x1024 : Shape := ⟨2, ![16384, 1024]⟩
abbrev S16384x512 : Shape := ⟨2, ![16384, 512]⟩
abbrev S_ : Shape := ⟨0, ![]⟩

class Facts : Prop where
  reducesTo_S10_S_d0 : S10.ReducesTo [0] S_
  h_S_ : 0 < S_.numel
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  bcast_S_S16384x512 : S_.BroadcastsInDim S16384x512 (![] : Fin 0 → Fin S16384x512.rank)
  reducesTo_S16384x512_S_d0_1 : S16384x512.ReducesTo [0, 1] S_

variable [Facts]

noncomputable abbrev lit0 : Fin 10 → BitVec 32 := fun
  | 0 => 0#32 | 1 => 1#32 | 2 => 1#32 | 3 => 2#32 | 4 => 2#32 | 5 => 2#32 | 6 => 3#32 | 7 => 3#32
  | 8 => 3#32 | 9 => 3#32
  | _ => 0#32

noncomputable abbrev lit1 : Fin 10 → BitVec 32 := fun
  | 0 => 0#32 | 1 => 0#32 | 2 => 1#32 | 3 => 0#32 | 4 => 1#32 | 5 => 2#32 | 6 => 0#32 | 7 => 1#32
  | 8 => 2#32 | 9 => 3#32
  | _ => 0#32

def fn_part1 {F : FTy → Type} [FloatOps F] (main_arg4 : FVec F S16384x512 .bf16) (main_v10 : IVec S_ 1) (main_v15 : IVec S_ 1) : IVec S_ 1 :=
  let main_v16 : IVec S_ 1 := andi main_v10 main_v15
  let main_v17 : FVec F S16384x512 .f32 := (extf .f32 · bitsLt_bf16_f32) main_arg4
  let main_v18 : FVec F S16384x512 .f32 := Host.absf main_v17
  let main_cst_6 : FVec F S_ .f32 := constant S_ .f32 0x7F800000#32
  let main_v19 : FVec F S16384x512 .f32 := broadcastInDim S16384x512 ![] bcast_S_S16384x512 main_cst_6
  let main_v20 : IVec S16384x512 1 := cmpf .olt main_v18 main_v19
  let main_c_7 : IVec S_ 1 := constantI S_ 1 1#1
  let main_v21 : IVec S_ 1 := (fun x v => Host.reduce IntOp.andi x v reducesTo_S16384x512_S_d0_1 h_S_) main_v20 main_c_7
  let main_v22 : IVec S_ 1 := andi main_v16 main_v21
  main_v22

def fn {F : FTy → Type} [FloatOps F] (main_arg0 : IVec S10 32) (main_arg1 : IVec S10 32) (main_arg2 : FVec F S16384x1024 .bf16) (main_arg3 : FVec F S16384x1024 .bf16) (main_arg4 : FVec F S16384x512 .bf16) : IVec S_ 1 :=
  let main_c : IVec S10 32 := fun i => lit0 (S10.rowMajor i)
  let main_c_0 : IVec S10 32 := fun i => lit1 (S10.rowMajor i)
  let main_v0 : IVec S10 1 := cmpi .eq main_arg0 main_c
  let main_c_1 : IVec S_ 1 := constantI S_ 1 1#1
  let main_v1 : IVec S_ 1 := (fun x v => Host.reduce IntOp.andi x v reducesTo_S10_S_d0 h_S_) main_v0 main_c_1
  let main_v2 : IVec S10 1 := cmpi .eq main_arg1 main_c_0
  let main_c_2 : IVec S_ 1 := constantI S_ 1 1#1
  let main_v3 : IVec S_ 1 := (fun x v => Host.reduce IntOp.andi x v reducesTo_S10_S_d0 h_S_) main_v2 main_c_2
  let main_v4 : IVec S_ 1 := andi main_v1 main_v3
  let main_v5 : FVec F S16384x1024 .f32 := (extf .f32 · bitsLt_bf16_f32) main_arg2
  let main_v6 : FVec F S16384x1024 .f32 := Host.absf main_v5
  let main_cst : FVec F S_ .f32 := constant S_ .f32 0x7F800000#32
  let main_v7 : FVec F S16384x1024 .f32 := broadcastInDim S16384x1024 ![] bcast_S_S16384x1024 main_cst
  let main_v8 : IVec S16384x1024 1 := cmpf .olt main_v6 main_v7
  let main_c_3 : IVec S_ 1 := constantI S_ 1 1#1
  let main_v9 : IVec S_ 1 := (fun x v => Host.reduce IntOp.andi x v reducesTo_S16384x1024_S_d0_1 h_S_) main_v8 main_c_3
  let main_v10 : IVec S_ 1 := andi main_v4 main_v9
  let main_v11 : FVec F S16384x1024 .f32 := (extf .f32 · bitsLt_bf16_f32) main_arg3
  let main_v12 : FVec F S16384x1024 .f32 := Host.absf main_v11
  let main_cst_4 : FVec F S_ .f32 := constant S_ .f32 0x7F800000#32
  let main_v13 : FVec F S16384x1024 .f32 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_arg4 main_v10 main_v15
-- ==== Kernel.lean ====
abbrev S32x64x8x256 : Shape := ⟨4, ![32, 64, 8, 256]⟩
abbrev S32x64x8x32 : Shape := ⟨4, ![32, 64, 8, 32]⟩
abbrev S32x64x256 : Shape := ⟨3, ![32, 64, 256]⟩
abbrev S32x64x32 : Shape := ⟨3, ![32, 64, 32]⟩
abbrev S32x4096x256 : Shape := ⟨3, ![32, 4096, 256]⟩
abbrev S32x4096x32 : Shape := ⟨3, ![32, 4096, 32]⟩
abbrev S256x8x64 : Shape := ⟨3, ![256, 8, 64]⟩
abbrev S_ : Shape := ⟨0, ![]⟩
abbrev S2048x8x256 : Shape := ⟨3, ![2048, 8, 256]⟩
abbrev S8x2048x256 : Shape := ⟨3, ![8, 2048, 256]⟩
abbrev S2048x256 : Shape := ⟨2, ![2048, 256]⟩
abbrev S2048x32 : Shape := ⟨2, ![2048, 32]⟩
abbrev S1x2048x1x32 : Shape := ⟨4, ![1, 2048, 1, 32]⟩
abbrev S1x2048x8x32 : Shape := ⟨4, ![1, 2048, 8, 32]⟩
abbrev S2048x512 : Shape := ⟨2, ![2048, 512]⟩
abbrev S32x32x4096 : Shape := ⟨3, ![32, 32, 4096]⟩
abbrev S4x4 : Shape := ⟨2, ![4, 4]⟩
abbrev S8x256x64 : Shape := ⟨3, ![8, 256, 64]⟩
abbrev S2x4x256x1x64 : Shape := ⟨5, ![2, 4, 256, 1, 64]⟩
abbrev S1x4x1x4x1 : Shape := ⟨5, ![1, 4, 1, 4, 1]⟩
abbrev S2x4x256x4x64 : Shape := ⟨5, ![2, 4, 256, 4, 64]⟩
abbrev S8x256x256 : Shape := ⟨3, ![8, 256, 256]⟩
abbrev S8x64x256 : Shape := ⟨3, ![8, 64, 256]⟩
abbrev S64x256 : Shape := ⟨2, ![64, 256]⟩
abbrev S64x512 : Shape := ⟨2, ![64, 512]⟩
abbrev S1x4096x256 : Shape := ⟨3, ![1, 4096, 256]⟩
abbrev S1x32x4096 : Shape := ⟨3, ![1, 32, 4096]⟩
abbrev S512x256 : Shape := ⟨2, ![512, 256]⟩
abbrev S512x32 : Shape := ⟨2, ![512, 32]⟩
abbrev S512x128 : Shape := ⟨2, ![512, 128]⟩
abbrev S1x64x256 : Shape := ⟨3, ![1, 64, 256]⟩
abbrev S64x32 : Shape := ⟨2, ![64, 32]⟩
abbrev S512x64 : Shape := ⟨2, ![512, 64]⟩
abbrev S512 : Shape := ⟨1, ![512]⟩
abbrev S512x1 : Shape := ⟨2, ![512, 1]⟩
abbrev S4096x256 : Shape := ⟨2, ![4096, 256]⟩
abbrev S32x4096 : Shape := ⟨2, ![32, 4096]⟩
abbrev S256x256 : Shape := ⟨2, ![256, 256]⟩
abbrev S256x4096 : Shape := ⟨2, ![256, 4096]⟩
abbrev S256x32 : Shape := ⟨2, ![256, 32]⟩
abbrev S256x128 : Shape := ⟨2, ![256, 128]⟩
abbrev S256 : Shape := ⟨1, ![256]⟩
abbrev S256x1 : Shape := ⟨2, ![256, 1]⟩
abbrev S1x256x256 : Shape := ⟨3, ![1, 256, 256]⟩

abbrev nBuf : Space → Nat
  | .hbm => 47
  | .vmem => 18
  | .smem => 0
  | _ => 0

abbrev bufTy : (tb : Table) → Fin (tcTables nBuf tb) → BufTy
  | .hbm, ⟨0, _⟩ => ⟨S32x64x8x256, .f32⟩
  | .hbm, ⟨1, _⟩ => ⟨S32x64x8x32, .f32⟩
  | .hbm, ⟨2, _⟩ => ⟨S32x64x256, .f32⟩
  | .hbm, ⟨3, _⟩ => ⟨S32x64x32, .f32⟩
  | .hbm, ⟨4, _⟩ => ⟨S32x4096x256, .f32⟩
  | .hbm, ⟨5, _⟩ => ⟨S32x4096x32, .f32⟩
  | .hbm, ⟨6, _⟩ => ⟨S256x8x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2048x8x256, .f32⟩
  | .hbm, ⟨15, _⟩ => ⟨S8x2048x256, .f32⟩
  | .hbm, ⟨16, _⟩ => ⟨S8x2048x256, .f32⟩
  | .hbm, ⟨17, _⟩ => ⟨S8x2048x256, .f32⟩
  | .hbm, ⟨18, _⟩ => ⟨S8x2048x256, .bf16⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S2048x256, .bf16⟩
  | .hbm, ⟨23, _⟩ => ⟨S2048x256, .f32⟩
  | .hbm, ⟨24, _⟩ => ⟨S2048x32, .f32⟩
  | .hbm, ⟨25, _⟩ => ⟨S1x2048x1x32, .f32⟩
  | .hbm, ⟨26, _⟩ => ⟨S1x2048x8x32, .f32⟩
  | .hbm, ⟨27, _⟩ => ⟨S2048x256, .f32⟩
  | .hbm, ⟨28, _⟩ => ⟨S2048x512, .f32⟩
  | .hbm, ⟨29, _⟩ => ⟨S2048x512, .bf16⟩
  | .hbm, ⟨30, _⟩ => ⟨S32x32x4096, .f32⟩
  | .hbm, ⟨31, _⟩ => ⟨S4x4, .i32⟩
  | .hbm, ⟨32, _⟩ => ⟨S4x4, .i32⟩
  | .hbm, ⟨33, _⟩ => ⟨S_, .i32⟩
  | .hbm, ⟨34, _⟩ => ⟨S4x4, .i32⟩
  | .hbm, ⟨35, _⟩ => ⟨S4x4, .i32⟩
  | .hbm, ⟨36, _⟩ => ⟨S4x4, .i1⟩
  | .hbm, ⟨37, _⟩ => ⟨S4x4, .f32⟩
  | .hbm, ⟨38, _⟩ => ⟨S8x256x64, .f32⟩
  | .hbm, ⟨39, _⟩ => ⟨S2x4x256x1x64, .f32⟩
  | .hbm, ⟨40, _⟩ => ⟨S1x4x1x4x1, .f32⟩
  | .hbm, ⟨41, _⟩ => ⟨S2x4x256x4x64, .f32⟩
  | .hbm, ⟨42, _⟩ => ⟨S2x4x256x4x64, .f32⟩
  | .hbm, ⟨43, _⟩ => ⟨S2x4x256x4x64, .f32⟩
  | .hbm, ⟨44, _⟩ => ⟨S8x256x256, .f32⟩
  | .hbm, ⟨45, _⟩ => ⟨S8x256x256, .bf16⟩
  | .hbm, ⟨46, _⟩ => ⟨S2048x512, .bf16⟩
  | .local _ .vmem, ⟨0, _⟩ => ⟨S8x64x256, .bf16⟩
  | .local _ .vmem, ⟨1, _⟩ => ⟨S8x64x256, .bf16⟩
  | .local _ .vmem, ⟨2, _⟩ => ⟨S64x256, .bf16⟩
  | .local _ .vmem, ⟨3, _⟩ => ⟨S64x256, .bf16⟩
  | .local _ .vmem, ⟨4, _⟩ => ⟨S64x512, .bf16⟩
  | .local _ .vmem, ⟨5, _⟩ => ⟨S64x512, .bf16⟩
  | .local _ .vmem, ⟨6, _⟩ => ⟨S1x4096x256, .f32⟩
  | .local _ .vmem, ⟨7, _⟩ => ⟨S1x4096x256, .f32⟩
  | .local _ .vmem, ⟨8, _⟩ => ⟨S1x32x4096, .f32⟩
  | .local _ .vmem, ⟨9, _⟩ => ⟨S1x32x4096, .f32⟩
  | .local _ .vmem, ⟨10, _⟩ => ⟨S8x256x256, .bf16⟩
  | .local _ .vmem, ⟨11, _⟩ => ⟨S64x512, .bf16⟩
  | .local _ .vmem, ⟨12, _⟩ => ⟨S64x512, .bf16⟩
  | .local _ .vmem, ⟨13, _⟩ => ⟨S512x256, .bf16⟩
  | .local _ .vmem, ⟨14, _⟩ => ⟨S512x32, .bf16⟩
  | .local _ .vmem, ⟨15, _⟩ => ⟨S512x128, .f32⟩
  | .local _ .vmem, ⟨16, _⟩ => ⟨S512x128, .f32⟩
  | .local _ .vmem, ⟨17, _⟩ => ⟨S512x256, .f32⟩
  | _, _ => ⟨S32x64x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_46 : BitVec 32 := 0#32
  let v81 : BitVec 1 := Scalar.cmpi .eq arg1 c0_i32_46
  let v82 : BitVec 32 := Scalar.extui v81
  let c0_i32_47 : BitVec 32 := 0#32
  let v83 : BitVec 1 := Scalar.cmpi .ne v82 c0_i32_47
  v83

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S32x64x8x256 : Shape := ⟨4, ![32, 64, 8, 256]⟩
abbrev S32x64x8x32 : Shape := ⟨4, ![32, 64, 8, 32]⟩
abbrev S32x64x256 : Shape := ⟨3, ![32, 64, 256]⟩
abbrev S32x64x32 : Shape := ⟨3, ![32, 64, 32]⟩
abbrev S32x4096x256 : Shape := ⟨3, ![32, 4096, 256]⟩
abbrev S32x4096x32 : Shape := ⟨3, ![32, 4096, 32]⟩
abbrev S256x8x64 : Shape := ⟨3, ![256, 8, 64]⟩
abbrev S64 : Shape := ⟨1, ![64]⟩
abbrev S_ : Shape := ⟨0, ![]⟩
abbrev S4160 : Shape := ⟨1, ![4160]⟩
abbrev S32x4160x256 : Shape := ⟨3, ![32, 4160, 256]⟩
abbrev S32x4160x32 : Shape := ⟨3, ![32, 4160, 32]⟩
abbrev S32x4160x64x8 : Shape := ⟨4, ![32, 4160, 64, 8]⟩
abbrev S32x8x64x4160 : Shape := ⟨4, ![32, 8, 64, 4160]⟩
abbrev S1x4160 : Shape := ⟨2, ![1, 4160]⟩
abbrev S64x1 : Shape := ⟨2, ![64, 1]⟩
abbrev S64x4160 : Shape := ⟨2, ![64, 4160]⟩
abbrev S32x8x64 : Shape := ⟨3, ![32, 8, 64]⟩
abbrev S32x8x64x1 : Shape := ⟨4, ![32, 8, 64, 1]⟩
abbrev S32x256x8x64 : Shape := ⟨4, ![32, 256, 8, 64]⟩
abbrev S8x64x32x64 : Shape := ⟨4, ![8, 64, 32, 64]⟩
abbrev S32x64x8x64 : Shape := ⟨4, ![32, 64, 8, 64]⟩
abbrev S2048x512 : Shape := ⟨2, ![2048, 512]⟩

abbrev nBuf : Space → Nat
  | .hbm => 89
  | .vmem => 0
  | .smem => 0
  | _ => 0

abbrev bufTy : (tb : Table) → Fin (tcTables nBuf tb) → BufTy
  | .hbm, ⟨0, _⟩ => ⟨S32x64x8x256, .f32⟩
  | .hbm, ⟨1, _⟩ => ⟨S32x64x8x32, .f32⟩
  | .hbm, ⟨2, _⟩ => ⟨S32x64x256, .f32⟩
  | .hbm, ⟨3, _⟩ => ⟨S32x64x32, .f32⟩
  | .hbm, ⟨4, _⟩ => ⟨S32x4096x256, .f32⟩
  | .hbm, ⟨5, _⟩ => ⟨S32x4096x32, .f32⟩
  | .hbm, ⟨6, _⟩ => ⟨S256x8x64, .f32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S4160, .i32⟩
  | .hbm, ⟨12, _⟩ => ⟨S32x4160x256, .f32⟩
  | .hbm, ⟨13, _⟩ => ⟨S32x4160x32, .f32⟩
  | .hbm, ⟨14, _⟩ => ⟨S32x4160x64x8, .f32⟩
  | .hbm, ⟨15, _⟩ => ⟨S32x8x64x4160, .f32⟩
  | .hbm, ⟨16, _⟩ => ⟨S32x4160x64x8, .f32⟩
  | .hbm, ⟨17, _⟩ => ⟨S32x8x64x4160, .f32⟩
  | .hbm, ⟨18, _⟩ => ⟨S32x8x64x4160, .f32⟩
  | .hbm, ⟨19, _⟩ => ⟨S_, .f32⟩
  | .hbm, ⟨20, _⟩ => ⟨S_, .f32⟩
  | .hbm, ⟨21, _⟩ => ⟨S32x8x64x4160, .f32⟩
  | .hbm, ⟨22, _⟩ => ⟨S32x8x64x4160, .f32⟩
  | .hbm, ⟨23, _⟩ => ⟨S_, .i32⟩
  | .hbm, ⟨24, _⟩ => ⟨S_, .i32⟩
  | .hbm, ⟨25, _⟩ => ⟨S4160, .i32⟩
  | .hbm, ⟨26, _⟩ => ⟨S4160, .i32⟩
  | .hbm, ⟨27, _⟩ => ⟨S4160, .i32⟩
  | .hbm, ⟨28, _⟩ => ⟨S_, .i32⟩
  | .hbm, ⟨29, _⟩ => ⟨S4160, .i32⟩
  | .hbm, ⟨30, _⟩ => ⟨S4160, .i1⟩
  | .hbm, ⟨31, _⟩ => ⟨S4160, .i32⟩
  | .hbm, ⟨32, _⟩ => ⟨S4160, .i32⟩
  | .hbm, ⟨33, _⟩ => ⟨S_, .i32⟩
  | .hbm, ⟨34, _⟩ => ⟨S4160, .i32⟩
  | .hbm, ⟨35, _⟩ => ⟨S4160, .i1⟩
  | .hbm, ⟨36, _⟩ => ⟨S4160, .i1⟩
  | .hbm, ⟨37, _⟩ => ⟨S_, .i32⟩
  | .hbm, ⟨38, _⟩ => ⟨S4160, .i32⟩
  | .hbm, ⟨39, _⟩ => ⟨S4160, .i32⟩
  | .hbm, ⟨40, _⟩ => ⟨S4160, .i32⟩
  | .hbm, ⟨41, _⟩ => ⟨S1x4160, .i32⟩
  | .hbm, ⟨42, _⟩ => ⟨S_, .i32⟩
  | .hbm, ⟨43, _⟩ => ⟨S_, .i32⟩
  | .hbm, ⟨44, _⟩ => ⟨S64, .i32⟩
  | .hbm, ⟨45, _⟩ => ⟨S64, .i32⟩
  | .hbm, ⟨46, _⟩ => ⟨S64, .i32⟩
  | .hbm, ⟨47, _⟩ => ⟨S_, .i32⟩
  | .hbm, ⟨48, _⟩ => ⟨S64, .i32⟩
  | .hbm, ⟨49, _⟩ => ⟨S64, .i1⟩
  | .hbm, ⟨50, _⟩ => ⟨S64, .i32⟩
  | .hbm, ⟨51, _⟩ => ⟨S64, .i32⟩
  | .hbm, ⟨52, _⟩ => ⟨S_, .i32⟩
  | .hbm, ⟨53, _⟩ => ⟨S64, .i32⟩
  | .hbm, ⟨54, _⟩ => ⟨S64, .i1⟩
  | .hbm, ⟨55, _⟩ => ⟨S64, .i1⟩
  | .hbm, ⟨56, _⟩ => ⟨S_, .i32⟩
  | .hbm, ⟨57, _⟩ => ⟨S64, .i32⟩
  | .hbm, ⟨58, _⟩ => ⟨S64, .i32⟩
  | .hbm, ⟨59, _⟩ => ⟨S64, .i32⟩
  | .hbm, ⟨60, _⟩ => ⟨S64x1, .i32⟩
  | .hbm, ⟨61, _⟩ => ⟨S64x4160, .i32⟩
  | .hbm, ⟨62, _⟩ => ⟨S64x4160, .i32⟩
  | .hbm, ⟨63, _⟩ => ⟨S64x4160, .i1⟩
  | .hbm, ⟨64, _⟩ => ⟨S_, .f32⟩
  | .hbm, ⟨65, _⟩ => ⟨S_, .f32⟩
  | .hbm, ⟨66, _⟩ => ⟨S32x8x64x4160, .i1⟩
  | .hbm, ⟨67, _⟩ => ⟨S32x8x64x4160, .f32⟩
  | .hbm, ⟨68, _⟩ => ⟨S32x8x64x4160, .f32⟩
  | .hbm, ⟨69, _⟩ => ⟨S_, .f32⟩
  | .hbm, ⟨70, _⟩ => ⟨S32x8x64, .f32⟩
  | .hbm, ⟨71, _⟩ => ⟨S_, .f32⟩
  | .hbm, ⟨72, _⟩ => ⟨S32x8x64, .f32⟩
  | .hbm, ⟨73, _⟩ => ⟨S32x8x64, .f32⟩
  | .hbm, ⟨74, _⟩ => ⟨S32x8x64x1, .f32⟩
  | .hbm, ⟨75, _⟩ => ⟨S32x8x64x4160, .f32⟩
  | .hbm, ⟨76, _⟩ => ⟨S32x8x64x4160, .f32⟩
  | .hbm, ⟨77, _⟩ => ⟨S32x8x64x4160, .f32⟩
  | .hbm, ⟨78, _⟩ => ⟨S_, .f32⟩
  | .hbm, ⟨79, _⟩ => ⟨S32x8x64, .f32⟩
  | .hbm, ⟨80, _⟩ => ⟨S32x8x64x1, .f32⟩
  | .hbm, ⟨81, _⟩ => ⟨S32x8x64x4160, .f32⟩
  | .hbm, ⟨82, _⟩ => ⟨S32x8x64x4160, .f32⟩
  | .hbm, ⟨83, _⟩ => ⟨S32x256x8x64, .f32⟩
  | .hbm, ⟨84, _⟩ => ⟨S32x64x8x256, .f32⟩
  | .hbm, ⟨85, _⟩ => ⟨S8x64x32x64, .f32⟩
  | .hbm, ⟨86, _⟩ => ⟨S32x64x8x64, .f32⟩
  | .hbm, ⟨87, _⟩ => ⟨S2048x512, .f32⟩
  | .hbm, ⟨88, _⟩ => ⟨S2048x512, .bf16⟩
  | _, _ => ⟨S32x64x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v14 : Ref sig .tc := ⟨.hbm, 40, rfl⟩
abbrev main_v15 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_cst_2 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v21 : Ref sig .tc := ⟨.hbm, 68, rfl⟩
abbrev main_cst_3 : Ref sig .tc := ⟨.hbm, 69, rfl⟩
abbrev main_v22 : Ref sig .tc := ⟨.hbm, 70, rfl⟩
abbrev main_cst_4 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_cst_5 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x512 : Shape := ⟨3, ![8, 2048, 512]⟩
abbrev S8x2x5632 : Shape := ⟨3, ![8, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S4x5632 : Shape := ⟨2, ![4, 5632]⟩
abbrev S16384x1024 : Shape := ⟨2, ![16384, 1024]⟩
abbrev S16384x512 : Shape := ⟨2, ![16384, 512]⟩
abbrev S1x1024 : Shape := ⟨2, ![1, 1024]⟩
abbrev S512x1024 : Shape := ⟨2, ![512, 1024]⟩
abbrev S512x512 : Shape := ⟨2, ![512, 512]⟩
abbrev S1x2x5632 : Shape := ⟨3, ![1, 2, 5632]⟩
abbrev S512x2816 : Shape := ⟨2, ![512, 2816]⟩
abbrev S4x1x520x256 : Shape := ⟨4, ![4, 1, 520, 256]⟩
abbrev S2x5632 : Shape := ⟨2, ![2, 5632]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S2x256 : Shape := ⟨2, ![2, 256]⟩
abbrev S1x1x2x256 : Shape := ⟨4, ![1, 1, 2, 256]⟩
abbrev S1x1x512x256 : Shape := ⟨4, ![1, 1, 512, 256]⟩
abbrev S1x2x256 : Shape := ⟨3, ![1, 2, 256]⟩
abbrev S4x256 : Shape := ⟨2, ![4, 256]⟩
abbrev S1x256 : Shape := ⟨2, ![1, 256]⟩

abbrev nBuf : Space → Nat
  | .hbm => 23
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S1x5632, .f32⟩
  | .hbm, ⟨12, _⟩ => ⟨S4x5632, .f32⟩
  | .hbm, ⟨13, _⟩ => ⟨S16384x1024, .f32⟩
  | .hbm, ⟨14, _⟩ => ⟨S16384x512, .bf16⟩
  | .hbm, ⟨15, _⟩ => ⟨S16384x512, .bf16⟩
  | .hbm, ⟨16, _⟩ => ⟨S1024x1024, .bf16⟩
  | .hbm, ⟨17, _⟩ => ⟨S1x1024, .f32⟩
  | .hbm, ⟨18, _⟩ => ⟨S1024x5632, .bf16⟩
  | .hbm, ⟨19, _⟩ => ⟨S2816x1024, .bf16⟩
  | .hbm, ⟨20, _⟩ => ⟨S1x1024, .f32⟩
  | .hbm, ⟨21, _⟩ => ⟨S16384x1024, .f32⟩
  | .hbm, ⟨22, _⟩ => ⟨S8x2x5632, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x2x5632, .f32⟩
  | .local _ .vmem, ⟨7, _⟩ => ⟨S1x2x5632, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S4x5632, .f32⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x2x5632, .f32⟩
  | .local _ .vmem, ⟨17, _⟩ => ⟨S1x2x5632, .f32⟩
  | .local _ .vmem, ⟨18, _⟩ => ⟨S512x1024, .bf16⟩
  | .local _ .vmem, ⟨19, _⟩ => ⟨S512x2816, .bf16⟩
  | .local _ .vmem, ⟨20, _⟩ => ⟨S4x1x520x256, .f32⟩
  | .local _ .vmem, ⟨21, _⟩ => ⟨S2x5632, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2Ideal.lean ====
abbrev S8x2048x1024 : Shape := ⟨3, ![8, 2048, 1024]⟩
abbrev S8x2048x512 : Shape := ⟨3, ![8, 2048, 512]⟩
abbrev S8x2x5632 : Shape := ⟨3, ![8, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S4x5632 : Shape := ⟨2, ![4, 5632]⟩
abbrev S16384x1024 : Shape := ⟨2, ![16384, 1024]⟩
abbrev S16384x512 : Shape := ⟨2, ![16384, 512]⟩
abbrev S1x1024 : Shape := ⟨2, ![1, 1024]⟩
abbrev S512x1024 : Shape := ⟨2, ![512, 1024]⟩
abbrev S512x512 : Shape := ⟨2, ![512, 512]⟩
abbrev S1x2x5632 : Shape := ⟨3, ![1, 2, 5632]⟩
abbrev S512x2816 : Shape := ⟨2, ![512, 2816]⟩
abbrev S4x1x520x256 : Shape := ⟨4, ![4, 1, 520, 256]⟩
abbrev S2x5632 : Shape := ⟨2, ![2, 5632]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S2x256 : Shape := ⟨2, ![2, 256]⟩
abbrev S1x1x2x256 : Shape := ⟨4, ![1, 1, 2, 256]⟩
abbrev S1x1x512x256 : Shape := ⟨4, ![1, 1, 512, 256]⟩
abbrev S1x2x256 : Shape := ⟨3, ![1, 2, 256]⟩
abbrev S4x256 : Shape := ⟨2, ![4, 256]⟩
abbrev S1x256 : Shape := ⟨2, ![1, 256]⟩

abbrev nBuf : Space → Nat
  | .hbm => 23
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S1x5632, .f32⟩
  | .hbm, ⟨12, _⟩ => ⟨S4x5632, .f32⟩
  | .hbm, ⟨13, _⟩ => ⟨S16384x1024, .f32⟩
  | .hbm, ⟨14, _⟩ => ⟨S16384x512, .bf16⟩
  | .hbm, ⟨15, _⟩ => ⟨S16384x512, .bf16⟩
  | .hbm, ⟨16, _⟩ => ⟨S1024x1024, .bf16⟩
  | .hbm, ⟨17, _⟩ => ⟨S1x1024, .f32⟩
  | .hbm, ⟨18, _⟩ => ⟨S1024x5632, .bf16⟩
  | .hbm, ⟨19, _⟩ => ⟨S2816x1024, .bf16⟩
  | .hbm, ⟨20, _⟩ => ⟨S1x1024, .f32⟩
  | .hbm, ⟨21, _⟩ => ⟨S16384x1024, .f32⟩
  | .hbm, ⟨22, _⟩ => ⟨S8x2x5632, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x2x5632, .f32⟩
  | .local _ .vmem, ⟨7, _⟩ => ⟨S1x2x5632, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S4x5632, .f32⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x2x5632, .f32⟩
  | .local _ .vmem, ⟨17, _⟩ => ⟨S1x2x5632, .f32⟩
  | .local _ .vmem, ⟨18, _⟩ => ⟨S512x1024, .bf16⟩
  | .local _ .vmem, ⟨19, _⟩ => ⟨S512x2816, .bf16⟩
  | .local _ .vmem, ⟨20, _⟩ => ⟨S4x1x520x256, .f32⟩
  | .local _ .vmem, ⟨21, _⟩ => ⟨S2x5632, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8x2048x1024 : Shape := ⟨3, ![8, 2048, 1024]⟩
abbrev S8x2048x512 : Shape := ⟨3, ![8, 2048, 512]⟩
abbrev S8x2x5632 : Shape := ⟨3, ![8, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S16384x1024 : Shape := ⟨2, ![16384, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S8x2048x1024, .bf16⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S8x2048x5632, .f32⟩
  | .hbm, ⟨32, _⟩ => ⟨S8x2050x5632, .f32⟩
  | .hbm, ⟨33, _⟩ => ⟨S1x5632, .f32⟩
  | .hbm, ⟨34, _⟩ => ⟨S5632, .f32⟩
  | .hbm, ⟨35, _⟩ => ⟨S8x2048x5632, .f32⟩
  | .hbm, ⟨36, _⟩ => ⟨S1x1x5632, .f32⟩
  | .hbm, ⟨37, _⟩ => ⟨S8x2048x5632, .f32⟩
  | .hbm, ⟨38, _⟩ => ⟨S8x2048x5632, .f32⟩
  | .hbm, ⟨39, _⟩ => ⟨S_, .f32⟩
  | .hbm, ⟨40, _⟩ => ⟨S8x2048x5632, .f32⟩
  | .hbm, ⟨41, _⟩ => ⟨S8x2048x5632, .f32⟩
  | .hbm, ⟨42, _⟩ => ⟨S1x5632, .f32⟩
  | .hbm, ⟨43, _⟩ => ⟨S5632, .f32⟩
  | .hbm, ⟨44, _⟩ => ⟨S8x2048x5632, .f32⟩
  | .hbm, ⟨45, _⟩ => ⟨S1x1x5632, .f32⟩
  | .hbm, ⟨46, _⟩ => ⟨S8x2048x5632, .f32⟩
  | .hbm, ⟨47, _⟩ => ⟨S8x2048x5632, .f32⟩
  | .hbm, ⟨48, _⟩ => ⟨S8x2048x5632, .f32⟩
  | .hbm, ⟨49, _⟩ => ⟨S1x5632, .f32⟩
  | .hbm, ⟨50, _⟩ => ⟨S5632, .f32⟩
  | .hbm, ⟨51, _⟩ => ⟨S8x2048x5632, .f32⟩
  | .hbm, ⟨52, _⟩ => ⟨S1x1x5632, .f32⟩
  | .hbm, ⟨53, _⟩ => ⟨S8x2048x5632, .f32⟩
  | .hbm, ⟨54, _⟩ => ⟨S8x2048x5632, .f32⟩
  | .hbm, ⟨55, _⟩ => ⟨S8x2048x5632, .f32⟩
  | .hbm, ⟨56, _⟩ => ⟨S1x1x5632, .f32⟩
  | .hbm, ⟨57, _⟩ => ⟨S8x2048x5632, .f32⟩
  | .hbm, ⟨58, _⟩ => ⟨S8x2048x5632, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S8x2048x2816, .f32⟩
  | .hbm, ⟨63, _⟩ => ⟨S_, .f32⟩
  | .hbm, ⟨64, _⟩ => ⟨S8x2048x2816, .f32⟩
  | .hbm, ⟨65, _⟩ => ⟨S8x2048x2816, .f32⟩
  | .hbm, ⟨66, _⟩ => ⟨S_, .f32⟩
  | .hbm, ⟨67, _⟩ => ⟨S8x2048x2816, .f32⟩
  | .hbm, ⟨68, _⟩ => ⟨S8x2048x2816, .f32⟩
  | .hbm, ⟨69, _⟩ => ⟨S8x2048x2816, .f32⟩
  | .hbm, ⟨70, _⟩ => ⟨S8x2048x2816, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S_, .f32⟩
  | .hbm, ⟨81, _⟩ => ⟨S8x2048x1, .f32⟩
  | .hbm, ⟨82, _⟩ => ⟨S8x2048x1, .f32⟩
  | .hbm, ⟨83, _⟩ => ⟨S8x2048x1, .f32⟩
  | .hbm, ⟨84, _⟩ => ⟨S8x2048x1024, .f32⟩
  | .hbm, ⟨85, _⟩ => ⟨S8x2048x1024, .f32⟩
  | .hbm, ⟨86, _⟩ => ⟨S1x1x1024, .f32⟩
  | .hbm, ⟨87, _⟩ => ⟨S8x2048x1024, .f32⟩
  | .hbm, ⟨88, _⟩ => ⟨S8x2048x1024, .f32⟩
  | .hbm, ⟨89, _⟩ => ⟨S16384x1024, .f32⟩
  | .hbm, ⟨90, _⟩ => ⟨S8x2x5632, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_3 : Ref sig .tc := ⟨.hbm, 74, rfl⟩
abbrev main_v51 : Ref sig .tc := ⟨.hbm, 75, rfl⟩
abbrev main_v52 : Ref sig .tc := ⟨.hbm, 76, rfl⟩
abbrev main_cst_4 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Kernel3.lean ====
abbrev S32x64x1024 : Shape := ⟨3, ![32, 64, 1024]⟩
abbrev S32x64x512 : Shape := ⟨3, ![32, 64, 512]⟩
abbrev S32x2x5632 : Shape := ⟨3, ![32, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S4x5632 : Shape := ⟨2, ![4, 5632]⟩
abbrev S2048x1024 : Shape := ⟨2, ![2048, 1024]⟩
abbrev S2048x512 : Shape := ⟨2, ![2048, 512]⟩
abbrev S1x1024 : Shape := ⟨2, ![1, 1024]⟩
abbrev S512x1024 : Shape := ⟨2, ![512, 1024]⟩
abbrev S512x512 : Shape := ⟨2, ![512, 512]⟩
abbrev S8x2x5632 : Shape := ⟨3, ![8, 2, 5632]⟩
abbrev S512x2816 : Shape := ⟨2, ![512, 2816]⟩
abbrev S4x8x72x256 : Shape := ⟨4, ![4, 8, 72, 256]⟩
abbrev S2x5632 : Shape := ⟨2, ![2, 5632]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x2x256 : Shape := ⟨3, ![1, 2, 256]⟩
abbrev S2x256 : Shape := ⟨2, ![2, 256]⟩
abbrev S1x1x2x256 : Shape := ⟨4, ![1, 1, 2, 256]⟩
abbrev S64x256 : Shape := ⟨2, ![64, 256]⟩
abbrev S1x1x64x256 : Shape := ⟨4, ![1, 1, 64, 256]⟩
abbrev S4x256 : Shape := ⟨2, ![4, 256]⟩
abbrev S1x256 : Shape := ⟨2, ![1, 256]⟩

abbrev nBuf : Space → Nat
  | .hbm => 23
  | .vmem => 22
  | .smem => 0
  | _ => 0

abbrev bufTy : (tb : Table) → Fin (tcTables nBuf tb) → BufTy
  | .hbm, ⟨0, _⟩ => ⟨S32x64x1024, .f32⟩
  | .hbm, ⟨1, _⟩ => ⟨S32x64x512, .bf16⟩
  | .hbm, ⟨2, _⟩ => ⟨S32x64x512, .bf16⟩
  | .hbm, ⟨3, _⟩ => ⟨S32x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S1x5632, .f32⟩
  | .hbm, ⟨12, _⟩ => ⟨S4x5632, .f32⟩
  | .hbm, ⟨13, _⟩ => ⟨S2048x1024, .f32⟩
  | .hbm, ⟨14, _⟩ => ⟨S2048x512, .bf16⟩
  | .hbm, ⟨15, _⟩ => ⟨S2048x512, .bf16⟩
  | .hbm, ⟨16, _⟩ => ⟨S1024x1024, .bf16⟩
  | .hbm, ⟨17, _⟩ => ⟨S1x1024, .f32⟩
  | .hbm, ⟨18, _⟩ => ⟨S1024x5632, .bf16⟩
  | .hbm, ⟨19, _⟩ => ⟨S2816x1024, .bf16⟩
  | .hbm, ⟨20, _⟩ => ⟨S1x1024, .f32⟩
  | .hbm, ⟨21, _⟩ => ⟨S2048x1024, .f32⟩
  | .hbm, ⟨22, _⟩ => ⟨S32x2x5632, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S8x2x5632, .f32⟩
  | .local _ .vmem, ⟨7, _⟩ => ⟨S8x2x5632, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S4x5632, .f32⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S8x2x5632, .f32⟩
  | .local _ .vmem, ⟨17, _⟩ => ⟨S8x2x5632, .f32⟩
  | .local _ .vmem, ⟨18, _⟩ => ⟨S512x1024, .bf16⟩
  | .local _ .vmem, ⟨19, _⟩ => ⟨S512x2816, .bf16⟩
  | .local _ .vmem, ⟨20, _⟩ => ⟨S4x8x72x256, .f32⟩
  | .local _ .vmem, ⟨21, _⟩ => ⟨S2x5632, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x2x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32x64x1024 : Shape := ⟨3, ![32, 64, 1024]⟩
abbrev S32x64x512 : Shape := ⟨3, ![32, 64, 512]⟩
abbrev S32x2x5632 : Shape := ⟨3, ![32, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S32x64x5632 : Shape := ⟨3, ![32, 64, 5632]⟩
abbrev S32x66x5632 : Shape := ⟨3, ![32, 66, 5632]⟩
abbrev S1x5632 : Shape := ⟨2, ![1, 5632]⟩
abbrev S1x1x5632 : Shape := ⟨3, ![1, 1, 5632]⟩
abbrev S32x64x2816 : Shape := ⟨3, ![32, 64, 2816]⟩
abbrev S2048x1024 : Shape := ⟨2, ![2048, 1024]⟩

abbrev nBuf : Space → Nat
  | .hbm => 91
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x64x512, .bf16⟩
  | .hbm, ⟨2, _⟩ => ⟨S32x64x512, .bf16⟩
  | .hbm, ⟨3, _⟩ => ⟨S32x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S32x64x1024, .bf16⟩
  | .hbm, ⟨12, _⟩ => ⟨S32x64x1024, .f32⟩
  | .hbm, ⟨13, _⟩ => ⟨S32x64x1024, .f32⟩
  | .hbm, ⟨14, _⟩ => ⟨S32x64x1024, .f32⟩
  | .hbm, ⟨15, _⟩ => ⟨S32x64x1024, .f32⟩
  | .hbm, ⟨16, _⟩ => ⟨S_, .f32⟩
  | .hbm, ⟨17, _⟩ => ⟨S32x64, .f32⟩
  | .hbm, ⟨18, _⟩ => ⟨S32x64x1, .f32⟩
  | .hbm, ⟨19, _⟩ => ⟨S_, .f32⟩
  | .hbm, ⟨20, _⟩ => ⟨S32x64x1, .f32⟩
  | .hbm, ⟨21, _⟩ => ⟨S32x64x1, .f32⟩
  | .hbm, ⟨22, _⟩ => ⟨S_, .f32⟩
  | .hbm, ⟨23, _⟩ => ⟨S32x64x1, .f32⟩
  | .hbm, ⟨24, _⟩ => ⟨S32x64x1, .f32⟩
  | .hbm, ⟨25, _⟩ => ⟨S32x64x1, .f32⟩
  | .hbm, ⟨26, _⟩ => ⟨S32x64x1024, .f32⟩
  | .hbm, ⟨27, _⟩ => ⟨S32x64x1024, .f32⟩
  | .hbm, ⟨28, _⟩ => ⟨S1x1x1024, .f32⟩
  | .hbm, ⟨29, _⟩ => ⟨S32x64x1024, .f32⟩
  | .hbm, ⟨30, _⟩ => ⟨S32x64x1024, .f32⟩
  | .hbm, ⟨31, _⟩ => ⟨S32x64x5632, .f32⟩
  | .hbm, ⟨32, _⟩ => ⟨S32x66x5632, .f32⟩
  | .hbm, ⟨33, _⟩ => ⟨S1x5632, .f32⟩
  | .hbm, ⟨34, _⟩ => ⟨S5632, .f32⟩
  | .hbm, ⟨35, _⟩ => ⟨S32x64x5632, .f32⟩
  | .hbm, ⟨36, _⟩ => ⟨S1x1x5632, .f32⟩
  | .hbm, ⟨37, _⟩ => ⟨S32x64x5632, .f32⟩
  | .hbm, ⟨38, _⟩ => ⟨S32x64x5632, .f32⟩
  | .hbm, ⟨39, _⟩ => ⟨S_, .f32⟩
  | .hbm, ⟨40, _⟩ => ⟨S32x64x5632, .f32⟩
  | .hbm, ⟨41, _⟩ => ⟨S32x64x5632, .f32⟩
  | .hbm, ⟨42, _⟩ => ⟨S1x5632, .f32⟩
  | .hbm, ⟨43, _⟩ => ⟨S5632, .f32⟩
  | .hbm, ⟨44, _⟩ => ⟨S32x64x5632, .f32⟩
  | .hbm, ⟨45, _⟩ => ⟨S1x1x5632, .f32⟩
  | .hbm, ⟨46, _⟩ => ⟨S32x64x5632, .f32⟩
  | .hbm, ⟨47, _⟩ => ⟨S32x64x5632, .f32⟩
  | .hbm, ⟨48, _⟩ => ⟨S32x64x5632, .f32⟩
  | .hbm, ⟨49, _⟩ => ⟨S1x5632, .f32⟩
  | .hbm, ⟨50, _⟩ => ⟨S5632, .f32⟩
  | .hbm, ⟨51, _⟩ => ⟨S32x64x5632, .f32⟩
  | .hbm, ⟨52, _⟩ => ⟨S1x1x5632, .f32⟩
  | .hbm, ⟨53, _⟩ => ⟨S32x64x5632, .f32⟩
  | .hbm, ⟨54, _⟩ => ⟨S32x64x5632, .f32⟩
  | .hbm, ⟨55, _⟩ => ⟨S32x64x5632, .f32⟩
  | .hbm, ⟨56, _⟩ => ⟨S1x1x5632, .f32⟩
  | .hbm, ⟨57, _⟩ => ⟨S32x64x5632, .f32⟩
  | .hbm, ⟨58, _⟩ => ⟨S32x64x5632, .f32⟩
  | .hbm, ⟨59, _⟩ => ⟨S32x64x2816, .f32⟩
  | .hbm, ⟨60, _⟩ => ⟨S32x64x2816, .f32⟩
  | .hbm, ⟨61, _⟩ => ⟨S32x64x2816, .f32⟩
  | .hbm, ⟨62, _⟩ => ⟨S32x64x2816, .f32⟩
  | .hbm, ⟨63, _⟩ => ⟨S_, .f32⟩
  | .hbm, ⟨64, _⟩ => ⟨S32x64x2816, .f32⟩
  | .hbm, ⟨65, _⟩ => ⟨S32x64x2816, .f32⟩
  | .hbm, ⟨66, _⟩ => ⟨S_, .f32⟩
  | .hbm, ⟨67, _⟩ => ⟨S32x64x2816, .f32⟩
  | .hbm, ⟨68, _⟩ => ⟨S32x64x2816, .f32⟩
  | .hbm, ⟨69, _⟩ => ⟨S32x64x2816, .f32⟩
  | .hbm, ⟨70, _⟩ => ⟨S32x64x2816, .f32⟩
  | .hbm, ⟨71, _⟩ => ⟨S32x64x1024, .f32⟩
  | .hbm, ⟨72, _⟩ => ⟨S32x64x1024, .f32⟩
  | .hbm, ⟨73, _⟩ => ⟨S32x64x1024, .f32⟩
  | .hbm, ⟨74, _⟩ => ⟨S_, .f32⟩
  | .hbm, ⟨75, _⟩ => ⟨S32x64, .f32⟩
  | .hbm, ⟨76, _⟩ => ⟨S32x64x1, .f32⟩
  | .hbm, ⟨77, _⟩ => ⟨S_, .f32⟩
  | .hbm, ⟨78, _⟩ => ⟨S32x64x1, .f32⟩
  | .hbm, ⟨79, _⟩ => ⟨S32x64x1, .f32⟩
  | .hbm, ⟨80, _⟩ => ⟨S_, .f32⟩
  | .hbm, ⟨81, _⟩ => ⟨S32x64x1, .f32⟩
  | .hbm, ⟨82, _⟩ => ⟨S32x64x1, .f32⟩
  | .hbm, ⟨83, _⟩ => ⟨S32x64x1, .f32⟩
  | .hbm, ⟨84, _⟩ => ⟨S32x64x1024, .f32⟩
  | .hbm, ⟨85, _⟩ => ⟨S32x64x1024, .f32⟩
  | .hbm, ⟨86, _⟩ => ⟨S1x1x1024, .f32⟩
  | .hbm, ⟨87, _⟩ => ⟨S32x64x1024, .f32⟩
  | .hbm, ⟨88, _⟩ => ⟨S32x64x1024, .f32⟩
  | .hbm, ⟨89, _⟩ => ⟨S2048x1024, .f32⟩
  | .hbm, ⟨90, _⟩ => ⟨S32x2x5632, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_3 : Ref sig .tc := ⟨.hbm, 74, rfl⟩
abbrev main_v51 : Ref sig .tc := ⟨.hbm, 75, rfl⟩
abbrev main_v52 : Ref sig .tc := ⟨.hbm, 76, rfl⟩
abbrev main_cst_4 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Kernel4.lean ====
abbrev S10 : Shape := ⟨1, ![10]⟩
abbrev S16384x1024 : Shape := ⟨2, ![16384, 1024]⟩
abbrev S16384x512 : Shape := ⟨2, ![16384, 512]⟩
abbrev S512x1024 : Shape := ⟨2, ![512, 1024]⟩
abbrev S1 : Shape := ⟨1, ![1]⟩
abbrev S512x512 : Shape := ⟨2, ![512, 512]⟩
abbrev S8x512x256 : Shape := ⟨3, ![8, 512, 256]⟩
abbrev S8x512x128 : Shape := ⟨3, ![8, 512, 128]⟩
abbrev S4x512x128 : Shape := ⟨3, ![4, 512, 128]⟩
abbrev S512x256 : Shape := ⟨2, ![512, 256]⟩
abbrev S1x512x256 : Shape := ⟨3, ![1, 512, 256]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S256x256 : Shape := ⟨2, ![256, 256]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 4
  | .vmem => 12
  | .smem => 2
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S8x512x256, .bf16⟩
  | .local _ .vmem, ⟨9, _⟩ => ⟨S8x512x128, .f32⟩
  | .local _ .vmem, ⟨10, _⟩ => ⟨S8x512x128, .f32⟩
  | .local _ .vmem, ⟨11, _⟩ => ⟨S4x512x128, .f32⟩
  | .local _ .smem, ⟨0, _⟩ => ⟨S10, .i32⟩
  | .local _ .smem, ⟨1, _⟩ => ⟨S10, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 10], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_cond6 (v1 : BitVec 32) (v3 : BitVec 32) : BitVec 1 :=
  let v25 : BitVec 1 := Scalar.cmpi .eq v3 v1
  let v26 : BitVec 32 := Scalar.extui v25
  let c0_i32_7 : BitVec 32 := 0#32
  let v27 : BitVec 1 := Scalar.cmpi .ne v26 c0_i32_7
  v27

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : Index := Scalar.indexCast arg1
  let v2 : BitVec 32 := pf.at 0 (Rect.unit (s := S10) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : Index := Scalar.indexCast arg1
  let v2 : BitVec 32 := pf.at 1 (Rect.unit (s := S10) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : Index := Scalar.indexCast arg1
  let v2 : BitVec 32 := pf.at 1 (Rect.unit (s := S10) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : Index := Scalar.indexCast arg1
  let v2 : BitVec 32 := pf.at 0 (Rect.unit (s := S10) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S10 : Shape := ⟨1, ![10]⟩
abbrev S16384x1024 : Shape := ⟨2, ![16384, 1024]⟩
abbrev S16384x512 : Shape := ⟨2, ![16384, 512]⟩
abbrev S8x2048x8x128 : Shape := ⟨4, ![8, 2048, 8, 128]⟩
abbrev S8x2048x8x64 : Shape := ⟨4, ![8, 2048, 8, 64]⟩
abbrev S2048 : Shape := ⟨1, ![2048]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 81
  | .vmem => 0
  | .smem => 0
  | _ => 0

abbrev bufTy : (tb : Table) → Fin (tcTables nBuf tb) → BufTy
  | .hbm, ⟨0, _⟩ => ⟨S10, .i32⟩
  | .hbm, ⟨1, _⟩ => ⟨S10, .i32⟩
  | .hbm, ⟨2, _⟩ => ⟨S16384x1024, .bf16⟩
  | .hbm, ⟨3, _⟩ => ⟨S16384x1024, .bf16⟩
  | .hbm, ⟨4, _⟩ => ⟨S16384x512, .bf16⟩
  | .hbm, ⟨5, _⟩ => ⟨S16384x1024, .f32⟩
  | .hbm, ⟨6, _⟩ => ⟨S8x2048x8x128, .f32⟩
  | .hbm, ⟨7, _⟩ => ⟨S16384x1024, .f32⟩
  | .hbm, ⟨8, _⟩ => ⟨S8x2048x8x128, .f32⟩
  | .hbm, ⟨9, _⟩ => ⟨S16384x512, .f32⟩
  | .hbm, ⟨10, _⟩ => ⟨S8x2048x8x64, .f32⟩
  | .hbm, ⟨11, _⟩ => ⟨S2048, .i32⟩
  | .hbm, ⟨12, _⟩ => ⟨S8x8x2048x2048, .f32⟩
  | .hbm, ⟨13, _⟩ => ⟨S_, .f32⟩
  | .hbm, ⟨14, _⟩ => ⟨S_, .f32⟩
  | .hbm, ⟨15, _⟩ => ⟨S8x8x2048x2048, .f32⟩
  | .hbm, ⟨16, _⟩ => ⟨S8x8x2048x2048, .f32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S1x2048, .i32⟩
  | .hbm, ⟨36, _⟩ => ⟨S_, .i32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S2048, .i1⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S2048, .i32⟩
  | .hbm, ⟨54, _⟩ => ⟨S2048x1, .i32⟩
  | .hbm, ⟨55, _⟩ => ⟨S2048x2048, .i32⟩
  | .hbm, ⟨56, _⟩ => ⟨S2048x2048, .i32⟩
  | .hbm, ⟨57, _⟩ => ⟨S2048x2048, .i1⟩
  | .hbm, ⟨58, _⟩ => ⟨S_, .f32⟩
  | .hbm, ⟨59, _⟩ => ⟨S_, .f32⟩
  | .hbm, ⟨60, _⟩ => ⟨S8x8x2048x2048, .i1⟩
  | .hbm, ⟨61, _⟩ => ⟨S8x8x2048x2048, .f32⟩
  | .hbm, ⟨62, _⟩ => ⟨S8x8x2048x2048, .f32⟩
  | .hbm, ⟨63, _⟩ => ⟨S_, .f32⟩
  | .hbm, ⟨64, _⟩ => ⟨S8x8x2048, .f32⟩
  | .hbm, ⟨65, _⟩ => ⟨S_, .f32⟩
  | .hbm, ⟨66, _⟩ => ⟨S8x8x2048, .f32⟩
  | .hbm, ⟨67, _⟩ => ⟨S8x8x2048, .f32⟩
  | .hbm, ⟨68, _⟩ => ⟨S8x8x2048x1, .f32⟩
  | .hbm, ⟨69, _⟩ => ⟨S8x8x2048x2048, .f32⟩
  | .hbm, ⟨70, _⟩ => ⟨S8x8x2048x2048, .f32⟩
  | .hbm, ⟨71, _⟩ => ⟨S8x8x2048x2048, .f32⟩
  | .hbm, ⟨72, _⟩ => ⟨S_, .f32⟩
  | .hbm, ⟨73, _⟩ => ⟨S8x8x2048, .f32⟩
  | .hbm, ⟨74, _⟩ => ⟨S8x8x2048x1, .f32⟩
  | .hbm, ⟨75, _⟩ => ⟨S8x8x2048x2048, .f32⟩
  | .hbm, ⟨76, _⟩ => ⟨S8x8x2048x2048, .f32⟩
  | .hbm, ⟨77, _⟩ => ⟨S8x8x64x2048, .f32⟩
  | .hbm, ⟨78, _⟩ => ⟨S8x2048x8x64, .f32⟩
  | .hbm, ⟨79, _⟩ => ⟨S16384x512, .f32⟩
  | .hbm, ⟨80, _⟩ => ⟨S16384x512, .bf16⟩
  | _, _ => ⟨S10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v11 : Ref sig .tc := ⟨.hbm, 34, rfl⟩
abbrev main_v12 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_cst_3 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩

abbrev nD : Nat := 1
abbrev τ : Topo := Topo.v7x

variable {F : FTy → Type} [FloatOps F]
-- ==== Proof.Host.lean ====
module

public import proofs.«01_k».proof.Proof.Gen.KernelIdeal.Value
public import Idealize.ShloMosaic.Lib.Pointwise
public import Idealize.ShloMosaic.Lib.Claim

@[expose] public section

set_option maxRecDepth 16384

noncomputable section

/-! # The arrays the host prepares, at an index -/

namespace Cert.KernelIdeal.Host

open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ) (c : Dev nD)

/-- The scale of the scores: the inverse of `√96 · log 2`. -/
def scale : ℝ := (√96)⁻¹ * (Real.log 2)⁻¹

theorem scale_eq : Ideal.div 1 (Ideal.sqrt (Ideal.ofBits FTy.f32 1119879168#32)
    * Ideal.log (Ideal.ofBits FTy.f32 1073741824#32)) = ((scale : ℝ) : EReal) := by
  have h1 : Ideal.ofBits FTy.f32 1119879168#32 = ((96 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  have h3 : (√96 * Real.log 2 : ℝ) ≠ 0 := by positivity
  rw [h1, h2, Ideal.sqrt_coe, Ideal.log_coe, if_neg (by norm_num), if_neg (by norm_num), ← EReal.coe_mul,
    Ideal.div_coe h3, one_mul, scale, one_div, mul_inv]

/-- The arguments as arrays of extended reals. -/
def qLat (i : S32x64x8x256.Idx) : EReal := m (c, Proc.tc.devRef main_arg0) i
def qRope (i : S32x64x8x32.Idx) : EReal := m (c, Proc.tc.devRef main_arg1) i
def cNew (i : S32x64x256.Idx) : EReal := m (c, Proc.tc.devRef main_arg2) i
def krNew (i : S32x64x32.Idx) : EReal := m (c, Proc.tc.devRef main_arg3) i
def cOld (i : S32x4096x256.Idx) : EReal := m (c, Proc.tc.devRef main_arg4) i
def krOld (i : S32x4096x32.Idx) : EReal := m (c, Proc.tc.devRef main_arg5) i
def wUv (i : S256x8x64.Idx) : EReal := m (c, Proc.tc.devRef main_arg6) i

theorem v8 (h : Fin 8) (r : Fin 2048) (k : Fin 256) : V m c main_v8 (ix3 h r k)
    = qLat m c (ix4 ⟨r.val / 64, by omega⟩ ⟨r.val % 64, by omega⟩ h k) * ((scale : ℝ) : EReal) := by
  entry_read
  pointwise
  rw [scale_eq]
  rfl

theorem v12 (r : Fin 2048) (k : Fin 256) : V m c main_v12 (ix2 r k)
    = qRope m c (ix4 ⟨r.val / 64, by omega⟩ ⟨r.val % 64, by omega⟩ ⟨k.val / 32, by omega⟩
        ⟨k.val % 32, by omega⟩) * ((scale : ℝ) : EReal) := by
  entry_read
  pointwise
  rw [scale_eq]
  rfl

theorem v19_new (r : Fin 2048) (k : Fin 256) : V m c main_v19 (ix2 r ⟨k, by omega⟩)
    = cNew m c (ix3 ⟨r.val / 64, by omega⟩ ⟨r.val % 64, by omega⟩ k) := by
  rw [cNew]
  entry_read
  pointwise

theorem v19_rope (r : Fin 2048) (d : Fin 32) : V m c main_v19 (ix2 r ⟨256 + d, by omega⟩)
    = krNew m c (ix3 ⟨r.val / 64, by omega⟩ ⟨r.val % 64, by omega⟩ d) := by
  have hd : (⟨d.val % 32, by omega⟩ : Fin 32) = d := Fin.ext (Nat.mod_eq_of_lt d.isLt)
  entry_read
  pointwise
  exact congrArg (fun x => krNew m c (ix3 ⟨r.val / 64, by omega⟩ ⟨r.val % 64, by omega⟩ x)) hd

theorem v20 (b : Fin 32) (d : Fin 32) (k : Fin 4096) :
    V m c main_v20 (ix3 b d k) = krOld m c (ix3 b k d) := by
  rw [krOld]
  entry_read
  pointwise

theorem same (a b : ℕ) (ha : a < 4) (hb : b < 4) : (FloatOps.uitofp FTy.f32
    (IntOp.cmpi CmpIPredicate.eq (IntOp.addi (BitVec.ofNat 32 a) 0#32) (BitVec.ofNat 32 b)) : Ideal FTy.f32)
    = if a = b then (1 : EReal) else 0 := by
  have : ∀ a b : Fin 4, (FloatOps.uitofp FTy.f32
    (IntOp.cmpi CmpIPredicate.eq (IntOp.addi (BitVec.ofNat 32 a) 0#32) (BitVec.ofNat 32 b)) : Ideal FTy.f32)
    = if a.val = b.val then (1 : EReal) else 0 := by
    intro a b
    fin_cases a <;> fin_cases b <;> simp [FloatOps.uitofp, IntOp.cmpi, IntOp.addi]
  exact this ⟨a, ha⟩ ⟨b, hb⟩

theorem v34 (h : Fin 8) (k : Fin 256) (j : Fin 4) (v : Fin 64) : V m c main_v34 (ix3 h k ⟨64 * j + v, by omega⟩)
    = if h.val % 4 = j.val then wUv m c (ix3 k h v) else 0 := by
  have hh : (⟨h.val / 4 * 4 + h.val % 4, by omega⟩ : Fin 8) = h := Fin.ext (by simp only []; omega)
  have hv : (⟨(64 * j.val + v.val) % 64, by omega⟩ : Fin 64) = v := Fin.ext (by simp only []; omega)
  have hj : (64 * j.val + v.val) / 64 = j.val := by omega
  have he := same (h.val % 4) j.val (by omega) (by omega)
  entry_read
  pointwise
  simp only [hj]
  refine (congrArg₂ (fun x y => wUv m c (ix3 k x y) * _) hh hv).trans ((congrArg (wUv m c (ix3 k h v) * ·) he).trans ?_)
  show wUv m c (ix3 k h v) * (if h.val % 4 = j.val then (1 : EReal) else 0) = _
  split_ifs
  · exact mul_one _
  · exact mul_zero _

end Cert.KernelIdeal.Host
-- ==== Proof.Blocks.lean ====
module

public import proofs.«01_k».proof.Proof.Host
public import Idealize.ShloMosaic.Lib.Pipeline.ValueKit.Geometry
public import Idealize.ShloMosaic.Lib.Pipeline.ValueKit.Point

@[expose] public section

set_option maxRecDepth 16384

noncomputable section

/-! # The blocks of a grid point, read at an index -/

namespace Cert.KernelIdeal.Host

open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ) (c : Dev nD)

theorem points (t : Fin cfg0.N) : t.val < 32 := t.isLt

theorem idx : ∀ t : Fin cfg0.N, win0_0.index t = ![0, t.val, 0] ∧ win0_1.index t = ![t.val, 0]
    ∧ win0_2.index t = ![t.val, 0] ∧ win0_3.index t = ![t.val, 0, 0] ∧ win0_4.index t = ![t.val, 0, 0]
    ∧ win0_5.index t = ![0, 0, 0] ∧ win0_6.index t = ![t.val, 0] :=
  (by decide +kernel : ∀ t : Fin grid0.N, _)

variable (t : Fin cfg0.N)

/-- The batch a grid point works on. -/
def bat : Fin 32 := ⟨t.val, points t⟩

theorem row_div (q : Fin 64) : (64 * t.val + q.val) / 64 = t.val := by omega
theorem row_mod (q : Fin 64) : (64 * t.val + q.val) % 64 = q.val := by omega

theorem b0 (h : Fin 8) (q : Fin 64) (k : Fin 256) :
    iblk m c 0 t (ix3 h q k) = qLat m c (ix4 (bat t) q h k) * ((scale : ℝ) : EReal) := by
  have hp := points t
  have e : iblk m c 0 t (ix3 h q k) = V m c main_v8 (ix3 h ⟨64 * t.val + q.val, by omega⟩ k) := by
    blk_ext [iblk, V, idx t]
  rw [e, v8]
  simp only [row_div, row_mod]
  rfl

theorem b1 (q : Fin 64) (h : Fin 8) (d : Fin 32) :
    iblk m c 1 t (ix2 q ⟨32 * h.val + d.val, by omega⟩) = qRope m c (ix4 (bat t) q h d) * ((scale : ℝ) : EReal) := by
  have hp := points t
  have e : iblk m c 1 t (ix2 q ⟨32 * h.val + d.val, by omega⟩)
      = V m c main_v12 (ix2 ⟨64 * t.val + q.val, by omega⟩ ⟨32 * h.val + d.val, by omega⟩) := by
    blk_ext [iblk, V, idx t]
  have h1 : (32 * h.val + d.val) / 32 = h.val := by omega
  have h2 : (32 * h.val + d.val) % 32 = d.val := by omega
  rw [e, v12]
  simp only [row_div, row_mod, h1, h2]
  rfl

theorem b2_new (k : Fin 64) (e : Fin 256) :
    iblk m c 2 t (ix2 k ⟨e.val, by omega⟩) = cNew m c (ix3 (bat t) k e) := by
  have hp := points t
  have e : iblk m c 2 t (ix2 k ⟨e.val, by omega⟩)
      = V m c main_v19 (ix2 ⟨64 * t.val + k.val, by omega⟩ ⟨e.val, by omega⟩) := by
    blk_ext [iblk, V, idx t]
  rw [e, v19_new]
  simp only [row_div, row_mod]
  rfl

theorem b2_rope (k : Fin 64) (d : Fin 32) :
    iblk m c 2 t (ix2 k ⟨256 + d.val, by omega⟩) = krNew m c (ix3 (bat t) k d) := by
  have hp := points t
  have e : iblk m c 2 t (ix2 k ⟨256 + d.val, by omega⟩)
      = V m c main_v19 (ix2 ⟨64 * t.val + k.val, by omega⟩ ⟨256 + d.val, by omega⟩) := by
    blk_ext [iblk, V, idx t]
  rw [e, v19_rope]
  simp only [row_div, row_mod]
  rfl

theorem b3 (k : Fin 4096) (e : Fin 256) : iblk m c 3 t (ix3 0 k e) = cOld m c (ix3 (bat t) k e) := by
  have e : iblk m c 3 t (ix3 0 k e) = V m c main_arg4 (ix3 (bat t) k e) := by
    blk_ext [iblk, V, idx t, bat]
  rw [e, V_main_arg4]
  rfl

theorem b4 (d : Fin 32) (k : Fin 4096) : iblk m c 4 t (ix3 0 d k) = krOld m c (ix3 (bat t) k d) := by
  have e : iblk m c 4 t (ix3 0 d k) = V m c main_v20 (ix3 (bat t) d k) := by
    blk_ext [iblk, V, idx t, bat]
  rw [e, v20]

theorem b5 (h : Fin 8) (e : Fin 256) (j : Fin 4) (v : Fin 64) :
    iblk m c 5 t (ix3 h e ⟨64 * j.val + v.val, by omega⟩)
      = if h.val % 4 = j.val then wUv m c (ix3 e h v) else 0 := by
  have e : iblk m c 5 t (ix3 h e ⟨64 * j.val + v.val, by omega⟩)
      = V m c main_v34 (ix3 h e ⟨64 * j.val + v.val, by omega⟩) := by
    blk_ext [iblk, V, idx t]
  rw [e, v34]

end Cert.KernelIdeal.Host
-- ==== Proof.Open.lean ====
module

public import proofs.«01_k».proof.Proof.Gen.KernelIdeal.Value

@[expose] public section

set_option maxRecDepth 16384

noncomputable section

namespace Cert.KernelIdeal.Block

open Idealize.ShloMosaic Idealize.ShloMosaic.TcCoe Idealize.ShloMosaic.Tactic
open Idealize.SL Idealize.SL.Sem
open Idealize.ShloMosaic.Pipeline (Dat Cfg Window cellOf)
open Cert.KernelIdeal Cert.KernelIdeal.Gen

variable {F : FTy → Type} [FloatOps F]

/-! ## The body's state, stage by stage

The body of one grid point, over its six input blocks: queries `x0` (latent part, head by head), `x1` (rotary part, the
heads side by side), the new keys `x2`, the cached latents `x3`, the cached rotary keys `x4` (transposed) and the padded
value projections `x5`. Rows are (head, query) pairs: row `64·h + q`. -/

/-- The latent queries stacked head by head: what the body's eight stores leave in its first scratch. -/
def qs (x0 : Vec F S8x64x256 .bf16) : List (View.Piece (Elt F) S512x256 .bf16) :=
  [⟨Rect.unit ![448, 0] S64x256.size inb_S512x256_S64x256_448_0, shapeCast S64x256 (shapeCast S64x256 (View.ld x0 (Rect.unit ![7, 0, 0] S1x64x256.size inb_S8x64x256_S1x64x256_7_0_0)) shapeCasts_S1x64x256_S64x256) shapeCasts_S64x256_S64x256⟩,
   ⟨Rect.unit ![384, 0] S64x256.size inb_S512x256_S64x256_384_0, shapeCast S64x256 (shapeCast S64x256 (View.ld x0 (Rect.unit ![6, 0, 0] S1x64x256.size inb_S8x64x256_S1x64x256_6_0_0)) shapeCasts_S1x64x256_S64x256) shapeCasts_S64x256_S64x256⟩,
   ⟨Rect.unit ![320, 0] S64x256.size inb_S512x256_S64x256_320_0, shapeCast S64x256 (shapeCast S64x256 (View.ld x0 (Rect.unit ![5, 0, 0] S1x64x256.size inb_S8x64x256_S1x64x256_5_0_0)) shapeCasts_S1x64x256_S64x256) shapeCasts_S64x256_S64x256⟩,
   ⟨Rect.unit ![256, 0] S64x256.size inb_S512x256_S64x256_256_0, shapeCast S64x256 (shapeCast S64x256 (View.ld x0 (Rect.unit ![4, 0, 0] S1x64x256.size inb_S8x64x256_S1x64x256_4_0_0)) shapeCasts_S1x64x256_S64x256) shapeCasts_S64x256_S64x256⟩,
   ⟨Rect.unit ![192, 0] S64x256.size inb_S512x256_S64x256_192_0, shapeCast S64x256 (shapeCast S64x256 (View.ld x0 (Rect.unit ![3, 0, 0] S1x64x256.size inb_S8x64x256_S1x64x256_3_0_0)) shapeCasts_S1x64x256_S64x256) shapeCasts_S64x256_S64x256⟩,
   ⟨Rect.unit ![128, 0] S64x256.size inb_S512x256_S64x256_128_0, shapeCast S64x256 (shapeCast S64x256 (View.ld x0 (Rect.unit ![2, 0, 0] S1x64x256.size inb_S8x64x256_S1x64x256_2_0_0)) shapeCasts_S1x64x256_S64x256) shapeCasts_S64x256_S64x256⟩,
   ⟨Rect.unit ![64, 0] S64x256.size inb_S512x256_S64x256_64_0, shapeCast S64x256 (shapeCast S64x256 (View.ld x0 (Rect.unit ![1, 0, 0] S1x64x256.size inb_S8x64x256_S1x64x256_1_0_0)) shapeCasts_S1x64x256_S64x256) shapeCasts_S64x256_S64x256⟩,
   ⟨Rect.unit ![0, 0] S64x256.size inb_S512x256_S64x256_0_0, shapeCast S64x256 (shapeCast S64x256 (View.ld x0 (Rect.unit ![0, 0, 0] S1x64x256.size inb_S8x64x256_S1x64x256_0_0_0)) shapeCasts_S1x64x256_S64x256) shapeCasts_S64x256_S64x256⟩]

/-- The rotary queries stacked head by head: what the body's eight stores leave in its second scratch. -/
def rs (x1 : Vec F S64x256 .bf16) : List (View.Piece (Elt F) S512x32 .bf16) :=
  let q := shapeCast S64x256 (View.ld x1 (Rect.unit ![0, 0] S64x256.size inb_S64x256_S64x256_0_0)) shapeCasts_S64x256_S64x256;
   [⟨Rect.unit ![448, 0] S64x32.size inb_S512x32_S64x32_448_0, shapeCast S64x32 (extractStridedSlice S64x32 ![0, 224] q slices_S64x256_o0_224_S64x32) shapeCasts_S64x32_S64x32⟩,
    ⟨Rect.unit ![384, 0] S64x32.size inb_S512x32_S64x32_384_0, shapeCast S64x32 (extractStridedSlice S64x32 ![0, 192] q slices_S64x256_o0_192_S64x32) shapeCasts_S64x32_S64x32⟩,
    ⟨Rect.unit ![320, 0] S64x32.size inb_S512x32_S64x32_320_0, shapeCast S64x32 (extractStridedSlice S64x32 ![0, 160] q slices_S64x256_o0_160_S64x32) shapeCasts_S64x32_S64x32⟩,
    ⟨Rect.unit ![256, 0] S64x32.size inb_S512x32_S64x32_256_0, shapeCast S64x32 (extractStridedSlice S64x32 ![0, 128] q slices_S64x256_o0_128_S64x32) shapeCasts_S64x32_S64x32⟩,
    ⟨Rect.unit ![192, 0] S64x32.size inb_S512x32_S64x32_192_0, shapeCast S64x32 (extractStridedSlice S64x32 ![0, 96] q slices_S64x256_o0_96_S64x32) shapeCasts_S64x32_S64x32⟩,
    ⟨Rect.unit ![128, 0] S64x32.size inb_S512x32_S64x32_128_0, shapeCast S64x32 (extractStridedSlice S64x32 ![0, 64] q slices_S64x256_o0_64_S64x32) shapeCasts_S64x32_S64x32⟩,
    ⟨Rect.unit ![64, 0] S64x32.size inb_S512x32_S64x32_64_0, shapeCast S64x32 (extractStridedSlice S64x32 ![0, 32] q slices_S64x256_o0_32_S64x32) shapeCasts_S64x32_S64x32⟩,
    ⟨Rect.unit ![0, 0] S64x32.size inb_S512x32_S64x32_0_0, shapeCast S64x32 (extractStridedSlice S64x32 ![0, 0] q slices_S64x256_o0_0_S64x32) shapeCasts_S64x32_S64x32⟩]

section Stages
variable (x0 : Vec F S8x64x256 .bf16) (x1 : Vec F S64x256 .bf16) (x2 : Vec F S64x512 .bf16)
  (x3 : Vec F S1x4096x256 .f32) (x4 : Vec F S1x32x4096 .f32) (x5 : Vec F S8x256x256 .bf16)

/-- All 512 rows of the latent queries, -/
def qAll : Vec F S512x256 .bf16 := (View.whole cc0_scratch0).readCov (qs x0) (Rect.unit (s := S512x256) ![0, 0] S512x256.size inb_S512x256_S512x256_0_0).toLoadRect
/-- their first half, -/
def qLo : Vec F S256x256 .bf16 := (View.whole cc0_scratch0).readCov (qs x0) (Rect.unit (s := S512x256) ![0, 0] S256x256.size inb_S512x256_S256x256_0_0).toLoadRect
/-- and their second half. -/
def qHi : Vec F S256x256 .bf16 := (View.whole cc0_scratch0).readCov (qs x0) (Rect.unit (s := S512x256) ![256, 0] S256x256.size inb_S512x256_S256x256_256_0).toLoadRect
/-- All 512 rows of the rotary queries, -/
def rAll : Vec F S512x32 .bf16 := (View.whole cc0_scratch1).readCov (rs x1) (Rect.unit (s := S512x32) ![0, 0] S512x32.size inb_S512x32_S512x32_0_0).toLoadRect
/-- their first half, -/
def rLo : Vec F S256x32 .bf16 := (View.whole cc0_scratch1).readCov (rs x1) (Rect.unit (s := S512x32) ![0, 0] S256x32.size inb_S512x32_S256x32_0_0).toLoadRect
/-- and their second half. -/
def rHi : Vec F S256x32 .bf16 := (View.whole cc0_scratch1).readCov (rs x1) (Rect.unit (s := S512x32) ![256, 0] S256x32.size inb_S512x32_S256x32_256_0).toLoadRect

/-- The new keys as loaded. -/
def newK : Vec F S64x512 .bf16 := View.ld x2 (Rect.unit ![0, 0] S64x512.size inb_S64x512_S64x512_0_0)
/-- The cached latents as loaded. -/
def cacheC : Vec F S1x4096x256 .f32 := View.ld x3 (Rect.unit ![0, 0, 0] S1x4096x256.size inb_S1x4096x256_S1x4096x256_0_0_0)
/-- The cached rotary keys as loaded. -/
def cacheR : Vec F S1x32x4096 .f32 := View.ld x4 (Rect.unit ![0, 0, 0] S1x32x4096.size inb_S1x32x4096_S1x32x4096_0_0_0)

/-- The whole-scratch rectangle of the running maximum and of the running sum. -/
abbrev wRect : Rect S512x128 := Rect.unit (s := S512x128) ![0, 0] S512x128.size inb_S512x128_S512x128_0_0
/-- Its first and second half. -/
abbrev loRect : Rect S512x128 := Rect.unit (s := S512x128) ![0, 0] S256x128.size inb_S512x128_S256x128_0_0
abbrev hiRect : Rect S512x128 := Rect.unit (s := S512x128) ![256, 0] S256x128.size inb_S512x128_S256x128_256_0
/-- The same of the accumulator. -/
abbrev wRectA : Rect S512x256 := Rect.unit (s := S512x256) ![0, 0] S512x256.size inb_S512x256_S512x256_0_0
abbrev loRectA : Rect S512x256 := Rect.unit (s := S512x256) ![0, 0] S256x256.size inb_S512x256_S256x256_0_0
abbrev hiRectA : Rect S512x256 := Rect.unit (s := S512x256) ![256, 0] S256x256.size inb_S512x256_S256x256_256_0

/-- The running maximum, sum and accumulator at the start. -/
def mL0 : List (View.Piece (Elt F) S512x128 .f32) := [⟨wRect, k0_pay22⟩]
def lL0 : List (View.Piece (Elt F) S512x128 .f32) := [⟨wRect, k0_pay23⟩]
def aL0 : List (View.Piece (Elt F) S512x256 .f32) := [⟨wRectA, k0_pay24⟩]
def m0 : Vec F S512x128 .f32 := (View.whole cc0_scratch2).readCov mL0 wRect.toLoadRect
def l0 : Vec F S512x128 .f32 := (View.whole cc0_scratch3).readCov lL0 wRect.toLoadRect
def a0 : Vec F S512x256 .f32 := (View.whole cc0_scratch4).readCov aL0 wRectA.toLoadRect

/-- After the new keys' tile. -/
def m1 : Vec F S512x128 .f32 := k0_pay32 (k0_pay25 (newK x2)) (qAll x0) (k0_pay26 (newK x2)) (rAll x1) m0
def l1 : Vec F S512x128 .f32 := k0_pay31 (k0_pay25 (newK x2)) (qAll x0) (k0_pay26 (newK x2)) (rAll x1) m0 l0
def a1 : Vec F S512x256 .f32 := k0_pay38 (k0_pay33 (k0_pay25 (newK x2)) (qAll x0) (k0_pay26 (newK x2)) (rAll x1) m0 a0)
def mL1 : List (View.Piece (Elt F) S512x128 .f32) := ⟨wRect, m1 x0 x1 x2⟩ :: mL0
def lL1 : List (View.Piece (Elt F) S512x128 .f32) := ⟨wRect, l1 x0 x1 x2⟩ :: lL0
def aL1 : List (View.Piece (Elt F) S512x256 .f32) := ⟨wRectA, a1 x0 x1 x2⟩ :: aL0
def m1lo : Vec F S256x128 .f32 := (View.whole cc0_scratch2).readCov (mL1 x0 x1 x2) loRect.toLoadRect
def l1lo : Vec F S256x128 .f32 := (View.whole cc0_scratch3).readCov (lL1 x0 x1 x2) loRect.toLoadRect
def a1lo : Vec F S256x256 .f32 := (View.whole cc0_scratch4).readCov (aL1 x0 x1 x2) loRectA.toLoadRect

/-- After the cached keys, the first 256 rows. -/
def m2lo : Vec F S256x128 .f32 := k0_pay48 (k0_pay43 (cacheC x3) (cacheR x4) (qLo x0) (rLo x1) (m1lo x0 x1 x2))
def l2lo : Vec F S256x128 .f32 := k0_pay47 (k0_pay44 (cacheC x3) (cacheR x4) (qLo x0) (rLo x1) (m1lo x0 x1 x2)) (k0_pay46 (cacheC x3) (cacheR x4) (qLo x0) (rLo x1) (m1lo x0 x1 x2) (l1lo x0 x1 x2))
def a2lo : Vec F S256x256 .f32 := k0_pay49 (k0_pay39 (cacheC x3)) (k0_pay44 (cacheC x3) (cacheR x4) (qLo x0) (rLo x1) (m1lo x0 x1 x2)) (k0_pay45 (cacheC x3) (cacheR x4) (qLo x0) (rLo x1) (m1lo x0 x1 x2)) (a1lo x0 x1 x2)
def mL2 : List (View.Piece (Elt F) S512x128 .f32) := ⟨loRect, m2lo x0 x1 x2 x3 x4⟩ :: mL1 x0 x1 x2
def lL2 : List (View.Piece (Elt F) S512x128 .f32) := ⟨loRect, l2lo x0 x1 x2 x3 x4⟩ :: lL1 x0 x1 x2
def aL2 : List (View.Piece (Elt F) S512x256 .f32) := ⟨loRectA, a2lo x0 x1 x2 x3 x4⟩ :: aL1 x0 x1 x2
def m1hi : Vec F S256x128 .f32 := (View.whole cc0_scratch2).readCov (mL2 x0 x1 x2 x3 x4) hiRect.toLoadRect
def l1hi : Vec F S256x128 .f32 := (View.whole cc0_scratch3).readCov (lL2 x0 x1 x2 x3 x4) hiRect.toLoadRect
def a1hi : Vec F S256x256 .f32 := (View.whole cc0_scratch4).readCov (aL2 x0 x1 x2 x3 x4) hiRectA.toLoadRect

/-- After the cached keys, the last 256 rows. -/
def l2hi : Vec F S256x128 .f32 := k0_pay53 (k0_pay42 (cacheC x3) (cacheR x4) (qHi x0) (rHi x1)) (m1hi x0 x1 x2 x3 x4) (l1hi x0 x1 x2 x3 x4)
def a2hi : Vec F S256x256 .f32 := k0_pay2 (k0_pay39 (cacheC x3)) (k0_pay51 (k0_pay42 (cacheC x3) (cacheR x4) (qHi x0) (rHi x1)) (m1hi x0 x1 x2 x3 x4)) (k0_pay52 (k0_pay42 (cacheC x3) (cacheR x4) (qHi x0) (rHi x1)) (m1hi x0 x1 x2 x3 x4)) (a1hi x0 x1 x2 x3 x4)
def lEnd : Vec F S512x128 .f32 := (View.whole cc0_scratch3).readCov (⟨hiRect, l2hi x0 x1 x2 x3 x4⟩ :: lL2 x0 x1 x2 x3 x4) wRect.toLoadRect
def aEnd : Vec F S512x256 .f32 := (View.whole cc0_scratch4).readCov (⟨hiRectA, a2hi x0 x1 x2 x3 x4⟩ :: aL2 x0 x1 x2 x3 x4) wRectA.toLoadRect

/-- Head `h`'s padded value projection as loaded. -/
abbrev w0 : Vec F S1x256x256 .bf16 := View.ld x5 (Rect.unit (s := S8x256x256) ![0, 0, 0] S1x256x256.size inb_S8x256x256_S1x256x256_0_0_0)
abbrev w1 : Vec F S1x256x256 .bf16 := View.ld x5 (Rect.unit (s := S8x256x256) ![1, 0, 0] S1x256x256.size inb_S8x256x256_S1x256x256_1_0_0)
abbrev w2 : Vec F S1x256x256 .bf16 := View.ld x5 (Rect.unit (s := S8x256x256) ![2, 0, 0] S1x256x256.size inb_S8x256x256_S1x256x256_2_0_0)
abbrev w3 : Vec F S1x256x256 .bf16 := View.ld x5 (Rect.unit (s := S8x256x256) ![3, 0, 0] S1x256x256.size inb_S8x256x256_S1x256x256_3_0_0)
abbrev w4 : Vec F S1x256x256 .bf16 := View.ld x5 (Rect.unit (s := S8x256x256) ![4, 0, 0] S1x256x256.size inb_S8x256x256_S1x256x256_4_0_0)
abbrev w5 : Vec F S1x256x256 .bf16 := View.ld x5 (Rect.unit (s := S8x256x256) ![5, 0, 0] S1x256x256.size inb_S8x256x256_S1x256x256_5_0_0)
abbrev w6 : Vec F S1x256x256 .bf16 := View.ld x5 (Rect.unit (s := S8x256x256) ![6, 0, 0] S1x256x256.size inb_S8x256x256_S1x256x256_6_0_0)
abbrev w7 : Vec F S1x256x256 .bf16 := View.ld x5 (Rect.unit (s := S8x256x256) ![7, 0, 0] S1x256x256.size inb_S8x256x256_S1x256x256_7_0_0)

/-- The point's result: the two stores' pieces. -/
def outPieces : List (View.Piece (Elt F) S64x512 .bf16) :=
  let A := aEnd x0 x1 x2 x3 x4
  let L := lEnd x0 x1 x2 x3 x4
  [⟨Rect.unit ![0, 256] S64x256.size inb_S64x512_S64x256_0_256, k0_pay3 (k0_pay34 A L) (k0_pay36 A L (w4 x5)) (k0_pay37 A L) (w5 x5) (w6 x5) (w7 x5)⟩,
   ⟨Rect.unit ![0, 0] S64x256.size inb_S64x512_S64x256_0_0, k0_pay35 A L (w0 x5) (w1 x5) (w2 x5) (w3 x5)⟩]

end Stages

set_option maxRecDepth 65536 in
set_option maxHeartbeats 2000000 in
/-- What one grid point writes back is the stages' result. -/
theorem out_open (c : Dev nD) (t : Fin cfg0.N)
    (x0 : Vec F S8x64x256 .bf16) (x1 : Vec F S64x256 .bf16) (x2 : Vec F S64x512 .bf16)
    (x3 : Vec F S1x4096x256 .f32) (x4 : Vec F S1x32x4096 .f32) (x5 : Vec F S8x256x256 .bf16) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (hcond0_0 t) (hcond0_1 t) x0 x1 x2 x3 x4 x5 = View.canon (outPieces x0 x1 x2 x3 x4 x5) := by
  unfold out0_A_6
  rw [View.read_writes_eq_canon _ _ _ (cover0_A_6 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rfl

end Cert.KernelIdeal.Block
-- ==== Proof.Online.lean ====
module

public import Idealize.ShloMosaic.PureOps.Ideal
public import Mathlib.Analysis.SpecialFunctions.Pow.Real

@[expose] public section

noncomputable section

/-! # The running softmax over extended reals

A row of attention is computed by the kernel tile after tile: a running maximum `m`, the sum `l` of the powers
`2 ^ (s - m)` and the accumulator `a` of those powers times the values. Whatever real number the running maximum is, after
some tiles `l = 2 ^ (-m) · L` and `a = 2 ^ (-m) · A`, where `L` and `A` are the sums of `2 ^ s` and of `2 ^ s` times the
value; the quotient `a / l` does not see `m`. The reference's row — subtract the maximum, exponentiate, normalise, weigh —
is the quotient of the same two sums. -/

namespace Cert.Online

open Idealize.ShloMosaic

/-- `2 ^ s` as a real number (a masked score, minus infinity, weighs nothing). -/
def wt (s : EReal) : ℝ := (Ideal.exp2 s).toReal

/-- `e ^ x` as a real number (a masked score, minus infinity, weighs nothing). -/
def wte (x : EReal) : ℝ := (Ideal.exp x).toReal

theorem wt_coe (r : ℝ) : wt r = (2 : ℝ) ^ r := by simp [wt]
theorem wt_bot : wt ⊥ = 0 := by simp [wt]
theorem wte_coe (r : ℝ) : wte r = Real.exp r := by simp [wte]
theorem wte_bot : wte ⊥ = 0 := by simp [wte]

theorem wt_nonneg {s : EReal} (hs : s ≠ ⊤) : 0 ≤ wt s := by
  induction s with
  | bot => rw [wt_bot]
  | top => exact absurd rfl hs
  | coe r => rw [wt_coe]; positivity

theorem wte_nonneg {s : EReal} (hs : s ≠ ⊤) : 0 ≤ wte s := by
  induction s with
  | bot => rw [wte_bot]
  | top => exact absurd rfl hs
  | coe r => rw [wte_coe]; positivity

/-- A power of two of a score less a real number. -/
theorem exp2_sub {s : EReal} (hs : s ≠ ⊤) (μ : ℝ) : Ideal.exp2 (s - (μ : EReal)) = ((2 ^ (-μ) * wt s : ℝ) : EReal) := by
  induction s with
  | bot => rw [EReal.bot_sub, wt_bot]; simp
  | top => exact absurd rfl hs
  | coe r =>
    rw [← EReal.coe_sub, Ideal.exp2_coe, wt_coe]
    congr 1
    rw [← Real.rpow_add two_pos, sub_eq_neg_add]; rfl

/-- A power of `e` of a score less a real number. -/
theorem exp_sub {s : EReal} (hs : s ≠ ⊤) (μ : ℝ) : Ideal.exp (s - (μ : EReal)) = ((Real.exp (-μ) * wte s : ℝ) : EReal) := by
  induction s with
  | bot => rw [EReal.bot_sub, wte_bot]; simp
  | top => exact absurd rfl hs
  | coe r => rw [← EReal.coe_sub, Ideal.exp_coe, wte_coe, ← Real.exp_add, sub_eq_neg_add]

/-- A finite sum of real numbers, taken among the extended reals. -/
theorem coe_sum {ι : Type*} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- A maximum of scores none of which is plus infinity is not plus infinity. -/
theorem fold_max_ne_top {ι : Type*} (t : Finset ι) (b : EReal) (s : ι → EReal) (hb : b ≠ ⊤) (hs : ∀ k, s k ≠ ⊤) :
    t.fold max b s ≠ ⊤ := by
  rw [← lt_top_iff_ne_top, Finset.fold_max_lt]
  exact ⟨lt_top_iff_ne_top.mpr hb, fun k _ => lt_top_iff_ne_top.mpr (hs k)⟩

/-- The running maximum stays a real number. -/
theorem max_real (μ : ℝ) {x : EReal} (hx : x ≠ ⊤) : ∃ μ' : ℝ, max (μ : EReal) x = (μ' : EReal) := by
  induction x with
  | bot => exact ⟨μ, by simp⟩
  | top => exact absurd rfl hx
  | coe r => exact ⟨max μ r, (EReal.coe_strictMono.monotone.map_max).symm⟩

/-- One tile's step of the running sum. -/
theorem step_l {ι : Type*} [Fintype ι] (μ μ' L : ℝ) (s : ι → EReal) (hs : ∀ k, s k ≠ ⊤) :
    Ideal.exp2 ((μ : EReal) - (μ' : EReal)) * ((2 ^ (-μ) * L : ℝ) : EReal) + ∑ k, Ideal.exp2 (s k - (μ' : EReal))
      = ((2 ^ (-μ') * (L + ∑ k, wt (s k)) : ℝ) : EReal) := by
  rw [Finset.sum_congr rfl fun k _ => exp2_sub (hs k) μ', coe_sum, exp2_sub (EReal.coe_ne_top μ) μ', ← EReal.coe_mul, ← EReal.coe_add,
    wt_coe, ← Finset.mul_sum, mul_add]
  congr 2
  have : (2 : ℝ) ^ μ * 2 ^ (-μ) = 1 := by rw [← Real.rpow_add two_pos]; simp
  linear_combination 2 ^ (-μ') * L * this

/-- One tile's step of the accumulator. -/
theorem step_a {ι : Type*} [Fintype ι] (μ μ' A : ℝ) (s v : ι → EReal) (w : ι → ℝ) (hs : ∀ k, s k ≠ ⊤) (hv : ∀ k, v k = (w k : EReal)) :
    ((2 ^ (-μ) * A : ℝ) : EReal) * Ideal.exp2 ((μ : EReal) - (μ' : EReal)) + ∑ k, Ideal.exp2 (s k - (μ' : EReal)) * v k
      = ((2 ^ (-μ') * (A + ∑ k, wt (s k) * w k) : ℝ) : EReal) := by
  rw [Finset.sum_congr rfl fun k _ => by rw [exp2_sub (hs k) μ', hv k, ← EReal.coe_mul], coe_sum, exp2_sub (EReal.coe_ne_top μ) μ',
    ← EReal.coe_mul, ← EReal.coe_add, wt_coe]
  simp only [mul_assoc]
  rw [← Finset.mul_sum, mul_add]
  congr 2
  have : (2 : ℝ) ^ μ * 2 ^ (-μ) = 1 := by rw [← Real.rpow_add two_pos]; simp
  linear_combination 2 ^ (-μ') * A * this

/-- A quotient of real numbers, the divisor not zero. -/
theorem div_real (a b : ℝ) (hb : b ≠ 0) : Ideal.div (a : EReal) (b : EReal) = ((a / b : ℝ) : EReal) := by
  rw [Ideal.div_coe hb, ← EReal.coe_mul]; congr 1; ring

/-- The last step: the accumulator over the sum is the quotient of the two sums. -/
theorem finish (μ A L : ℝ) (hL : L ≠ 0) :
    Ideal.div ((2 ^ (-μ) * A : ℝ) : EReal) ((2 ^ (-μ) * L : ℝ) : EReal) = ((A / L : ℝ) : EReal) := by
  have h : (2 : ℝ) ^ (-μ) ≠ 0 := by positivity
  rw [div_real _ _ (mul_ne_zero h hL), mul_div_mul_left _ _ h]

/-- The reference's sum of exponentials. -/
theorem ref_sum {ι : Type*} [Fintype ι] (M : ℝ) (x : ι → EReal) (hx : ∀ k, x k ≠ ⊤) :
    ∑ k, Ideal.exp (x k - (M : EReal)) = ((Real.exp (-M) * ∑ k, wte (x k) : ℝ) : EReal) := by
  rw [Finset.sum_congr rfl fun k _ => exp_sub (hx k) M, coe_sum, Finset.mul_sum]

/-- The reference's normalised weight. -/
theorem ref_weight {s : EReal} (hs : s ≠ ⊤) (M L : ℝ) (hL : L ≠ 0) :
    Ideal.div (Ideal.exp (s - (M : EReal))) ((Real.exp (-M) * L : ℝ) : EReal) = ((wte s / L : ℝ) : EReal) := by
  rw [exp_sub hs, div_real _ _ (mul_ne_zero (Real.exp_ne_zero _) hL), mul_div_mul_left _ _ (Real.exp_ne_zero _)]

/-- `2` to the power `x / log 2` is `e` to the power `x`. -/
theorem wt_scaled (x : ℝ) : wt ((x * (Real.log 2)⁻¹ : ℝ) : EReal) = wte (x : EReal) := by
  rw [wt_coe, wte_coe, Real.rpow_def_of_pos two_pos]
  congr 1
  have : Real.log 2 ≠ 0 := (Real.log_pos one_lt_two).ne'
  field_simp

/-- A row of the kernel's state — running maximum `m` and running sum `l`, each repeated over 128 lanes, and accumulator `a`
    — standing for the sums `L` of the weights and `A` of the weighted values. -/
def St {C : Type*} (m l : Fin 128 → EReal) (a : C → EReal) (L : ℝ) (A : C → ℝ) : Prop :=
  ∃ μ : ℝ, (∀ k, m k = (μ : EReal)) ∧ (∀ k, l k = ((2 ^ (-μ) * L : ℝ) : EReal)) ∧ ∀ c, a c = ((2 ^ (-μ) * A c : ℝ) : EReal)

/-- One tile's step keeps the state standing for the sums, the tile's weights and weighted values added. -/
theorem St.step {C ι : Type*} [Fintype ι] {m l : Fin 128 → EReal} {a : C → EReal} {L : ℝ} {A : C → ℝ} (h : St m l a L A)
    (s : ι → EReal) (v : ι → C → EReal) (w : ι → C → ℝ) (hs : ∀ k, s k ≠ ⊤) (hv : ∀ k c, v k c = (w k c : EReal))
    {m' l' : Fin 128 → EReal} {a' : C → EReal} (lane : ι → Fin 128) (lane' : C → Fin 128)
    (hm : ∀ k, m' k = max (m k) (Finset.univ.fold max ⊥ s))
    (hl : ∀ k, l' k = Ideal.exp2 (m k - m' k) * l k + ∑ x, Ideal.exp2 (s x - m' (lane x)))
    (ha : ∀ c, a' c = a c * Ideal.exp2 (m (lane' c) - m' (lane' c)) + ∑ x, Ideal.exp2 (s x - m' (lane x)) * v x c) :
    St m' l' a' (L + ∑ x, wt (s x)) (fun c => A c + ∑ x, wt (s x) * w x c) := by
  obtain ⟨μ, h1, h2, h3⟩ := h
  obtain ⟨μ', h'⟩ := max_real μ (fold_max_ne_top Finset.univ ⊥ s bot_ne_top hs)
  have hm' : ∀ k, m' k = (μ' : EReal) := fun k => by rw [hm, h1, h']
  refine ⟨μ', hm', fun k => ?_, fun c => ?_⟩
  · rw [hl, h1, h2, hm']
    simp only [hm']
    exact step_l μ μ' L s hs
  · rw [ha, h1, h3, hm']
    simp only [hm']
    exact step_a μ μ' (A c) s (fun x => v x c) (fun x => w x c) hs (fun x => hv x c)

/-- The state at the start: nothing summed. -/
theorem St.start {C : Type*} (μ : ℝ) : St (C := C) (fun _ => (μ : EReal)) (fun _ => 0) (fun _ => 0) 0 (fun _ => 0) :=
  ⟨μ, fun _ => rfl, fun _ => by simp, fun _ => by simp⟩

/-- The last step on a state: every quotient of the accumulator by the running sum is the quotient of the sums. -/
theorem St.finish {C : Type*} {m l : Fin 128 → EReal} {a : C → EReal} {L : ℝ} {A : C → ℝ} (h : St m l a L A) (hL : L ≠ 0)
    (k : Fin 128) (c : C) : Ideal.div (a c) (l k) = ((A c / L : ℝ) : EReal) := by
  obtain ⟨μ, -, h2, h3⟩ := h
  rw [h2, h3]; exact Online.finish μ _ _ hL

end Cert.Online
-- ==== Proof.Pay.lean ====
module

public import proofs.«01_k».proof.Proof.Gen.KernelIdeal.Value
public import Idealize.ShloMosaic.Lib.Pointwise
public import proofs.«01_k».proof.Proof.Online

@[expose] public section

set_option maxRecDepth 16384

noncomputable section

/-! # The kernel's arithmetic at an index

The body's computed values read at one index over extended reals: the scores, one tile's step of the running softmax on one
row, and the weighted heads put through their value projections. -/

namespace Cert.KernelIdeal.Block

open Idealize.ShloMosaic Idealize.ShloMosaic.TcCoe Idealize.ShloMosaic.Tactic
open Cert.KernelIdeal Cert.KernelIdeal.Gen Cert.Online

/-- The float bits of minus infinity. -/
theorem bits_bot : Ideal.ofBits .f32 4286578688#32 = ⊥ := by
  simp [Ideal.ofBits, Ideal.ieee, -EReal.coe_mul]
/-- The running maximum starts from a real number. -/
theorem bits_start : ∃ μ : ℝ, Ideal.ofBits .f32 0xF149F2CA#32 = (μ : EReal) :=
  ⟨_, by simp [Ideal.ofBits, Ideal.ieee, -EReal.coe_mul]; rfl⟩

/-- The new keys' latent and rotary parts and the scores of all rows against them. -/
theorem pay25 (x) (k : Fin 64) (c : Fin 512) : k0_pay25 (F := Ideal) x (ix2 k c) = x (ix2 k c) := by
  pointwise [k0_pay25]
theorem pay26 (x) (k : Fin 64) (c : Fin 256) : k0_pay26 (F := Ideal) x (ix2 k c) = x (ix2 k ⟨c, by omega⟩) := by
  pointwise [k0_pay26, k0_pay25]
theorem pay27 (x q y r) (i : Fin 512) (k : Fin 64) : k0_pay27 (F := Ideal) x q y r (ix2 i k)
    = ∑ c : Fin 256, q (ix2 i c) * y (ix2 k c) + ∑ d : Fin 32, r (ix2 i d) * x (ix2 k ⟨256 + d, by omega⟩) := by
  pointwise [k0_pay27]
/-- The scores of half the rows against the cached keys. -/
theorem pay42 (x q y r) (i : Fin 256) (k : Fin 4096) : k0_pay42 (F := Ideal) x q y r (ix2 i k)
    = ∑ c : Fin 256, y (ix2 i c) * x (ix3 0 k c) + ∑ d : Fin 32, r (ix2 i d) * q (ix3 0 d k) := by
  pointwise [k0_pay42, k0_pay39, k0_pay40]
/-- The cached latents as values. -/
theorem pay39 (x) (k : Fin 4096) (c : Fin 256) : k0_pay39 (F := Ideal) x (ix2 k c) = x (ix3 0 k c) := by
  pointwise [k0_pay39]

theorem pay28 (x q y r m) (i : Fin 512) (k : Fin 128) : k0_pay28 (F := Ideal) x q y r m (ix2 i k)
    = max (m (ix2 i k)) (Finset.univ.fold max ⊥ fun j => k0_pay27 (F := Ideal) x q y r (ix2 i j)) := by
  unfold k0_pay28
  generalize k0_pay27 (F := Ideal) x q y r = s
  rw [← bits_bot]
  pointwise
theorem pay29 (x q y r m) (i : Fin 512) (k : Fin 64) : k0_pay29 (F := Ideal) x q y r m (ix2 i k)
    = Ideal.exp2 (k0_pay27 (F := Ideal) x q y r (ix2 i k) - k0_pay28 (F := Ideal) x q y r m (ix2 i ⟨k, by omega⟩)) := by
  unfold k0_pay29
  generalize k0_pay27 (F := Ideal) x q y r = s
  generalize k0_pay28 (F := Ideal) x q y r m = s
  pointwise
  rfl
theorem pay30 (x q y r m) (i : Fin 512) (k : Fin 128) : k0_pay30 (F := Ideal) x q y r m (ix2 i k)
    = Ideal.exp2 (m (ix2 i k) - k0_pay28 (F := Ideal) x q y r m (ix2 i k)) := by
  unfold k0_pay30
  generalize k0_pay28 (F := Ideal) x q y r m = s
  pointwise
  rfl
theorem pay31 (x q y r m l) (i : Fin 512) (k : Fin 128) : k0_pay31 (F := Ideal) x q y r m l (ix2 i k)
    = k0_pay30 (F := Ideal) x q y r m (ix2 i k) * l (ix2 i k) + ∑ j, k0_pay29 (F := Ideal) x q y r m (ix2 i j) := by
  unfold k0_pay31
  generalize k0_pay29 (F := Ideal) x q y r m = s
  generalize k0_pay30 (F := Ideal) x q y r m = s
  pointwise

/-- The lane of 128 that a column of 256 falls on. -/
def lane (c : Fin 256) : Fin 128 := ⟨c % 128, Nat.mod_lt _ (by norm_num)⟩

theorem lane_dite {α : Type*} (f : Fin 128 → α) (c : Fin 256) :
    (if h : (c : ℕ) < 128 then f ⟨c, h⟩ else f ⟨c - 128, by omega⟩) = f (lane c) := by
  split
  · congr 1; exact Fin.ext (by simp [lane]; omega)
  · congr 1; exact Fin.ext (by simp [lane]; omega)

theorem pay33 (x q y r m l) (i : Fin 512) (c : Fin 256) : k0_pay33 (F := Ideal) x q y r m l (ix2 i c)
    = l (ix2 i c) * k0_pay30 (F := Ideal) x q y r m (ix2 i (lane c))
      + ∑ j, k0_pay29 (F := Ideal) x q y r m (ix2 i j) * x (ix2 j ⟨c, by omega⟩) := by
  rw [← lane_dite fun k => k0_pay30 (F := Ideal) x q y r m (ix2 i k)]
  unfold k0_pay33
  generalize k0_pay29 (F := Ideal) x q y r m = s
  generalize k0_pay30 (F := Ideal) x q y r m = s
  pointwise

/-- The new keys' tile on one row of the state. -/
theorem step_new (x q y r m l a) (i : Fin 512) (w : Fin 64 → Fin 256 → ℝ) {L : ℝ} {A : Fin 256 → ℝ}
    (h : St (fun k => m (ix2 i k)) (fun k => l (ix2 i k)) (fun c => a (ix2 i c)) L A)
    (hs : ∀ k, k0_pay27 (F := Ideal) x q y r (ix2 i k) ≠ ⊤)
    (hv : ∀ (k : Fin 64) (c : Fin 256), x (ix2 k ⟨c, by omega⟩) = (w k c : EReal)) :
    St (fun k => k0_pay32 (F := Ideal) x q y r m (ix2 i k)) (fun k => k0_pay31 (F := Ideal) x q y r m l (ix2 i k))
      (fun c => k0_pay38 (F := Ideal) (k0_pay33 x q y r m a) (ix2 i c))
      (L + ∑ k, wt (k0_pay27 (F := Ideal) x q y r (ix2 i k)))
      (fun c => A c + ∑ k, wt (k0_pay27 (F := Ideal) x q y r (ix2 i k)) * w k c) := by
  have e : ∀ k, k0_pay32 (F := Ideal) x q y r m (ix2 i k) = k0_pay28 (F := Ideal) x q y r m (ix2 i k) := fun k => by
    unfold k0_pay32; generalize k0_pay28 (F := Ideal) x q y r m = s; pointwise
  have e' : ∀ c, k0_pay38 (F := Ideal) (k0_pay33 x q y r m a) (ix2 i c) = k0_pay33 (F := Ideal) x q y r m a (ix2 i c) := fun c => by
    unfold k0_pay38; generalize k0_pay33 (F := Ideal) x q y r m a = s; pointwise
  refine h.step _ (fun k c => x (ix2 k ⟨c, by omega⟩)) w hs hv (fun k => ⟨k, by omega⟩) lane (fun k => ?_) (fun k => ?_) fun c => ?_
  · rw [e, pay28]
  · rw [pay31, pay30, e]; simp only [pay29, e]
  · rw [e', pay33, pay30, e]; simp only [pay29, e]

theorem pay50 (s m) (i : Fin 256) (k : Fin 128) : k0_pay50 (F := Ideal) s m (ix2 i k)
    = max (m (ix2 i k)) (Finset.univ.fold max ⊥ fun j => s (ix2 i j)) := by
  rw [← bits_bot]
  pointwise [k0_pay50]
theorem pay51 (s m) (i : Fin 256) (k : Fin 4096) : k0_pay51 (F := Ideal) s m (ix2 i k)
    = Ideal.exp2 (s (ix2 i k) - k0_pay50 (F := Ideal) s m (ix2 i ⟨k % 128, Nat.mod_lt _ (by norm_num)⟩)) := by
  unfold k0_pay51
  generalize k0_pay50 (F := Ideal) s m = v
  show Ideal.exp2 (s (ix2 i k) - concatenate _ _ (List.replicate 32 ⟨S256x128, v⟩) _ _) = _
  refine congrArg (fun z => Ideal.exp2 (s (ix2 i k) - z)) (concatenate_replicate_apply (s₁ := S256x128) (t := S256x4096) 1 32 v _ rfl
    (ix2 i k) (ix2 i ⟨k % 128, Nat.mod_lt _ (by norm_num)⟩) rfl ?_)
  intro b hb
  match b, hb with
  | 0, _ => rfl
  | 1, hb => exact absurd rfl hb
theorem pay52 (s m) (i : Fin 256) (k : Fin 128) : k0_pay52 (F := Ideal) s m (ix2 i k)
    = Ideal.exp2 (m (ix2 i k) - k0_pay50 (F := Ideal) s m (ix2 i k)) := by
  unfold k0_pay52
  generalize k0_pay50 (F := Ideal) s m = v
  pointwise
  rfl
theorem pay53 (s m l) (i : Fin 256) (k : Fin 128) : k0_pay53 (F := Ideal) s m l (ix2 i k)
    = k0_pay52 (F := Ideal) s m (ix2 i k) * l (ix2 i k) + ∑ j, k0_pay51 (F := Ideal) s m (ix2 i j) := by
  unfold k0_pay53
  generalize k0_pay51 (F := Ideal) s m = s
  generalize k0_pay52 (F := Ideal) _ m = s
  pointwise
theorem pay2 (v p α a) (i c : Fin 256) : k0_pay2 (F := Ideal) v p α a (ix2 i c)
    = a (ix2 i c) * α (ix2 i (lane c)) + ∑ j : Fin 4096, p (ix2 i j) * v (ix2 j c) := by
  rw [← lane_dite fun k => α (ix2 i k)]
  pointwise [k0_pay2]

/-- The cached keys' tile on one row of the state. -/
theorem step_cache (s v m l a) (i : Fin 256) (w : Fin 4096 → Fin 256 → ℝ) {L : ℝ} {A : Fin 256 → ℝ}
    (h : St (fun k => m (ix2 i k)) (fun k => l (ix2 i k)) (fun c => a (ix2 i c)) L A)
    (hs : ∀ k, s (ix2 i k) ≠ ⊤) (hv : ∀ (k : Fin 4096) (c : Fin 256), v (ix2 k c) = (w k c : EReal)) :
    St (fun k => k0_pay50 (F := Ideal) s m (ix2 i k)) (fun k => k0_pay53 (F := Ideal) s m l (ix2 i k))
      (fun c => k0_pay2 (F := Ideal) v (k0_pay51 s m) (k0_pay52 s m) a (ix2 i c))
      (L + ∑ k, wt (s (ix2 i k))) (fun c => A c + ∑ k, wt (s (ix2 i k)) * w k c) := by
  refine h.step _ (fun k c => v (ix2 k c)) w hs hv (fun k => ⟨k % 128, Nat.mod_lt _ (by norm_num)⟩) lane (fun k => ?_) (fun k => ?_) fun c => ?_
  · rw [pay50]
  · rw [pay53, pay52]; simp only [pay51]
  · rw [pay2, pay52]; simp only [pay51]

/-- The first half's payloads are the second half's. -/
theorem pay43 (x y q r m) : k0_pay48 (F := Ideal) (k0_pay43 x y q r m) = shapeCast S256x128 (k0_pay50 (F := Ideal) (k0_pay42 x y q r) m) shapeCasts_S256x128_S256x128 := rfl
theorem pay47 (x y q r m l) : k0_pay47 (F := Ideal) (k0_pay44 x y q r m) (k0_pay46 x y q r m l) = k0_pay53 (k0_pay42 x y q r) m l := rfl
theorem pay49 (x y q r m a) : k0_pay49 (F := Ideal) (k0_pay39 x) (k0_pay44 x y q r m) (k0_pay45 x y q r m) a
    = k0_pay2 (k0_pay39 x) (k0_pay51 (k0_pay42 x y q r) m) (k0_pay52 (k0_pay42 x y q r) m) a := rfl

/-- One head's row of the normalised accumulator. -/
theorem pay34 (a l) (i : Fin 512) (c : Fin 256) : k0_pay34 (F := Ideal) a l (ix2 i c) = Ideal.div (a (ix2 i c)) (l (ix2 i (lane c))) := by
  rw [← lane_dite fun k => l (ix2 i k)]
  pointwise [k0_pay34]
/-- The first four heads, each through its projection. -/
theorem pay35 (a l w0 w1 w2 w3) (q : Fin 64) (o : Fin 256) : k0_pay35 (F := Ideal) a l w0 w1 w2 w3 (ix2 q o)
    = ∑ c, k0_pay34 (F := Ideal) a l (ix2 ⟨0 + q, by omega⟩ c) * w0 (ix3 0 c o)
      + ∑ c, k0_pay34 (F := Ideal) a l (ix2 ⟨64 + q, by omega⟩ c) * w1 (ix3 0 c o)
      + ∑ c, k0_pay34 (F := Ideal) a l (ix2 ⟨128 + q, by omega⟩ c) * w2 (ix3 0 c o)
      + ∑ c, k0_pay34 (F := Ideal) a l (ix2 ⟨192 + q, by omega⟩ c) * w3 (ix3 0 c o) := by
  unfold k0_pay35
  generalize k0_pay34 (F := Ideal) a l = s
  pointwise
/-- The last four heads, each through its projection. -/
theorem pay3 (a l w4 w5 w6 w7) (q : Fin 64) (o : Fin 256) :
    k0_pay3 (F := Ideal) (k0_pay34 a l) (k0_pay36 a l w4) (k0_pay37 a l) w5 w6 w7 (ix2 q o)
    = ∑ c, k0_pay34 (F := Ideal) a l (ix2 ⟨256 + q, by omega⟩ c) * w4 (ix3 0 c o)
      + ∑ c, k0_pay34 (F := Ideal) a l (ix2 ⟨320 + q, by omega⟩ c) * w5 (ix3 0 c o)
      + ∑ c, k0_pay34 (F := Ideal) a l (ix2 ⟨384 + q, by omega⟩ c) * w6 (ix3 0 c o)
      + ∑ c, k0_pay34 (F := Ideal) a l (ix2 ⟨448 + q, by omega⟩ c) * w7 (ix3 0 c o) := by
  unfold k0_pay36 k0_pay37
  generalize k0_pay34 (F := Ideal) a l = s
  pointwise [k0_pay3]

end Cert.KernelIdeal.Block
-- ==== Proof.Stage.lean ====
module

public import proofs.«01_k».proof.Proof.Open
public import proofs.«01_k».proof.Proof.Pay
public import Idealize.ShloMosaic.Lib.Pipeline.ValueKit.Acc

@[expose] public section

set_option maxRecDepth 16384

noncomputable section

namespace Cert.KernelIdeal.Block

open Idealize.ShloMosaic Idealize.ShloMosaic.TcCoe Idealize.ShloMosaic.Tactic
open Idealize.SL Idealize.SL.Sem
open Cert.KernelIdeal Cert.KernelIdeal.Gen Cert.Online

/-- A block of rows starting at row `o`, as a store's payload, is the tile of `g` at these rows. -/
theorem tile_ok {α : Type} {R N C : ℕ} (g : Fin R → Fin C → α) (o : ℕ)
    (inb : ∀ a, ![o, 0] a + (⟨2, ![N, C]⟩ : Shape).size a ≤ (⟨2, ![R, C]⟩ : Shape).size a) (w : (⟨2, ![N, C]⟩ : Shape).Idx → α)
    (h : ∀ (q : Fin N) (c : Fin C) (hq : o + q < R), w (ix2 q c) = g ⟨o + q, hq⟩ c)
    (x : (Rect.unit (s := ⟨2, ![R, C]⟩) ![o, 0] (⟨2, ![N, C]⟩ : Shape).size inb).shape.Idx) :
    w x = (fun y : (⟨2, ![R, C]⟩ : Shape).Idx => g (y 0) (y 1)) ((Rect.unit (s := ⟨2, ![R, C]⟩) ![o, 0] (⟨2, ![N, C]⟩ : Shape).size inb).emb x) := by
  have e : x = ix2 (x 0) (x 1) := by funext a; match a with | 0 => rfl | 1 => rfl
  have h0 : o + (x 0).val < R := by
    have := inb 0; have h2 := (x 0).isLt; simp at this h2; omega
  have h1 := h (x 0) (x 1) h0
  refine (congrArg w e).trans (h1.trans ?_)
  show _ = g _ _
  congr 1
  · apply Fin.ext; simp [Rect.emb_apply]
  · apply Fin.ext; simp [Rect.emb_apply]

/-- Which rows such a block covers. -/
theorem tile_mem {R N C : ℕ} (o : ℕ) (inb : ∀ a, ![o, 0] a + (⟨2, ![N, C]⟩ : Shape).size a ≤ (⟨2, ![R, C]⟩ : Shape).size a) (i : Fin R) (c : Fin C) :
    (ix2 i c : (⟨2, ![R, C]⟩ : Shape).Idx) ∈ (Rect.unit (s := ⟨2, ![R, C]⟩) ![o, 0] (⟨2, ![N, C]⟩ : Shape).size inb).set ↔ o ≤ i ∧ (i : ℕ) < o + N := by
  rw [Rect.mem_set_unit, Fin.forall_fin_two]
  simp

theorem qs_apply (x0 : Vec Ideal S8x64x256 .bf16) (i : Fin 512) (c : Fin 256) :
    View.canon (qs x0) (ix2 i c) = x0 (ix3 ⟨i / 64, by omega⟩ ⟨i % 64, by omega⟩ c) := by
  let g : Fin 512 → Fin 256 → EReal := fun i c => x0 (ix3 ⟨i / 64, by omega⟩ ⟨i % 64, by omega⟩ c)
  have e : ∀ (h : Fin 8) (o : ℕ) (ho : o = 64 * h.val) (q : Fin 64) (c : Fin 256) (hq : o + q.val < 512), x0 (ix3 h q c) = g ⟨o + q, hq⟩ c := fun h o ho q c hq => by
    show _ = x0 _
    congr 1
    exact congrArg₂ (fun a b => ix3 a b c) (Fin.ext (by show h.val = (o + q) / 64; omega)) (Fin.ext (by show q.val = (o + q) % 64; omega))
  refine View.canon_apply_of_pieces (fun y : S512x256.Idx => g (y 0) (y 1)) (qs x0) ?_ (ix2 i c) ?_
  · unfold qs
    simp only [List.forall_mem_cons]
    refine ⟨?_, ?_, ?_, ?_, ?_, ?_, ?_, ?_, List.forall_mem_nil _⟩
    · exact tile_ok g 448 inb_S512x256_S64x256_448_0 _ fun q c hq => .trans (by pointwise) (e 7 _ rfl q c hq)
    · exact tile_ok g 384 inb_S512x256_S64x256_384_0 _ fun q c hq => .trans (by pointwise) (e 6 _ rfl q c hq)
    · exact tile_ok g 320 inb_S512x256_S64x256_320_0 _ fun q c hq => .trans (by pointwise) (e 5 _ rfl q c hq)
    · exact tile_ok g 256 inb_S512x256_S64x256_256_0 _ fun q c hq => .trans (by pointwise) (e 4 _ rfl q c hq)
    · exact tile_ok g 192 inb_S512x256_S64x256_192_0 _ fun q c hq => .trans (by pointwise) (e 3 _ rfl q c hq)
    · exact tile_ok g 128 inb_S512x256_S64x256_128_0 _ fun q c hq => .trans (by pointwise) (e 2 _ rfl q c hq)
    · exact tile_ok g 64 inb_S512x256_S64x256_64_0 _ fun q c hq => .trans (by pointwise) (e 1 _ rfl q c hq)
    · exact tile_ok g 0 inb_S512x256_S64x256_0_0 _ fun q c hq => .trans (by pointwise) (e 0 _ rfl q c hq)
  · unfold qs
    simp only [List.exists_mem_cons_iff, List.not_mem_nil, false_and, exists_false, or_false]
    exact (Or.imp (tile_mem 448 inb_S512x256_S64x256_448_0 i c).2 (Or.imp (tile_mem 384 inb_S512x256_S64x256_384_0 i c).2 (Or.imp (tile_mem 320 inb_S512x256_S64x256_320_0 i c).2 (Or.imp (tile_mem 256 inb_S512x256_S64x256_256_0 i c).2 (Or.imp (tile_mem 192 inb_S512x256_S64x256_192_0 i c).2 (Or.imp (tile_mem 128 inb_S512x256_S64x256_128_0 i c).2 (Or.imp (tile_mem 64 inb_S512x256_S64x256_64_0 i c).2 (tile_mem 0 inb_S512x256_S64x256_0_0 i c).2)))))))
      (by omega : (448 ≤ i.val ∧ i.val < 448 + 64) ∨ (384 ≤ i.val ∧ i.val < 384 + 64) ∨ (320 ≤ i.val ∧ i.val < 320 + 64) ∨ (256 ≤ i.val ∧ i.val < 256 + 64) ∨ (192 ≤ i.val ∧ i.val < 192 + 64) ∨ (128 ≤ i.val ∧ i.val < 128 + 64) ∨ (64 ≤ i.val ∧ i.val < 64 + 64) ∨ (0 ≤ i.val ∧ i.val < 0 + 64))

theorem rs_apply (x1 : Vec Ideal S64x256 .bf16) (i : Fin 512) (d : Fin 32) :
    View.canon (rs x1) (ix2 i d) = x1 (ix2 ⟨i % 64, by omega⟩ ⟨32 * (i / 64) + d, by omega⟩) := by
  let g : Fin 512 → Fin 32 → EReal := fun i d => x1 (ix2 ⟨i % 64, by omega⟩ ⟨32 * (i / 64) + d, by omega⟩)
  have e : ∀ (o p : ℕ) (ho : ∃ h, o = 64 * h ∧ p = 32 * h) (q : Fin 64) (d : Fin 32) (hq : o + q.val < 512) (hp : p + d.val < 256),
      x1 (ix2 q ⟨p + d, hp⟩) = g ⟨o + q, hq⟩ d := fun o p ho q d hq hp => by
    obtain ⟨h, rfl, rfl⟩ := ho
    show _ = x1 _
    congr 1
    exact congrArg₂ (fun a b => ix2 a b) (Fin.ext (by show q.val = (64 * h + q) % 64; omega)) (Fin.ext (by show _ + d.val = 32 * ((64 * h + q) / 64) + d; omega))
  refine View.canon_apply_of_pieces (fun y : S512x32.Idx => g (y 0) (y 1)) (rs x1) ?_ (ix2 i d) ?_
  · unfold rs
    simp only [List.forall_mem_cons]
    refine ⟨?_, ?_, ?_, ?_, ?_, ?_, ?_, ?_, List.forall_mem_nil _⟩
    · exact tile_ok g 448 inb_S512x32_S64x32_448_0 _ fun q d hq => .trans (by pointwise) (e _ 224 ⟨7, rfl, rfl⟩ q d hq (by omega))
    · exact tile_ok g 384 inb_S512x32_S64x32_384_0 _ fun q d hq => .trans (by pointwise) (e _ 192 ⟨6, rfl, rfl⟩ q d hq (by omega))
    · exact tile_ok g 320 inb_S512x32_S64x32_320_0 _ fun q d hq => .trans (by pointwise) (e _ 160 ⟨5, rfl, rfl⟩ q d hq (by omega))
    · exact tile_ok g 256 inb_S512x32_S64x32_256_0 _ fun q d hq => .trans (by pointwise) (e _ 128 ⟨4, rfl, rfl⟩ q d hq (by omega))
    · exact tile_ok g 192 inb_S512x32_S64x32_192_0 _ fun q d hq => .trans (by pointwise) (e _ 96 ⟨3, rfl, rfl⟩ q d hq (by omega))
    · exact tile_ok g 128 inb_S512x32_S64x32_128_0 _ fun q d hq => .trans (by pointwise) (e _ 64 ⟨2, rfl, rfl⟩ q d hq (by omega))
    · exact tile_ok g 64 inb_S512x32_S64x32_64_0 _ fun q d hq => .trans (by pointwise) (e _ 32 ⟨1, rfl, rfl⟩ q d hq (by omega))
    · exact tile_ok g 0 inb_S512x32_S64x32_0_0 _ fun q d hq => .trans (by pointwise) (e _ 0 ⟨0, rfl, rfl⟩ q d hq (by omega))
  · unfold rs
    simp only [List.exists_mem_cons_iff, List.not_mem_nil, false_and, exists_false, or_false]
    exact (Or.imp (tile_mem 448 inb_S512x32_S64x32_448_0 i d).2 (Or.imp (tile_mem 384 inb_S512x32_S64x32_384_0 i d).2 (Or.imp (tile_mem 320 inb_S512x32_S64x32_320_0 i d).2 (Or.imp (tile_mem 256 inb_S512x32_S64x32_256_0 i d).2 (Or.imp (tile_mem 192 inb_S512x32_S64x32_192_0 i d).2 (Or.imp (tile_mem 128 inb_S512x32_S64x32_128_0 i d).2 (Or.imp (tile_mem 64 inb_S512x32_S64x32_64_0 i d).2 (tile_mem 0 inb_S512x32_S64x32_0_0 i d).2)))))))
      (by omega : (448 ≤ i.val ∧ i.val < 448 + 64) ∨ (384 ≤ i.val ∧ i.val < 384 + 64) ∨ (320 ≤ i.val ∧ i.val < 320 + 64) ∨ (256 ≤ i.val ∧ i.val < 256 + 64) ∨ (192 ≤ i.val ∧ i.val < 192 + 64) ∨ (128 ≤ i.val ∧ i.val < 128 + 64) ∨ (64 ≤ i.val ∧ i.val < 64 + 64) ∨ (0 ≤ i.val ∧ i.val < 0 + 64))

/-! ## Loads and stores of rows -/

/-- A load of rows `o …` reads the stored contents at these rows. -/
theorem readCov_rows {R N C : ℕ} {sig : RefSig} {κ : Kind} {sp : Space} {e : EltTy} (v : View sig κ sp ⟨2, ![R, C]⟩ e)
    (L : List (View.Piece (Elt Ideal) ⟨2, ![R, C]⟩ e)) (o : ℕ)
    (inb : ∀ a, ![o, 0] a + (⟨2, ![N, C]⟩ : Shape).size a ≤ (⟨2, ![R, C]⟩ : Shape).size a) (q : Fin N) (c : Fin C) (hq : o + q.val < R) :
    v.readCov L (Rect.unit (s := ⟨2, ![R, C]⟩) ![o, 0] (⟨2, ![N, C]⟩ : Shape).size inb).toLoadRect (ix2 q c)
      = View.canon L (ix2 ⟨o + q, hq⟩ c) := by
  rw [View.readCov_eq_canon']
  show View.canon L _ = _
  congr 1
  funext a
  match a with
  | 0 => apply Fin.ext; show o + 1 * q.val = o + q.val; omega
  | 1 => apply Fin.ext; show 0 + 1 * c.val = c.val; omega

/-- The contents at a row the last store wrote, -/
theorem canon_in {R N C : ℕ} {e : EltTy} (L : List (View.Piece (Elt Ideal) ⟨2, ![R, C]⟩ e)) (o : ℕ)
    (inb : ∀ a, ![o, 0] a + (⟨2, ![N, C]⟩ : Shape).size a ≤ (⟨2, ![R, C]⟩ : Shape).size a) (w : (⟨2, ![N, C]⟩ : Shape).Idx → Elt Ideal e)
    (q : Fin N) (c : Fin C) (hq : o + q.val < R) :
    View.canon (⟨Rect.unit (s := ⟨2, ![R, C]⟩) ![o, 0] (⟨2, ![N, C]⟩ : Shape).size inb, w⟩ :: L) (ix2 ⟨o + q, hq⟩ c) = w (ix2 q c) := by
  refine Eq.trans (congrArg _ ?_) (View.canon_cons_emb (Rect.unit (s := ⟨2, ![R, C]⟩) ![o, 0] (⟨2, ![N, C]⟩ : Shape).size inb) w L (ix2 q c))
  funext a
  match a with
  | 0 => apply Fin.ext; show o + q.val = o + 1 * q.val; omega
  | 1 => apply Fin.ext; show c.val = 0 + 1 * c.val; omega

/-- and at a row it did not write. -/
theorem canon_out {R N C : ℕ} {e : EltTy} (L : List (View.Piece (Elt Ideal) ⟨2, ![R, C]⟩ e)) (o : ℕ)
    (inb : ∀ a, ![o, 0] a + (⟨2, ![N, C]⟩ : Shape).size a ≤ (⟨2, ![R, C]⟩ : Shape).size a) (w : (⟨2, ![N, C]⟩ : Shape).Idx → Elt Ideal e)
    (i : Fin R) (c : Fin C) (hi : i.val < o ∨ o + N ≤ i.val) :
    View.canon (⟨Rect.unit (s := ⟨2, ![R, C]⟩) ![o, 0] (⟨2, ![N, C]⟩ : Shape).size inb, w⟩ :: L) (ix2 i c) = View.canon L (ix2 i c) :=
  View.canon_cons_of_not_mem _ L fun h => by have := (tile_mem o inb i c).1 h; omega

section Point
variable (x0 : Vec Ideal S8x64x256 .bf16) (x1 : Vec Ideal S64x256 .bf16) (x2 : Vec Ideal S64x512 .bf16)
  (x3 : Vec Ideal S1x4096x256 .f32) (x4 : Vec Ideal S1x32x4096 .f32) (x5 : Vec Ideal S8x256x256 .bf16)

/-- A whole load of a whole store. -/
theorem canon_whole {R C : ℕ} {e : EltTy} (L : List (View.Piece (Elt Ideal) ⟨2, ![R, C]⟩ e))
    (inb : ∀ a, ![0, 0] a + (⟨2, ![R, C]⟩ : Shape).size a ≤ (⟨2, ![R, C]⟩ : Shape).size a) (w : (⟨2, ![R, C]⟩ : Shape).Idx → Elt Ideal e)
    (i : Fin R) (c : Fin C) :
    View.canon (⟨Rect.unit (s := ⟨2, ![R, C]⟩) ![0, 0] (⟨2, ![R, C]⟩ : Shape).size inb, w⟩ :: L) (ix2 i c) = w (ix2 i c) :=
  (congrArg (fun j => View.canon (⟨Rect.unit (s := ⟨2, ![R, C]⟩) ![0, 0] (⟨2, ![R, C]⟩ : Shape).size inb, w⟩ :: L) (ix2 j c))
    (Fin.ext (Nat.zero_add _).symm)).trans (canon_in L 0 inb w i c (by omega))

theorem cast0 {n : ℕ} (i : Fin n) (h : 0 + i.val < n) : (⟨0 + i.val, h⟩ : Fin n) = i := Fin.ext (Nat.zero_add _)

/-- Row `i` of the stacked queries: head `i / 64`, query `i % 64`. -/
def qRow (i : Fin 512) (c : Fin 256) : EReal := x0 (ix3 ⟨i / 64, by omega⟩ ⟨i % 64, by omega⟩ c)
def rRow (i : Fin 512) (d : Fin 32) : EReal := x1 (ix2 ⟨i % 64, by omega⟩ ⟨32 * (i / 64) + d, by omega⟩)

theorem qAll_apply (i : Fin 512) (c : Fin 256) : qAll x0 (ix2 i c) = qRow x0 i c := by
  unfold qAll; rw [readCov_rows _ _ 0 _ i c (by omega), cast0]; exact qs_apply x0 i c
theorem qLo_apply (i : Fin 256) (c : Fin 256) : qLo x0 (ix2 i c) = qRow x0 ⟨0 + i, by omega⟩ c := by
  unfold qLo; rw [readCov_rows _ _ 0 _ i c (by omega)]; exact qs_apply x0 _ c
theorem qHi_apply (i : Fin 256) (c : Fin 256) : qHi x0 (ix2 i c) = qRow x0 ⟨256 + i, by omega⟩ c := by
  unfold qHi; rw [readCov_rows _ _ 256 _ i c (by omega)]; exact qs_apply x0 _ c
theorem rAll_apply (i : Fin 512) (d : Fin 32) : rAll x1 (ix2 i d) = rRow x1 i d := by
  unfold rAll; rw [readCov_rows _ _ 0 _ i d (by omega), cast0]; exact rs_apply x1 i d
theorem rLo_apply (i : Fin 256) (d : Fin 32) : rLo x1 (ix2 i d) = rRow x1 ⟨0 + i, by omega⟩ d := by
  unfold rLo; rw [readCov_rows _ _ 0 _ i d (by omega)]; exact rs_apply x1 _ d
theorem rHi_apply (i : Fin 256) (d : Fin 32) : rHi x1 (ix2 i d) = rRow x1 ⟨256 + i, by omega⟩ d := by
  unfold rHi; rw [readCov_rows _ _ 256 _ i d (by omega)]; exact rs_apply x1 _ d

/-- The score of row `i` against new key `k`, -/
def sNew (i : Fin 512) (k : Fin 64) : EReal :=
  ∑ c : Fin 256, qRow x0 i c * x2 (ix2 k ⟨c, by omega⟩) + ∑ d : Fin 32, rRow x1 i d * x2 (ix2 k ⟨256 + d, by omega⟩)
/-- and against cached key `k`. -/
def sOld (i : Fin 512) (k : Fin 4096) : EReal :=
  ∑ c : Fin 256, qRow x0 i c * x3 (ix3 0 k c) + ∑ d : Fin 32, rRow x1 i d * x4 (ix3 0 d k)

theorem newK_eq : newK x2 = x2 := View.ld_unit_lit' (S := S64x512) _ _ (by intro a; match a with | 0 => rfl | 1 => rfl)
theorem cacheC_eq : cacheC x3 = x3 := View.ld_unit_lit' (S := S1x4096x256) _ _ (by intro a; match a with | 0 => rfl | 1 => rfl | 2 => rfl)
theorem cacheR_eq : cacheR x4 = x4 := View.ld_unit_lit' (S := S1x32x4096) _ _ (by intro a; match a with | 0 => rfl | 1 => rfl | 2 => rfl)

theorem score_new (i : Fin 512) (k : Fin 64) :
    k0_pay27 (F := Ideal) (k0_pay25 (newK x2)) (qAll x0) (k0_pay26 (newK x2)) (rAll x1) (ix2 i k) = sNew x0 x1 x2 i k := by
  rw [pay27, newK_eq]; simp only [pay25, pay26, qAll_apply, rAll_apply]; rfl
theorem score_lo (i : Fin 256) (k : Fin 4096) :
    k0_pay42 (F := Ideal) (cacheC x3) (cacheR x4) (qLo x0) (rLo x1) (ix2 i k) = sOld x0 x1 x3 x4 ⟨0 + i, by omega⟩ k := by
  rw [pay42, cacheC_eq, cacheR_eq]; simp only [qLo_apply, rLo_apply]; rfl
theorem score_hi (i : Fin 256) (k : Fin 4096) :
    k0_pay42 (F := Ideal) (cacheC x3) (cacheR x4) (qHi x0) (rHi x1) (ix2 i k) = sOld x0 x1 x3 x4 ⟨256 + i, by omega⟩ k := by
  rw [pay42, cacheC_eq, cacheR_eq]; simp only [qHi_apply, rHi_apply]; rfl

/-- The state at the start, on every row. -/
theorem st0 (i : Fin 512) : St (fun k => m0 (F := Ideal) (ix2 i k)) (fun k => l0 (F := Ideal) (ix2 i k)) (fun c => a0 (F := Ideal) (ix2 i c)) 0 (fun _ => 0) := by
  obtain ⟨μ, hμ⟩ := bits_start
  have h1 : ∀ k, m0 (F := Ideal) (ix2 i k) = (μ : EReal) := fun k => by
    unfold m0 mL0; rw [readCov_rows _ _ 0 _ i k (by omega), cast0, canon_whole, ← hμ]; pointwise [k0_pay22]
  have h2 : ∀ k, l0 (F := Ideal) (ix2 i k) = 0 := fun k => by
    unfold l0 lL0; rw [readCov_rows _ _ 0 _ i k (by omega), cast0, canon_whole]; pointwise [k0_pay23]
  have h3 : ∀ k, a0 (F := Ideal) (ix2 i k) = 0 := fun k => by
    unfold a0 aL0; rw [readCov_rows _ _ 0 _ i k (by omega), cast0, canon_whole]; pointwise [k0_pay24]
  simp only [h1, h2, h3]
  exact St.start μ

variable (u2 : Fin 64 → Fin 256 → ℝ) (u3 : Fin 4096 → Fin 256 → ℝ)

/-- After the new keys. -/
theorem st1 (i : Fin 512) (hs : ∀ k, sNew x0 x1 x2 i k ≠ ⊤) (hv : ∀ (k : Fin 64) (c : Fin 256), x2 (ix2 k ⟨c, by omega⟩) = (u2 k c : EReal)) :
    St (fun k => m1 x0 x1 x2 (ix2 i k)) (fun k => l1 x0 x1 x2 (ix2 i k)) (fun c => a1 x0 x1 x2 (ix2 i c))
      (0 + ∑ k, wt (sNew x0 x1 x2 i k)) (fun c => 0 + ∑ k, wt (sNew x0 x1 x2 i k) * u2 k c) := by
  have h := step_new (k0_pay25 (newK x2)) (qAll x0) (k0_pay26 (newK x2)) (rAll x1) m0 l0 a0 i u2 (st0 i)
    (fun k => by rw [score_new]; exact hs k) (fun k c => by rw [pay25, newK_eq]; exact hv k c)
  simp only [score_new] at h
  exact h

/-- The first half's rows as the second tile loads them, -/
theorem st1lo (i : Fin 256) : (∀ k, m1lo x0 x1 x2 (ix2 i k) = m1 x0 x1 x2 (ix2 ⟨0 + i, by omega⟩ k))
    ∧ (∀ k, l1lo x0 x1 x2 (ix2 i k) = l1 x0 x1 x2 (ix2 ⟨0 + i, by omega⟩ k))
    ∧ ∀ c, a1lo x0 x1 x2 (ix2 i c) = a1 x0 x1 x2 (ix2 ⟨0 + i, by omega⟩ c) := by
  refine ⟨fun k => ?_, fun k => ?_, fun k => ?_⟩
  · unfold m1lo mL1; rw [readCov_rows _ _ 0 _ i k (by omega), canon_whole]
  · unfold l1lo lL1; rw [readCov_rows _ _ 0 _ i k (by omega), canon_whole]
  · unfold a1lo aL1; rw [readCov_rows _ _ 0 _ i k (by omega), canon_whole]

/-- and the second half's, the first half's results already stored. -/
theorem st1hi (i : Fin 256) : (∀ k, m1hi x0 x1 x2 x3 x4 (ix2 i k) = m1 x0 x1 x2 (ix2 ⟨256 + i, by omega⟩ k))
    ∧ (∀ k, l1hi x0 x1 x2 x3 x4 (ix2 i k) = l1 x0 x1 x2 (ix2 ⟨256 + i, by omega⟩ k))
    ∧ ∀ c, a1hi x0 x1 x2 x3 x4 (ix2 i c) = a1 x0 x1 x2 (ix2 ⟨256 + i, by omega⟩ c) := by
  refine ⟨fun k => ?_, fun k => ?_, fun k => ?_⟩
  · unfold m1hi mL2 mL1; rw [readCov_rows _ _ 256 _ i k (by omega), canon_out _ _ _ _ _ _ (by right; show 0 + 256 ≤ 256 + i.val; omega), canon_whole]
  · unfold l1hi lL2 lL1; rw [readCov_rows _ _ 256 _ i k (by omega), canon_out _ _ _ _ _ _ (by right; show 0 + 256 ≤ 256 + i.val; omega), canon_whole]
  · unfold a1hi aL2 aL1; rw [readCov_rows _ _ 256 _ i k (by omega), canon_out _ _ _ _ _ _ (by right; show 0 + 256 ≤ 256 + i.val; omega), canon_whole]

/-- The two halves as the end loads them. -/
theorem end_lo (i : Fin 256) : (∀ k, lEnd x0 x1 x2 x3 x4 (ix2 ⟨0 + i, by omega⟩ k) = l2lo x0 x1 x2 x3 x4 (ix2 i k))
    ∧ ∀ c, aEnd x0 x1 x2 x3 x4 (ix2 ⟨0 + i, by omega⟩ c) = a2lo x0 x1 x2 x3 x4 (ix2 i c) := by
  refine ⟨fun k => ?_, fun k => ?_⟩
  · unfold lEnd lL2; rw [readCov_rows _ _ 0 _ _ k (by show 0 + (0 + i.val) < 512; omega), cast0, canon_out _ _ _ _ _ _ (by left; show 0 + i.val < 256; omega), canon_in]
  · unfold aEnd aL2; rw [readCov_rows _ _ 0 _ _ k (by show 0 + (0 + i.val) < 512; omega), cast0, canon_out _ _ _ _ _ _ (by left; show 0 + i.val < 256; omega), canon_in]
theorem end_hi (i : Fin 256) : (∀ k, lEnd x0 x1 x2 x3 x4 (ix2 ⟨256 + i, by omega⟩ k) = l2hi x0 x1 x2 x3 x4 (ix2 i k))
    ∧ ∀ c, aEnd x0 x1 x2 x3 x4 (ix2 ⟨256 + i, by omega⟩ c) = a2hi x0 x1 x2 x3 x4 (ix2 i c) := by
  refine ⟨fun k => ?_, fun k => ?_⟩
  · unfold lEnd; rw [readCov_rows _ _ 0 _ _ k (by show 0 + (256 + i.val) < 512; omega), cast0, canon_in]
  · unfold aEnd; rw [readCov_rows _ _ 0 _ _ k (by show 0 + (256 + i.val) < 512; omega), cast0, canon_in]

/-- The sum of the weights of row `i` over all keys, and of the weighted latents. -/
def Lsum (i : Fin 512) : ℝ := 0 + ∑ k, wt (sNew x0 x1 x2 i k) + ∑ k, wt (sOld x0 x1 x3 x4 i k)
def Asum (i : Fin 512) (c : Fin 256) : ℝ := 0 + ∑ k, wt (sNew x0 x1 x2 i k) * u2 k c + ∑ k, wt (sOld x0 x1 x3 x4 i k) * u3 k c

/-- A row of the first half, of the second half. -/
theorem row_lo (i : Fin 512) (hi : i.val < 256) : ∃ j : Fin 256, i = ⟨0 + j, by clear hi i; omega⟩ := ⟨⟨i, hi⟩, Fin.ext (Nat.zero_add _).symm⟩
theorem row_hi (i : Fin 512) (hi : ¬ i.val < 256) : ∃ j : Fin 256, i = ⟨256 + j, by clear hi i; omega⟩ :=
  ⟨⟨i - 256, by omega⟩, Fin.ext (by show i.val = 256 + (i.val - 256); omega)⟩

/-- After all keys, on every row. -/
theorem stEnd (i : Fin 512) (hs : ∀ k, sNew x0 x1 x2 i k ≠ ⊤) (hv : ∀ (k : Fin 64) (c : Fin 256), x2 (ix2 k ⟨c, by omega⟩) = (u2 k c : EReal))
    (hs' : ∀ k, sOld x0 x1 x3 x4 i k ≠ ⊤) (hv' : ∀ (k : Fin 4096) (c : Fin 256), x3 (ix3 0 k c) = (u3 k c : EReal)) :
    ∃ m, St m (fun k => lEnd x0 x1 x2 x3 x4 (ix2 i k)) (fun c => aEnd x0 x1 x2 x3 x4 (ix2 i c))
      (Lsum x0 x1 x2 x3 x4 i) (Asum x0 x1 x2 x3 x4 u2 u3 i) := by
  have hval : ∀ (k : Fin 4096) (c : Fin 256), k0_pay39 (F := Ideal) (cacheC x3) (ix2 k c) = (u3 k c : EReal) := fun k c => by
    rw [pay39, cacheC_eq]; exact hv' k c
  have h1 := st1 x0 x1 x2 u2 i hs hv
  by_cases hi : i.val < 256
  · obtain ⟨j, rfl⟩ := row_lo i hi
    obtain ⟨e1, e2, e3⟩ := st1lo x0 x1 x2 j
    simp only [← e1, ← e2, ← e3] at h1
    obtain ⟨f1, f2⟩ := end_lo x0 x1 x2 x3 x4 j
    have h := step_cache (k0_pay42 (cacheC x3) (cacheR x4) (qLo x0) (rLo x1)) (k0_pay39 (cacheC x3)) _ _ _ j u3 h1
      (fun k => by rw [score_lo]; exact hs' k) hval
    simp only [score_lo] at h
    refine ⟨fun k => k0_pay50 (F := Ideal) (k0_pay42 (cacheC x3) (cacheR x4) (qLo x0) (rLo x1)) (m1lo x0 x1 x2) (ix2 j k), ?_⟩
    simp only [f1, f2]; unfold l2lo a2lo; rw [pay47, pay49]; exact h
  · obtain ⟨j, rfl⟩ := row_hi i hi
    obtain ⟨e1, e2, e3⟩ := st1hi x0 x1 x2 x3 x4 j
    simp only [← e1, ← e2, ← e3] at h1
    obtain ⟨f1, f2⟩ := end_hi x0 x1 x2 x3 x4 j
    have h := step_cache (k0_pay42 (cacheC x3) (cacheR x4) (qHi x0) (rHi x1)) (k0_pay39 (cacheC x3)) _ _ _ j u3 h1
      (fun k => by rw [score_hi]; exact hs' k) hval
    simp only [score_hi] at h
    refine ⟨fun k => k0_pay50 (F := Ideal) (k0_pay42 (cacheC x3) (cacheR x4) (qHi x0) (rHi x1)) (m1hi x0 x1 x2 x3 x4) (ix2 j k), ?_⟩
    simp only [f1, f2]; exact h

/-- The normalised accumulator of row `i`: the weighted mean of the latents. -/
def oLat (i : Fin 512) (c : Fin 256) : ℝ := Asum x0 x1 x2 x3 x4 u2 u3 i c / Lsum x0 x1 x2 x3 x4 i

/-- One head's part of the result: query `q` of head `h` against column `o` of the head's projection. -/
def headPart (h : Fin 8) (q : Fin 64) (o : Fin 256) : EReal :=
  ∑ c : Fin 256, (oLat x0 x1 x2 x3 x4 u2 u3 ⟨64 * h + q, by omega⟩ c : EReal) * x5 (ix3 h c o)

theorem ld_head (h : Fin 8) (inb : ∀ a, ![h.val, 0, 0] a + S1x256x256.size a ≤ S8x256x256.size a) (c o : Fin 256) :
    View.ld x5 (Rect.unit (s := S8x256x256) ![h.val, 0, 0] S1x256x256.size inb) (ix3 0 c o) = x5 (ix3 h c o) := by
  show x5 _ = _
  congr 1
  funext a
  match a with
  | 0 => apply Fin.ext; show h.val + 1 * 0 = h.val; omega
  | 1 => apply Fin.ext; show 0 + 1 * c.val = c.val; omega
  | 2 => apply Fin.ext; show 0 + 1 * o.val = o.val; omega

theorem headPart_eq (h : Fin 8) (n : ℕ) (hn : n = 64 * h.val) (inb : ∀ a, ![h.val, 0, 0] a + S1x256x256.size a ≤ S8x256x256.size a)
    (q : Fin 64) (o : Fin 256) (hq : n + q.val < 512) :
    ∑ c : Fin 256, (oLat x0 x1 x2 x3 x4 u2 u3 ⟨n + q, hq⟩ c : EReal) * View.ld x5 (Rect.unit (s := S8x256x256) ![h.val, 0, 0] S1x256x256.size inb) (ix3 0 c o)
      = headPart x0 x1 x2 x3 x4 x5 u2 u3 h q o := by
  subst hn
  exact Finset.sum_congr rfl fun c _ => congrArg _ (ld_head x5 h inb c o)

section Out
variable (hs : ∀ i k, sNew x0 x1 x2 i k ≠ ⊤) (hv : ∀ (k : Fin 64) (c : Fin 256), x2 (ix2 k ⟨c, by omega⟩) = (u2 k c : EReal))
  (hs' : ∀ i k, sOld x0 x1 x3 x4 i k ≠ ⊤) (hv' : ∀ (k : Fin 4096) (c : Fin 256), x3 (ix3 0 k c) = (u3 k c : EReal))
  (hL : ∀ i, Lsum x0 x1 x2 x3 x4 i ≠ 0)
include hs hv hs' hv' hL

/-- The normalised rows. -/
theorem norm_row (i : Fin 512) (c : Fin 256) :
    k0_pay34 (F := Ideal) (aEnd x0 x1 x2 x3 x4) (lEnd x0 x1 x2 x3 x4) (ix2 i c) = (oLat x0 x1 x2 x3 x4 u2 u3 i c : EReal) := by
  obtain ⟨m, h⟩ := stEnd x0 x1 x2 x3 x4 u2 u3 i (hs i) hv (hs' i) hv'
  rw [pay34]
  exact h.finish (hL i) (lane c) c

/-- The result's first 256 columns are the first four heads' parts added, -/
theorem out_lo (q : Fin 64) (o : Fin 256) : View.canon (outPieces x0 x1 x2 x3 x4 x5) (ix2 q ⟨o, by omega⟩)
    = ∑ j : Fin 4, headPart x0 x1 x2 x3 x4 x5 u2 u3 ⟨j, by omega⟩ q o := by
  have h1 : View.canon (outPieces x0 x1 x2 x3 x4 x5) (ix2 q ⟨o, by omega⟩)
      = k0_pay35 (F := Ideal) (aEnd x0 x1 x2 x3 x4) (lEnd x0 x1 x2 x3 x4) (w0 x5) (w1 x5) (w2 x5) (w3 x5) (ix2 q o) := by
    unfold outPieces
    refine (View.canon_cons_of_not_mem _ _ fun h => ?_).trans (Eq.trans (congrArg _ ?_) (View.canon_cons_emb
      (Rect.unit (s := S64x512) ![0, 0] S64x256.size inb_S64x512_S64x256_0_0) _ [] (ix2 q o)))
    · have h2 : 256 ≤ o.val := (Rect.mem_set_unit (inb := inb_S64x512_S64x256_0_256).1 h 1).1
      omega
    · funext a
      match a with
      | 0 => apply Fin.ext; show q.val = 0 + 1 * q.val; omega
      | 1 => apply Fin.ext; show o.val = 0 + 1 * o.val; omega
  rw [h1, pay35, Fin.sum_univ_four]
  simp only [norm_row x0 x1 x2 x3 x4 u2 u3 hs hv hs' hv' hL]
  exact congrArg₂ (· + ·) (congrArg₂ (· + ·) (congrArg₂ (· + ·)
    (headPart_eq x0 x1 x2 x3 x4 x5 u2 u3 0 0 rfl inb_S8x256x256_S1x256x256_0_0_0 q o (by omega))
    (headPart_eq x0 x1 x2 x3 x4 x5 u2 u3 1 64 rfl inb_S8x256x256_S1x256x256_1_0_0 q o (by omega)))
    (headPart_eq x0 x1 x2 x3 x4 x5 u2 u3 2 128 rfl inb_S8x256x256_S1x256x256_2_0_0 q o (by omega)))
    (headPart_eq x0 x1 x2 x3 x4 x5 u2 u3 3 192 rfl inb_S8x256x256_S1x256x256_3_0_0 q o (by omega))

/-- and its last 256 columns the last four heads'. -/
theorem out_hi (q : Fin 64) (o : Fin 256) : View.canon (outPieces x0 x1 x2 x3 x4 x5) (ix2 q ⟨256 + o, by omega⟩)
    = ∑ j : Fin 4, headPart x0 x1 x2 x3 x4 x5 u2 u3 ⟨4 + j, by omega⟩ q o := by
  have h1 : View.canon (outPieces x0 x1 x2 x3 x4 x5) (ix2 q ⟨256 + o, by omega⟩)
      = k0_pay3 (F := Ideal) (k0_pay34 (aEnd x0 x1 x2 x3 x4) (lEnd x0 x1 x2 x3 x4)) (k0_pay36 (aEnd x0 x1 x2 x3 x4) (lEnd x0 x1 x2 x3 x4) (w4 x5))
        (k0_pay37 (aEnd x0 x1 x2 x3 x4) (lEnd x0 x1 x2 x3 x4)) (w5 x5) (w6 x5) (w7 x5) (ix2 q o) := by
    unfold outPieces
    refine Eq.trans (congrArg _ ?_) (View.canon_cons_emb
      (Rect.unit (s := S64x512) ![0, 256] S64x256.size inb_S64x512_S64x256_0_256) _ _ (ix2 q o))
    funext a
    match a with
    | 0 => apply Fin.ext; show q.val = 0 + 1 * q.val; omega
    | 1 => apply Fin.ext; show 256 + o.val = 256 + 1 * o.val; omega
  rw [h1, pay3, Fin.sum_univ_four]
  simp only [norm_row x0 x1 x2 x3 x4 u2 u3 hs hv hs' hv' hL]
  exact congrArg₂ (· + ·) (congrArg₂ (· + ·) (congrArg₂ (· + ·)
    (headPart_eq x0 x1 x2 x3 x4 x5 u2 u3 4 256 rfl inb_S8x256x256_S1x256x256_4_0_0 q o (by omega))
    (headPart_eq x0 x1 x2 x3 x4 x5 u2 u3 5 320 rfl inb_S8x256x256_S1x256x256_5_0_0 q o (by omega)))
    (headPart_eq x0 x1 x2 x3 x4 x5 u2 u3 6 384 rfl inb_S8x256x256_S1x256x256_6_0_0 q o (by omega)))
    (headPart_eq x0 x1 x2 x3 x4 x5 u2 u3 7 448 rfl inb_S8x256x256_S1x256x256_7_0_0 q o (by omega))

/-- The result at head `h`'s value column `v`, when the projections' blocks are head `h`'s own weights at its own place among the
    four and zero at the others'. -/
theorem out_head (W : Fin 256 → Fin 8 → Fin 64 → EReal)
    (hw : ∀ (h : Fin 8) (c : Fin 256) (j : Fin 4) (v : Fin 64), x5 (ix3 h c ⟨64 * j + v, by omega⟩) = if h.val % 4 = j.val then W c h v else 0)
    (q : Fin 64) (h : Fin 8) (v : Fin 64) : View.canon (outPieces x0 x1 x2 x3 x4 x5) (ix2 q ⟨64 * h + v, by omega⟩)
    = ∑ c : Fin 256, (oLat x0 x1 x2 x3 x4 u2 u3 ⟨64 * h + q, by omega⟩ c : EReal) * W c h v := by
  have hp : ∀ (h' : Fin 8) (j : Fin 4), headPart x0 x1 x2 x3 x4 x5 u2 u3 h' q ⟨64 * j + v, by omega⟩
      = if h'.val % 4 = j.val then ∑ c : Fin 256, (oLat x0 x1 x2 x3 x4 u2 u3 ⟨64 * h' + q, by omega⟩ c : EReal) * W c h' v else 0 := fun h' j => by
    unfold headPart
    simp only [hw]
    split
    · rfl
    · exact Finset.sum_eq_zero fun c _ => mul_zero _
  by_cases hh : h.val < 4
  · have e := out_lo x0 x1 x2 x3 x4 x5 u2 u3 hs hv hs' hv' hL q ⟨64 * (⟨h, hh⟩ : Fin 4) + v, by have := v.isLt; show 64 * h.val + v.val < 256; omega⟩
    refine e.trans ?_
    rw [Finset.sum_congr rfl fun (j : Fin 4) _ => hp ⟨j, by omega⟩ ⟨h, hh⟩]
    rw [Finset.sum_eq_single (⟨h, hh⟩ : Fin 4)]
    · rw [if_pos (Nat.mod_eq_of_lt hh)]
    · intro j _ hj
      rw [if_neg]
      intro hc
      exact hj (Fin.ext (by have := j.isLt; show j.val = h.val; simp only at hc; omega))
    · intro hn; exact absurd (Finset.mem_univ _) hn
  · have e := out_hi x0 x1 x2 x3 x4 x5 u2 u3 hs hv hs' hv' hL q ⟨64 * (⟨h - 4, by omega⟩ : Fin 4) + v, by have := v.isLt; show 64 * (h.val - 4) + v.val < 256; omega⟩
    have ei : (⟨64 * h.val + v.val, by omega⟩ : Fin 512) = ⟨256 + (64 * (h.val - 4) + v.val), by omega⟩ := Fin.ext (by show 64 * h.val + v.val = 256 + (64 * (h.val - 4) + v.val); omega)
    rw [ei]
    refine e.trans ?_
    rw [Finset.sum_congr rfl fun (j : Fin 4) _ => hp ⟨4 + j, by omega⟩ ⟨h - 4, by omega⟩]
    rw [Finset.sum_eq_single (⟨h - 4, by omega⟩ : Fin 4)]
    · rw [if_pos (by show (4 + (h.val - 4)) % 4 = h.val - 4; omega)]
      have eh : (⟨4 + (h.val - 4), by omega⟩ : Fin 8) = h := Fin.ext (by show 4 + (h.val - 4) = h.val; omega)
      exact congrArg (fun h' : Fin 8 => ∑ c : Fin 256, (oLat x0 x1 x2 x3 x4 u2 u3 ⟨64 * h' + q, by omega⟩ c : EReal) * W c h' v) eh
    · intro j _ hj
      rw [if_neg]
      intro hc
      exact hj (Fin.ext (by have := j.isLt; show j.val = h.val - 4; simp only at hc; omega))
    · intro hn; exact absurd (Finset.mem_univ _) hn

end Out

end Point

end Cert.KernelIdeal.Block
-- ==== Proof.Common.lean ====
module

public import proofs.«01_k».proof.Proof.Online

@[expose] public section

noncomputable section

/-! # The layer over the reals

Both programs compute, for one batch, one query and one head, the average of the latents weighted by the exponentials of
the scaled scores, followed by the value projection. -/

namespace Cert.Layer

open Idealize.ShloMosaic

variable (a0 : Fin 32 → Fin 64 → Fin 8 → Fin 256 → ℝ) (a1 : Fin 32 → Fin 64 → Fin 8 → Fin 32 → ℝ)
  (a2 : Fin 32 → Fin 64 → Fin 256 → ℝ) (a3 : Fin 32 → Fin 64 → Fin 32 → ℝ)
  (a4 : Fin 32 → Fin 4096 → Fin 256 → ℝ) (a5 : Fin 32 → Fin 4096 → Fin 32 → ℝ)

/-- The product of a query with a key, before the scale. -/
def dotNew (b : Fin 32) (q : Fin 64) (h : Fin 8) (k : Fin 64) : ℝ :=
  ∑ e, a0 b q h e * a2 b k e + ∑ d, a1 b q h d * a3 b k d
def dotOld (b : Fin 32) (q : Fin 64) (h : Fin 8) (k : Fin 4096) : ℝ :=
  ∑ e, a0 b q h e * a4 b k e + ∑ d, a1 b q h d * a5 b k d

/-- The weight of a key: the exponential of the scaled score. -/
def wNew (b : Fin 32) (q : Fin 64) (h : Fin 8) (k : Fin 64) : ℝ := Real.exp (dotNew a0 a1 a2 a3 b q h k * (√96)⁻¹)
def wOld (b : Fin 32) (q : Fin 64) (h : Fin 8) (k : Fin 4096) : ℝ := Real.exp (dotOld a0 a1 a4 a5 b q h k * (√96)⁻¹)

/-- The sum of the weights, and of the latents under them. -/
def den (b : Fin 32) (q : Fin 64) (h : Fin 8) : ℝ :=
  ∑ k, wNew a0 a1 a2 a3 b q h k + ∑ k, wOld a0 a1 a4 a5 b q h k
def num (b : Fin 32) (q : Fin 64) (h : Fin 8) (e : Fin 256) : ℝ :=
  ∑ k, wNew a0 a1 a2 a3 b q h k * a2 b k e + ∑ k, wOld a0 a1 a4 a5 b q h k * a4 b k e

theorem den_pos (b : Fin 32) (q : Fin 64) (h : Fin 8) : 0 < den a0 a1 a2 a3 a4 a5 b q h :=
  add_pos (Finset.sum_pos (fun _ _ => Real.exp_pos _) Finset.univ_nonempty)
    (Finset.sum_pos (fun _ _ => Real.exp_pos _) Finset.univ_nonempty)

theorem wte_coe (x : ℝ) : Cert.Online.wte (x : EReal) = Real.exp x := by
  simp [Cert.Online.wte]

theorem wt_scaled' (x : ℝ) : Cert.Online.wt ((x * (√96)⁻¹ * (Real.log 2)⁻¹ : ℝ) : EReal) = Real.exp (x * (√96)⁻¹) := by
  rw [Cert.Online.wt_scaled, wte_coe]

end Cert.Layer
-- ==== Proof.Attend.lean ====
module

public import proofs.«01_k».proof.Proof.Blocks
public import proofs.«01_k».proof.Proof.Stage
public import proofs.«01_k».proof.Proof.Common

@[expose] public section

set_option maxRecDepth 16384

noncomputable section

/-! # What the kernel leaves in its result -/

namespace Cert.KernelIdeal.Host

open Idealize.ShloMosaic Idealize.ShloMosaic.TcCoe Idealize.ShloMosaic.Tactic
open Idealize.SL Idealize.SL.Sem
open Cert.KernelIdeal Cert.KernelIdeal.Gen Cert.KernelIdeal.Block Cert.Layer

variable (m : (ℓ : Loc nD τ sig) → Buf (Elt Ideal) ℓ) (c : Dev nD) (t : Fin cfg0.N)

variable (a0 : Fin 32 → Fin 64 → Fin 8 → Fin 256 → ℝ) (a1 : Fin 32 → Fin 64 → Fin 8 → Fin 32 → ℝ)
  (a2 : Fin 32 → Fin 64 → Fin 256 → ℝ) (a3 : Fin 32 → Fin 64 → Fin 32 → ℝ)
  (a4 : Fin 32 → Fin 4096 → Fin 256 → ℝ) (a5 : Fin 32 → Fin 4096 → Fin 32 → ℝ)

/-- A dot product whose left factors carry the scale. -/
theorem dot_scaled {n n' : ℕ} (x y : Fin n → ℝ) (x' y' : Fin n' → ℝ) :
    (∑ e, ((x e : EReal) * ((scale : ℝ) : EReal)) * (y e : EReal)
      + ∑ d, ((x' d : EReal) * ((scale : ℝ) : EReal)) * (y' d : EReal) : EReal)
    = (((∑ e, x e * y e + ∑ d, x' d * y' d) * (√96)⁻¹ * (Real.log 2)⁻¹ : ℝ) : EReal) := by
  have h1 : ∀ {n : ℕ} (x y : Fin n → ℝ), (∑ e, ((x e : EReal) * ((scale : ℝ) : EReal)) * (y e : EReal) : EReal)
      = ((∑ e, x e * scale * y e : ℝ) : EReal) := fun x y => by
    rw [← Online.coe_sum]
    exact Finset.sum_congr rfl fun e _ => by rw [EReal.coe_mul, EReal.coe_mul]
  rw [h1, h1, ← EReal.coe_add, mul_assoc, show (√96)⁻¹ * (Real.log 2)⁻¹ = scale from rfl, add_mul, Finset.sum_mul,
    Finset.sum_mul]
  congr 3 <;> exact funext fun _ => by ring

section
variable (h0 : ∀ b q h e, qLat m c (ix4 b q h e) = ((a0 b q h e : ℝ) : EReal))
  (h1 : ∀ b q h d, qRope m c (ix4 b q h d) = ((a1 b q h d : ℝ) : EReal))
  (h2 : ∀ b k e, cNew m c (ix3 b k e) = ((a2 b k e : ℝ) : EReal))
  (h3 : ∀ b k d, krNew m c (ix3 b k d) = ((a3 b k d : ℝ) : EReal))
  (h4 : ∀ b k e, cOld m c (ix3 b k e) = ((a4 b k e : ℝ) : EReal))
  (h5 : ∀ b k d, krOld m c (ix3 b k d) = ((a5 b k d : ℝ) : EReal))
include h0 h1

include h2 h3 in
theorem sNew_eq (i : Fin 512) (k : Fin 64) : sNew (iblk m c 0 t) (iblk m c 1 t) (iblk m c 2 t) i k
    = ((dotNew a0 a1 a2 a3 (bat t) ⟨i.val % 64, by omega⟩ ⟨i.val / 64, by omega⟩ k * (√96)⁻¹ * (Real.log 2)⁻¹ : ℝ) : EReal) := by
  refine Eq.trans ?_ (dot_scaled (fun e => a0 (bat t) ⟨i.val % 64, by omega⟩ ⟨i.val / 64, by omega⟩ e) (fun e => a2 (bat t) k e)
    (fun d => a1 (bat t) ⟨i.val % 64, by omega⟩ ⟨i.val / 64, by omega⟩ d) (fun d => a3 (bat t) k d))
  refine congrArg₂ (· + ·) (Finset.sum_congr rfl fun e _ => congrArg₂ (· * ·) ?_ ?_)
    (Finset.sum_congr rfl fun d _ => congrArg₂ (· * ·) ?_ ?_)
  · exact (b0 m c t _ _ _).trans (congrArg (· * _) (h0 _ _ _ _))
  · exact (b2_new m c t _ _).trans (h2 _ _ _)
  · exact (b1 m c t ⟨i.val % 64, by omega⟩ ⟨i.val / 64, by omega⟩ d).trans (congrArg (· * _) (h1 _ _ _ _))
  · exact (b2_rope m c t _ _).trans (h3 _ _ _)

include h4 h5 in
theorem sOld_eq (i : Fin 512) (k : Fin 4096) : sOld (iblk m c 0 t) (iblk m c 1 t) (iblk m c 3 t) (iblk m c 4 t) i k
    = ((dotOld a0 a1 a4 a5 (bat t) ⟨i.val % 64, by omega⟩ ⟨i.val / 64, by omega⟩ k * (√96)⁻¹ * (Real.log 2)⁻¹ : ℝ) : EReal) := by
  refine Eq.trans ?_ (dot_scaled (fun e => a0 (bat t) ⟨i.val % 64, by omega⟩ ⟨i.val / 64, by omega⟩ e) (fun e => a4 (bat t) k e)
    (fun d => a1 (bat t) ⟨i.val % 64, by omega⟩ ⟨i.val / 64, by omega⟩ d) (fun d => a5 (bat t) k d))
  refine congrArg₂ (· + ·) (Finset.sum_congr rfl fun e _ => congrArg₂ (· * ·) ?_ ?_)
    (Finset.sum_congr rfl fun d _ => congrArg₂ (· * ·) ?_ ?_)
  · exact (b0 m c t _ _ _).trans (congrArg (· * _) (h0 _ _ _ _))
  · exact (b3 m c t _ _).trans (h4 _ _ _)
  · exact (b1 m c t ⟨i.val % 64, by omega⟩ ⟨i.val / 64, by omega⟩ d).trans (congrArg (· * _) (h1 _ _ _ _))
  · exact (b4 m c t _ _).trans (h5 _ _ _)

include h2 h3 h4 h5

theorem Lsum_eq (i : Fin 512) : Lsum (iblk m c 0 t) (iblk m c 1 t) (iblk m c 2 t) (iblk m c 3 t) (iblk m c 4 t) i
    = den a0 a1 a2 a3 a4 a5 (bat t) ⟨i.val % 64, by omega⟩ ⟨i.val / 64, by omega⟩ := by
  unfold Lsum den
  rw [zero_add]
  refine congrArg₂ (· + ·) (Finset.sum_congr rfl fun k _ => ?_) (Finset.sum_congr rfl fun k _ => ?_)
  · rw [sNew_eq m c t a0 a1 a2 a3 h0 h1 h2 h3, wt_scaled']; rfl
  · rw [sOld_eq m c t a0 a1 a4 a5 h0 h1 h4 h5, wt_scaled']; rfl

theorem Asum_eq (i : Fin 512) (e : Fin 256) :
    Asum (iblk m c 0 t) (iblk m c 1 t) (iblk m c 2 t) (iblk m c 3 t) (iblk m c 4 t) (a2 (bat t)) (a4 (bat t)) i e
    = num a0 a1 a2 a3 a4 a5 (bat t) ⟨i.val % 64, by omega⟩ ⟨i.val / 64, by omega⟩ e := by
  unfold Asum num
  rw [zero_add]
  refine congrArg₂ (· + ·) (Finset.sum_congr rfl fun k _ => ?_) (Finset.sum_congr rfl fun k _ => ?_)
  · rw [sNew_eq m c t a0 a1 a2 a3 h0 h1 h2 h3, wt_scaled']; rfl
  · rw [sOld_eq m c t a0 a1 a4 a5 h0 h1 h4 h5, wt_scaled']; rfl

theorem result (q : Fin 64) (h : Fin 8) (v : Fin 64) :
    (dats m 0 c).arrAt 6 cfg0.N (ix2 ⟨64 * t.val + q.val, by have := points t; omega⟩ ⟨64 * h.val + v.val, by omega⟩)
    = ∑ e : Fin 256, ((num a0 a1 a2 a3 a4 a5 (bat t) q h e / den a0 a1 a2 a3 a4 a5 (bat t) q h : ℝ) : EReal)
        * wUv m c (ix3 e h v) := by
  have hf : (cfg0.win 6).flush t = true := (by decide +kernel : ∀ t : Fin grid0.N, win0_6.flush t = true) t
  have hr := congrFun (Value.blocks6 m c t hf) (ix2 q ⟨64 * h.val + v.val, by omega⟩)
  rw [Value.flushed6_A, out_open] at hr
  have hi : ((64 * h.val + q.val) % 64 = q.val) ∧ (64 * h.val + q.val) / 64 = h.val := by omega
  have ho := out_head (iblk m c 0 t) (iblk m c 1 t) (iblk m c 2 t) (iblk m c 3 t) (iblk m c 4 t) (iblk m c 5 t)
    (a2 (bat t)) (a4 (bat t)) (fun i k => by rw [sNew_eq m c t a0 a1 a2 a3 h0 h1 h2 h3]; exact EReal.coe_ne_top _)
    (fun k e => (b2_new m c t k e).trans (h2 _ _ _))
    (fun i k => by rw [sOld_eq m c t a0 a1 a4 a5 h0 h1 h4 h5]; exact EReal.coe_ne_top _)
    (fun k e => (b3 m c t k e).trans (h4 _ _ _))
    (fun i => by rw [Lsum_eq m c t a0 a1 a2 a3 a4 a5 h0 h1 h2 h3 h4 h5]; exact (den_pos ..).ne')
    (fun e h v => wUv m c (ix3 e h v)) (fun h e j v => b5 m c t h e j v) q h v
  have e1 : View.read (Elt Ideal) ((cfg0.win 6).blk t).view ((dats m 0 c).arrAt 6 cfg0.N)
      (ix2 q ⟨64 * h.val + v.val, by omega⟩)
      = (dats m 0 c).arrAt 6 cfg0.N (ix2 ⟨64 * t.val + q.val, by have := points t; omega⟩ ⟨64 * h.val + v.val, by omega⟩) := by
    generalize (dats m 0 c).arrAt 6 cfg0.N = X
    blk_ext [idx t]
  rw [e1] at hr
  refine hr.trans (Eq.trans ?_ (ho.trans (Finset.sum_congr rfl fun e _ => congrArg (fun x : ℝ => (x : EReal) * _) ?_)))
  · generalize View.canon (outPieces (iblk m c 0 t) (iblk m c 1 t) (iblk m c 2 t) (iblk m c 3 t) (iblk m c 4 t)
      (iblk m c 5 t)) = X
    blk_ext [idx t]
  · rw [oLat, Lsum_eq m c t a0 a1 a2 a3 a4 a5 h0 h1 h2 h3 h4 h5, Asum_eq m c t a0 a1 a2 a3 a4 a5 h0 h1 h2 h3 h4 h5]
    simp only [hi]
end

end Cert.KernelIdeal.Host
-- ==== Proof.RefAttend.lean ====
module

public import proofs.«01_k».proof.Proof.Gen.ReferenceIdeal.Read
public import proofs.«01_k».proof.Proof.Common
public import Idealize.ShloMosaic.Lib.Pointwise

@[expose] public section

set_option maxRecDepth 16384

noncomputable section

/-! # What the reference computes -/

namespace Cert.ReferenceIdeal.Attend

open Idealize.ShloMosaic Idealize.ShloMosaic.TcCoe Idealize.ShloMosaic.Tactic
open Cert.ReferenceIdeal Cert.ReferenceIdeal.Gen Cert.ReferenceIdeal.Read Cert.Layer

/-- The position of every key divided by the chunk, rounding down, is at most 64; that of every query is 64. -/
theorem chunk_query (q : Fin 64) : val_main_v16 (F := Ideal) (ix1 q) = 64#32 := by
  simp only [val_main_v16_apply, val_main_call1_v0_apply, val_main_call1_v1_apply, val_main_call1_v2_apply, val_main_call1_v5_apply, val_main_call1_v6_apply, val_main_call1_v7_apply, val_main_call1_v8_apply, val_main_call1_c_apply, val_main_call1_v9_apply, val_main_call1_v10_apply, val_main_call1_v11_apply, val_main_call1_c_0_apply, val_main_call1_v12_apply, val_main_call1_v13_apply, val_main_call1_v3, val_main_call1_v4, signi, val_main_v2_apply, val_main_v1_apply, val_main_c_apply,
    val_main_v0_apply, val_main_c_1_apply]
  revert q
  decide +kernel

theorem chunk_key (k : Fin 4160) : IntOp.cmpi .sle (val_main_v14 (F := Ideal) (ix1 k)) 64#32 = 1#1 := by
  simp only [val_main_v14_apply, val_main_call0_v0_apply, val_main_call0_v1_apply, val_main_call0_v2_apply, val_main_call0_v5_apply, val_main_call0_v6_apply, val_main_call0_v7_apply, val_main_call0_v8_apply, val_main_call0_c_apply, val_main_call0_v9_apply, val_main_call0_v10_apply, val_main_call0_v11_apply, val_main_call0_c_0_apply, val_main_call0_v12_apply, val_main_call0_v13_apply, val_main_call0_v3, val_main_call0_v4, signi, val_main_v3_apply, val_main_c_0_apply]
  revert k
  decide +kernel

theorem mask (q : Fin 64) (k : Fin 4160) : val_main_v20 (F := Ideal) (ix2 q k) = 1#1 := by
  pointwise [val_main_v20, val_main_v19, val_main_v18, val_main_v17, val_main_v15]
  rw [chunk_query]
  exact chunk_key k

variable (x0 : (⟨S32x64x8x256, .f32⟩ : BufTy).Contents (Elt Ideal)) (x1 : (⟨S32x64x8x32, .f32⟩ : BufTy).Contents (Elt Ideal))
  (x2 : (⟨S32x64x256, .f32⟩ : BufTy).Contents (Elt Ideal)) (x3 : (⟨S32x64x32, .f32⟩ : BufTy).Contents (Elt Ideal))
  (x4 : (⟨S32x4096x256, .f32⟩ : BufTy).Contents (Elt Ideal)) (x5 : (⟨S32x4096x32, .f32⟩ : BufTy).Contents (Elt Ideal))
  (x6 : (⟨S256x8x64, .f32⟩ : BufTy).Contents (Elt Ideal))

variable (a0 : Fin 32 → Fin 64 → Fin 8 → Fin 256 → ℝ) (a1 : Fin 32 → Fin 64 → Fin 8 → Fin 32 → ℝ)
  (a2 : Fin 32 → Fin 64 → Fin 256 → ℝ) (a3 : Fin 32 → Fin 64 → Fin 32 → ℝ)
  (a4 : Fin 32 → Fin 4096 → Fin 256 → ℝ) (a5 : Fin 32 → Fin 4096 → Fin 32 → ℝ)

theorem v4_old (b : Fin 32) (k : Fin 4096) (e : Fin 256) :
    val_main_v4 (F := Ideal) x2 x4 (ix3 b ⟨k.val, by omega⟩ e) = x4 (ix3 b k e) := by
  pointwise [val_main_v4]
theorem v4_new (b : Fin 32) (k : Fin 64) (e : Fin 256) :
    val_main_v4 (F := Ideal) x2 x4 (ix3 b ⟨4096 + k.val, by omega⟩ e) = x2 (ix3 b k e) := by
  pointwise [val_main_v4]
theorem v5_old (b : Fin 32) (k : Fin 4096) (d : Fin 32) :
    val_main_v5 (F := Ideal) x3 x5 (ix3 b ⟨k.val, by omega⟩ d) = x5 (ix3 b k d) := by
  pointwise [val_main_v5]
theorem v5_new (b : Fin 32) (k : Fin 64) (d : Fin 32) :
    val_main_v5 (F := Ideal) x3 x5 (ix3 b ⟨4096 + k.val, by omega⟩ d) = x3 (ix3 b k d) := by
  pointwise [val_main_v5]

theorem max_is_real {n : ℕ} (f : Fin n → EReal) (k : Fin n) (hf : ∀ k, ∃ r : ℝ, f k = (r : EReal)) :
    ∃ M : ℝ, (Finset.univ : Finset (Fin n)).fold max ⊥ f = (M : EReal) := by
  have h1 : (Finset.univ : Finset (Fin n)).fold max ⊥ f ≠ ⊤ := Online.fold_max_ne_top _ _ _ (by simp) fun k => by
    obtain ⟨r, hr⟩ := hf k; rw [hr]; exact EReal.coe_ne_top r
  have h2 : (Finset.univ : Finset (Fin n)).fold max ⊥ f ≠ ⊥ := by
    obtain ⟨r, hr⟩ := hf k
    have : (r : EReal) ≤ (Finset.univ : Finset (Fin n)).fold max ⊥ f :=
      (Finset.le_fold_max _).2 (Or.inr ⟨k, Finset.mem_univ _, hr.ge⟩)
    exact fun h => EReal.coe_ne_bot r (le_bot_iff.1 (h ▸ this))
  exact ⟨_, (EReal.coe_toReal h1 h2).symm⟩

theorem v24_real (hf : ∀ b h q k, ∃ r : ℝ, val_main_v21 (F := Ideal) x0 x1 x2 x3 x4 x5 (ix4 b h q k) = (r : EReal))
    (b : Fin 32) (h : Fin 8) (q : Fin 64) :
    ∃ M : ℝ, val_main_v24 (F := Ideal) x0 x1 x2 x3 x4 x5 (ix3 b h q) = (M : EReal) := by
  have hb : val_main_v23 (F := Ideal) (ix3 b h q) = (⊥ : EReal) := by
    rw [val_main_v23_apply, val_main_cst_4_apply]
    simp [FloatOps.ofBits, Ideal.ofBits, Ideal.ieee]
  have hb' : val_main_cst_3 (F := Ideal) (Shape.Idx.first h_S_) = (⊥ : EReal) := by
    rw [val_main_cst_3_apply]
    simp [FloatOps.ofBits, Ideal.ofBits, Ideal.ieee]
  have hi : ∀ i : S32x8x64x4160.Idx, i = ix4 (i 0) (i 1) (i 2) (i 3) := fun i => funext fun a => by
    match a with
    | ⟨0, _⟩ => rfl
    | ⟨1, _⟩ => rfl
    | ⟨2, _⟩ => rfl
    | ⟨3, _⟩ => rfl
  have hR : S32x8x64x4160.Reduces [3] S32x8x64 := by decide
  have hm : ∃ M : ℝ, val_main_v22 (F := Ideal) x0 x1 x2 x3 x4 x5 (ix3 b h q) = (M : EReal) := by
    unfold val_main_v22
    generalize val_main_v21 (F := Ideal) x0 x1 x2 x3 x4 x5 = y at hf
    generalize val_main_cst_3 (F := Ideal) = z at hb'
    have e := Host.reduce_eq_fold_single (α := EReal) max y z reducesTo_S32x8x64x4160_S32x8x64_d3 hR h_S_ (ix3 b h q)
    rw [hb'] at e
    obtain ⟨M, hM⟩ := max_is_real (y ∘ hR.lift (ix3 b h q)) (0 : Fin 4160) (fun k => by
      obtain ⟨r, hr⟩ := hf _ _ _ _
      exact ⟨r, (congrArg y (hi (hR.lift (ix3 b h q) k))).trans hr⟩)
    exact ⟨M, Eq.trans e hM⟩
  obtain ⟨M, hM⟩ := hm
  refine ⟨M, ?_⟩
  rw [val_main_v24_apply, hb, hM]
  exact max_eq_right bot_le

theorem v13 (b : Fin 32) (h : Fin 8) (q : Fin 64) (k : Fin 4160) :
    val_main_v13 (F := Ideal) x0 x1 x2 x3 x4 x5 (ix4 b h q k) =
      Ideal.div (∑ e, val_main_v4 (F := Ideal) x2 x4 (ix3 b k e) * x0 (ix4 b q h e)
        + ∑ d, val_main_v5 (F := Ideal) x3 x5 (ix3 b k d) * x1 (ix4 b q h d)) (((√96 : ℝ) : EReal)) := by
  have h96 : Ideal.ofBits FTy.f32 1119879168#32 = ((96 : ℝ) : EReal) := by
    simp [Ideal.ofBits, Ideal.ieee, -EReal.coe_mul]; norm_num
  have hs : Ideal.sqrt ((96 : ℝ) : EReal) = ((√96 : ℝ) : EReal) := by rw [Ideal.sqrt_coe, if_neg (by norm_num)]
  pointwise [val_main_v13, val_main_v12, val_main_v11, val_main_v10, val_main_v9, val_main_v8, val_main_v7, val_main_v6, val_main_cst]
  rw [h96, hs]

theorem v21 (b : Fin 32) (h : Fin 8) (q : Fin 64) (k : Fin 4160) :
    val_main_v21 (F := Ideal) x0 x1 x2 x3 x4 x5 (ix4 b h q k) = val_main_v13 (F := Ideal) x0 x1 x2 x3 x4 x5 (ix4 b h q k) := by
  rw [val_main_v21_apply, val_main_call2_v1_apply,
    show idx_main_call2_v1 (ix4 b h q k) = ix2 q k from funext fun a => by
      match a with
      | ⟨0, _⟩ => rfl
      | ⟨1, _⟩ => rfl, mask]
  rfl

/-- A sum over all keys: over the cached ones, then over the new ones. -/
theorem sum_keys {α : Type*} [AddCommMonoid α] (f : Fin 4160 → α) :
    ∑ k, f k = ∑ k : Fin 4096, f ⟨k.val, by omega⟩ + ∑ k : Fin 64, f ⟨4096 + k.val, by omega⟩ :=
  Fin.sum_univ_add (a := 4096) (b := 64) f

theorem dot_real {n n' : ℕ} (x y : Fin n → ℝ) (x' y' : Fin n' → ℝ) :
    Ideal.div (∑ e, (y e : EReal) * (x e : EReal) + ∑ d, (y' d : EReal) * (x' d : EReal)) ((√96 : ℝ) : EReal)
      = (((∑ e, x e * y e + ∑ d, x' d * y' d) * (√96)⁻¹ : ℝ) : EReal) := by
  have h1 : ∀ {n : ℕ} (x y : Fin n → ℝ), (∑ e, (y e : EReal) * (x e : EReal) : EReal) = ((∑ e, x e * y e : ℝ) : EReal) :=
    fun x y => by
      rw [← Online.coe_sum]
      exact Finset.sum_congr rfl fun e _ => by rw [EReal.coe_mul, mul_comm]
  rw [h1, h1, ← EReal.coe_add, Online.div_real _ _ (by positivity), div_eq_mul_inv]

section
variable (h0 : ∀ b q h e, x0 (ix4 b q h e) = ((a0 b q h e : ℝ) : EReal))
  (h1 : ∀ b q h d, x1 (ix4 b q h d) = ((a1 b q h d : ℝ) : EReal))
  (h2 : ∀ b k e, x2 (ix3 b k e) = ((a2 b k e : ℝ) : EReal))
  (h3 : ∀ b k d, x3 (ix3 b k d) = ((a3 b k d : ℝ) : EReal))
  (h4 : ∀ b k e, x4 (ix3 b k e) = ((a4 b k e : ℝ) : EReal))
  (h5 : ∀ b k d, x5 (ix3 b k d) = ((a5 b k d : ℝ) : EReal))
include h0 h1

include h4 h5 in
theorem score_old (b : Fin 32) (h : Fin 8) (q : Fin 64) (k : Fin 4096) :
    val_main_v21 (F := Ideal) x0 x1 x2 x3 x4 x5 (ix4 b h q ⟨k.val, by omega⟩)
      = ((dotOld a0 a1 a4 a5 b q h k * (√96)⁻¹ : ℝ) : EReal) := by
  rw [v21, v13]
  simp only [v4_old, v5_old, h0, h1, h4, h5]
  exact dot_real (a0 b q h) (a4 b k) (a1 b q h) (a5 b k)

include h2 h3 in
theorem score_new (b : Fin 32) (h : Fin 8) (q : Fin 64) (k : Fin 64) :
    val_main_v21 (F := Ideal) x0 x1 x2 x3 x4 x5 (ix4 b h q ⟨4096 + k.val, by omega⟩)
      = ((dotNew a0 a1 a2 a3 b q h k * (√96)⁻¹ : ℝ) : EReal) := by
  rw [v21, v13]
  simp only [v4_new, v5_new, h0, h1, h2, h3]
  exact dot_real (a0 b q h) (a2 b k) (a1 b q h) (a3 b k)

include h2 h3 h4 h5

theorem score_real (b : Fin 32) (h : Fin 8) (q : Fin 64) (k : Fin 4160) :
    ∃ r : ℝ, val_main_v21 (F := Ideal) x0 x1 x2 x3 x4 x5 (ix4 b h q k) = (r : EReal) := by
  by_cases hk : k.val < 4096
  · exact ⟨_, score_old x0 x1 x2 x3 x4 x5 a0 a1 a4 a5 h0 h1 h4 h5 b h q ⟨k.val, hk⟩⟩
  · have e : k = ⟨4096 + (k.val - 4096), by omega⟩ := Fin.ext (by simp only []; omega)
    rw [e]
    exact ⟨_, score_new x0 x1 x2 x3 x4 x5 a0 a1 a2 a3 h0 h1 h2 h3 b h q ⟨k.val - 4096, by omega⟩⟩

/-- The normalised weights, and the latents under them. -/
theorem latent (b : Fin 32) (h : Fin 8) (q : Fin 64) (e : Fin 256) :
    (∑ k, val_main_v4 (F := Ideal) x2 x4 (ix3 b k e) *
      Ideal.div (Ideal.exp (val_main_v21 (F := Ideal) x0 x1 x2 x3 x4 x5 (ix4 b h q k)
          - val_main_v24 (F := Ideal) x0 x1 x2 x3 x4 x5 (ix3 b h q)))
        (∑ k, Ideal.exp (val_main_v21 (F := Ideal) x0 x1 x2 x3 x4 x5 (ix4 b h q k)
          - val_main_v24 (F := Ideal) x0 x1 x2 x3 x4 x5 (ix3 b h q))) : EReal)
      = ((num a0 a1 a2 a3 a4 a5 b q h e / den a0 a1 a2 a3 a4 a5 b q h : ℝ) : EReal) := by
  have hr := score_real x0 x1 x2 x3 x4 x5 a0 a1 a2 a3 a4 a5 h0 h1 h2 h3 h4 h5
  obtain ⟨M, hM⟩ := v24_real x0 x1 x2 x3 x4 x5 hr b h q
  have ht : ∀ k, val_main_v21 (F := Ideal) x0 x1 x2 x3 x4 x5 (ix4 b h q k) ≠ (⊤ : EReal) := fun k => by
    obtain ⟨r, e⟩ := hr b h q k
    rw [e]
    exact EReal.coe_ne_top r
  have hd : ∑ k, Online.wte (val_main_v21 (F := Ideal) x0 x1 x2 x3 x4 x5 (ix4 b h q k)) = den a0 a1 a2 a3 a4 a5 b q h := by
    rw [sum_keys, add_comm, den]
    simp only [score_old x0 x1 x2 x3 x4 x5 a0 a1 a4 a5 h0 h1 h4 h5, score_new x0 x1 x2 x3 x4 x5 a0 a1 a2 a3 h0 h1 h2 h3, wte_coe]
    rfl
  rw [hM, Online.ref_sum M _ ht, hd]
  simp only [fun k => Online.ref_weight (ht k) M _ (den_pos a0 a1 a2 a3 a4 a5 b q h).ne']
  rw [sum_keys]
  simp only [score_old x0 x1 x2 x3 x4 x5 a0 a1 a4 a5 h0 h1 h4 h5, score_new x0 x1 x2 x3 x4 x5 a0 a1 a2 a3 h0 h1 h2 h3, wte_coe,
    v4_old, v4_new, h2, h4, ← EReal.coe_mul, Online.coe_sum, ← EReal.coe_add]
  refine congrArg (fun x : ℝ => (x : EReal)) ?_
  rw [num, add_div, Finset.sum_div, Finset.sum_div, add_comm]
  refine congrArg₂ (· + ·) (Finset.sum_congr rfl fun k _ => ?_) (Finset.sum_congr rfl fun k _ => ?_)
  · rw [wNew]; ring
  · rw [wOld]; ring

theorem result (b : Fin 32) (q : Fin 64) (h : Fin 8) (v : Fin 64) :
    val_main_v38 (F := Ideal) x0 x1 x2 x3 x4 x5 x6 (ix2 ⟨64 * b.val + q.val, by omega⟩ ⟨64 * h.val + v.val, by omega⟩)
      = (∑ e : Fin 256, ((num a0 a1 a2 a3 a4 a5 b q h e / den a0 a1 a2 a3 a4 a5 b q h : ℝ) : EReal) * x6 (ix3 e h v) : EReal) := by
  have e1 : (64 * b.val + q.val) / 64 = b.val := by omega
  have e2 : (64 * b.val + q.val) % 64 = q.val := by omega
  have e3 : (64 * h.val + v.val) / 64 = h.val := by omega
  have e4 : (64 * h.val + v.val) % 64 = v.val := by omega
  have hl := latent x0 x1 x2 x3 x4 x5 a0 a1 a2 a3 a4 a5 h0 h1 h2 h3 h4 h5 b h q
  pointwise [val_main_v38, val_main_v37, val_main_v36, val_main_v35, val_main_v34, val_main_v33, val_main_v32, val_main_v31, val_main_v30, val_main_v29, val_main_cst_5, val_main_v28, val_main_v27, val_main_v26, val_main_v25]
  refine Finset.sum_congr rfl fun e _ => ?_
  rw [← hl e]
  exact mul_comm _ _
end

end Cert.ReferenceIdeal.Attend
-- ==== Proof.Finite.lean ====
module

public import proofs.«01_k».proof.Defs
public import proofs.«01_k».proof.Proof.Gen.Pre_finite
public import Idealize.ShloMosaic.Lib.ReduceAll
public import Idealize.ShloMosaic.Lib.Affine
public import Idealize.ShloMosaic.Lib.Pointwise

@[expose] public section

noncomputable section

/-! # What the precondition says of the arguments -/

namespace Cert.Finite

open Idealize.ShloMosaic Idealize.ShloMosaic.Tactic Cert.Pre_finite

/-- A number whose absolute value is below infinity is a real number. -/
theorem real_of_lt (x : EReal) (h : Ideal.cmp .olt (max x (-x)) (Ideal.ofBits .f32 0x7F800000#32) = 1#1) :
    ∃ r : ℝ, x = (r : EReal) := by
  have ht : Ideal.ofBits .f32 0x7F800000#32 = (⊤ : EReal) := by simp [Ideal.ofBits, Ideal.ieee]
  rw [ht] at h
  induction x with
  | bot => simp [Ideal.cmp] at h
  | top => simp [Ideal.cmp] at h
  | coe r => exact ⟨r, rfl⟩

theorem all_real (x0 : FVec Ideal S32x64x8x256 .f32) (x1 : FVec Ideal S32x64x8x32 .f32) (x2 : FVec Ideal S32x64x256 .f32)
    (x3 : FVec Ideal S32x64x32 .f32) (x4 : FVec Ideal S32x4096x256 .f32) (x5 : FVec Ideal S32x4096x32 .f32)
    (x6 : FVec Ideal S256x8x64 .f32) (h : ∀ j, fn (F := Ideal) x0 x1 x2 x3 x4 x5 x6 j = 1#1) :
    (∀ i, ∃ r : ℝ, (x0 i : EReal) = (r : EReal)) ∧ (∀ i, ∃ r : ℝ, (x1 i : EReal) = (r : EReal))
    ∧ (∀ i, ∃ r : ℝ, (x2 i : EReal) = (r : EReal)) ∧ (∀ i, ∃ r : ℝ, (x3 i : EReal) = (r : EReal))
    ∧ (∀ i, ∃ r : ℝ, (x4 i : EReal) = (r : EReal)) ∧ (∀ i, ∃ r : ℝ, (x5 i : EReal) = (r : EReal)) := by
  have h := h (fun a => a.elim0)
  dsimp only [fn, fn_part1] at h
  have and1 : ∀ {u v : IVec S_ 1} {j}, andi u v j = 1#1 → u j = 1#1 ∧ v j = 1#1 := by
    intro u v j; exact (by decide : ∀ a b : BitVec 1, IntOp.andi a b = 1#1 → a = 1#1 ∧ b = 1#1) (u j) (v j)
  obtain ⟨h, h5⟩ := and1 h
  obtain ⟨h, h4⟩ := and1 h
  obtain ⟨h, h3⟩ := and1 h
  obtain ⟨h, h2⟩ := and1 h
  obtain ⟨h0, h1⟩ := and1 h
  have : Subsingleton S_.Idx := ⟨fun i j => funext fun a => a.elim0⟩
  refine ⟨fun i => real_of_lt _ ?_, fun i => real_of_lt _ ?_, fun i => real_of_lt _ ?_, fun i => real_of_lt _ ?_,
    fun i => real_of_lt _ ?_, fun i => real_of_lt _ ?_⟩
  · exact Host.reduce_andi_all _ _ _ _ _ h0 i
  · exact Host.reduce_andi_all _ _ _ _ _ h1 i
  · exact Host.reduce_andi_all _ _ _ _ _ h2 i
  · exact Host.reduce_andi_all _ _ _ _ _ h3 i
  · exact Host.reduce_andi_all _ _ _ _ _ h4 i
  · exact Host.reduce_andi_all _ _ _ _ _ h5 i

end Cert.Finite
-- ==== Proof.Scheduled.lean ====
module

public import proofs.«01_k».proof.Defs
public import proofs.«01_k».proof.Proof.Finite
public import proofs.«01_k».proof.Proof.Gen.Pre_scheduled
public import proofs.«01_k».proof.Proof.Gen.Kernel4.Flash.Pins
public import proofs.«01_k».proof.Proof.Gen.Kernel4Ideal.Flash.Pins

@[expose] public section

noncomputable section

/-! # What the precondition of the prompt's attention says of its arguments

The two tables are the schedule's: which block of queries and which block of keys each step takes. The queries,
the keys and the values are real numbers. -/

namespace Cert.Scheduled

open Idealize.ShloMosaic Idealize.ShloMosaic.TcCoe Idealize.ShloMosaic.Tactic Cert.Pre_scheduled

theorem and1 {u v : IVec S_ 1} {j} : andi u v j = 1#1 → u j = 1#1 ∧ v j = 1#1 :=
  (by decide : ∀ a b : BitVec 1, IntOp.andi a b = 1#1 → a = 1#1 ∧ b = 1#1) (u j) (v j)

theorem eq_of_cmp (a b : BitVec 32) (h : IntOp.cmpi .eq a b = 1#1) : a = b := by
  have e : ∀ p : Bool, BitVec.ofBool p = 1#1 → p = true := by decide
  exact beq_iff_eq.mp (e _ h)

theorem first_table : ∀ x : S10.Idx, lit0 (S10.rowMajor x)
    = ([0#32, 1#32, 1#32, 2#32, 2#32, 2#32, 3#32, 3#32, 3#32, 3#32] : List (BitVec 32)).getD (x 0).val 0#32 := by decide

theorem second_table : ∀ x : S10.Idx, lit1 (S10.rowMajor x)
    = ([0#32, 0#32, 1#32, 0#32, 1#32, 2#32, 0#32, 1#32, 2#32, 3#32] : List (BitVec 32)).getD (x 0).val 0#32 := by decide

theorem tables {F : FTy → Type} [FloatOps F] (x0 x1 : IVec S10 32) (x2 x3 : FVec F S16384x1024 .bf16)
    (x4 : FVec F S16384x512 .bf16) (h : ∀ j, fn (F := F) x0 x1 x2 x3 x4 j = 1#1) :
    (∀ x, x0 x = lit0 (S10.rowMajor x)) ∧ (∀ x, x1 x = lit1 (S10.rowMajor x)) := by
  have h := h (fun a => a.elim0)
  dsimp only [fn, fn_part1] at h
  obtain ⟨h, -⟩ := and1 h
  obtain ⟨h, -⟩ := and1 h
  obtain ⟨h, -⟩ := and1 h
  obtain ⟨h0, h1⟩ := and1 h
  have : Subsingleton S_.Idx := ⟨fun i j => funext fun a => a.elim0⟩
  exact ⟨fun i => eq_of_cmp _ _ (Host.reduce_andi_all _ _ _ _ _ h0 i),
    fun i => eq_of_cmp _ _ (Host.reduce_andi_all _ _ _ _ _ h1 i)⟩

theorem all_real (x0 x1 : IVec S10 32) (x2 x3 : FVec Ideal S16384x1024 .bf16) (x4 : FVec Ideal S16384x512 .bf16)
    (h : ∀ j, fn (F := Ideal) x0 x1 x2 x3 x4 j = 1#1) :
    (∀ i, ∃ r : ℝ, (x2 i : EReal) = (r : EReal)) ∧ (∀ i, ∃ r : ℝ, (x3 i : EReal) = (r : EReal))
    ∧ (∀ i, ∃ r : ℝ, (x4 i : EReal) = (r : EReal)) := by
  have h := h (fun a => a.elim0)
  dsimp only [fn, fn_part1] at h
  obtain ⟨h, h4⟩ := and1 h
  obtain ⟨h, h3⟩ := and1 h
  obtain ⟨-, h2⟩ := and1 h
  have : Subsingleton S_.Idx := ⟨fun i j => funext fun a => a.elim0⟩
  exact ⟨fun i => Cert.Finite.real_of_lt _ (Host.reduce_andi_all _ _ _ _ _ h2 i),
    fun i => Cert.Finite.real_of_lt _ (Host.reduce_andi_all _ _ _ _ _ h3 i),
    fun i => Cert.Finite.real_of_lt _ (Host.reduce_andi_all _ _ _ _ _ h4 i)⟩

theorem pinned (m : (ℓ : Loc Cert.Kernel4.nD Cert.Kernel4.τ Cert.Kernel4.sig) → Buf (Elt Bits) ℓ)
    (h : Cert.Pre_Kernel4 m) : Cert.Kernel4.Gen.Pinned 0 m :=
  ⟨fun c => funext fun x => ((tables _ _ _ _ _ (congrFun (h c))).1 x).trans (first_table x),
    fun c => funext fun x => ((tables _ _ _ _ _ (congrFun (h c))).2 x).trans (second_table x)⟩

theorem pinned_ideal (m : (ℓ : Loc Cert.Kernel4Ideal.nD Cert.Kernel4Ideal.τ Cert.Kernel4Ideal.sig) → Buf (Elt Ideal) ℓ)
    (h : Cert.Pre_Kernel4Ideal m) : Cert.Kernel4Ideal.Gen.Pinned 0 m :=
  ⟨fun c => funext fun x => ((tables _ _ _ _ _ (congrFun (h c))).1 x).trans (first_table x),
    fun c => funext fun x => ((tables _ _ _ _ _ (congrFun (h c))).2 x).trans (second_table x)⟩

end Cert.Scheduled
-- ==== Proof.FfnRead.lean ====
module

public import proofs.«01_k».proof.Proof.Gen.Kernel2Ideal.Value
public import Idealize.ShloMosaic.Lib.Pointwise
public import Idealize.ShloMosaic.Lib.Pipeline.ValueKit.Acc

@[expose] public section

set_option maxRecDepth 16384

noncomputable section

namespace Cert.Kernel2Ideal.Block

open Idealize.ShloMosaic Idealize.ShloMosaic.TcCoe Idealize.ShloMosaic.Tactic
open Idealize.SL Idealize.SL.Sem
open Cert.Kernel2Ideal Cert.Kernel2Ideal.Gen

/-! ## Loads of what the body has stored -/

/-- A whole load of a whole store. -/
theorem load_whole {sig : RefSig} {κ : Kind} {sp : Space} {e : EltTy} (v : View sig κ sp S512x1024 e)
    (w : S512x1024.Idx → Elt Ideal e) (L : List (View.Piece (Elt Ideal) S512x1024 e)) (h h' : ∀ a, ![0, 0] a + ![512, 1024] a ≤ S512x1024.size a) :
    v.readCov (⟨Rect.unit ![0, 0] ![512, 1024] h, w⟩ :: L) (Rect.unit ![0, 0] ![512, 1024] h').toLoadRect = w := by
  rw [View.readCov_eq_canon']
  funext y
  exact View.canon_cons_emb (Rect.unit (s := S512x1024) ![0, 0] ![512, 1024] h) w L y

/-- A load of columns the last store did not write. -/
theorem load_skip {sig : RefSig} {κ : Kind} {sp : Space} {e : EltTy} (v : View sig κ sp S2x5632 e) (a b : ℕ)
    (ha : ∀ d, ![0, a] d + ![2, 256] d ≤ S2x5632.size d) (hb : ∀ d, ![0, b] d + ![2, 256] d ≤ S2x5632.size d)
    (w : S2x256.Idx → Elt Ideal e) (L : List (View.Piece (Elt Ideal) S2x5632 e)) (hab : a + 256 ≤ b ∨ b + 256 ≤ a) :
    v.readCov (⟨Rect.unit ![0, a] ![2, 256] ha, w⟩ :: L) (Rect.unit ![0, b] ![2, 256] hb).toLoadRect
      = v.readCov L (Rect.unit ![0, b] ![2, 256] hb).toLoadRect := by
  rw [View.readCov_eq_canon', View.readCov_eq_canon']
  funext y
  refine View.canon_cons_of_not_mem _ L fun hm => ?_
  have h := (Rect.mem_set_unit (s := S2x5632) (inb := ha)).1 hm 1
  have h1 : a ≤ b + 1 * (y 1).val := h.1
  have h2 : b + 1 * (y 1).val < a + 256 := h.2
  have hy : (y 1).val < 256 := (y 1).isLt
  omega

/-- A load of some columns of a whole store. -/
theorem load_cols {sig : RefSig} {κ : Kind} {sp : Space} {e : EltTy} (v : View sig κ sp S2x5632 e) (b : ℕ)
    (h : ∀ d, ![0, 0] d + ![2, 5632] d ≤ S2x5632.size d) (hb : ∀ d, ![0, b] d + ![2, 256] d ≤ S2x5632.size d)
    (w : S2x5632.Idx → Elt Ideal e) (L : List (View.Piece (Elt Ideal) S2x5632 e)) :
    v.readCov (⟨Rect.unit ![0, 0] ![2, 5632] h, w⟩ :: L) (Rect.unit ![0, b] ![2, 256] hb).toLoadRect
      = View.ld w (Rect.unit ![0, b] ![2, 256] hb) := by
  rw [View.readCov_eq_canon']
  funext y
  refine Eq.trans (congrArg _ ?_) (View.canon_cons_emb (Rect.unit (s := S2x5632) ![0, 0] ![2, 5632] h) w L ((Rect.unit (s := S2x5632) ![0, b] ![2, 256] hb).emb y))
  funext a
  match a with
  | 0 => apply Fin.ext; show 0 + 1 * (y 0).val = 0 + 1 * (0 + 1 * (y 0).val); omega
  | 1 => apply Fin.ext; show b + 1 * (y 1).val = 0 + 1 * (b + 1 * (y 1).val); omega

/-- Rows shifted down by one: the second of the two rows `Q` comes first, then the rows of `P`. -/
def shift1 {n : ℕ} (P : Vec Ideal ⟨4, ![1, 1, n, 256]⟩ .f32) (Q : Vec Ideal S1x1x2x256 .f32) : Vec Ideal ⟨4, ![1, 1, n, 256]⟩ .f32 :=
  fun i => if h : (i 2).val < 1 then Q (ix4 0 0 1 (i 3)) else P (ix4 0 0 ⟨(i 2).val - 1, by have : (i 2).val < n := (i 2).isLt; omega⟩ (i 3))

/-- Rows shifted down by two: the two rows `Q` come first, then the rows of `P`. -/
def shift2 {n : ℕ} (P : Vec Ideal ⟨4, ![1, 1, n, 256]⟩ .f32) (Q : Vec Ideal S1x1x2x256 .f32) : Vec Ideal ⟨4, ![1, 1, n, 256]⟩ .f32 :=
  fun i => if h : (i 2).val < 2 then Q (ix4 0 0 ⟨(i 2).val, h⟩ (i 3)) else P (ix4 0 0 ⟨(i 2).val - 2, by have : (i 2).val < n := (i 2).isLt; omega⟩ (i 3))

section Shift
variable {s g n G N : ℕ} (h8 : ∀ a, ![s, g, 8, 0] a + ![1, 1, n, 256] a ≤ (⟨4, ![4, G, N, 256]⟩ : Shape).size a) (h6 : ∀ a, ![s, g, 6, 0] a + ![1, 1, 2, 256] a ≤ (⟨4, ![4, G, N, 256]⟩ : Shape).size a)
  (P : Vec Ideal ⟨4, ![1, 1, n, 256]⟩ .f32) (Q : Vec Ideal S1x1x2x256 .f32) (L : List (View.Piece (Elt Ideal) ⟨4, ![4, G, N, 256]⟩ .f32))

theorem ush_low (i : (⟨4, ![4, G, N, 256]⟩ : Shape).Idx) (h0 : (i 0).val = s) (h1 : (i 1).val = g) (q : Fin 2) (hq : (i 2).val = 6 + q.val) (d : Fin 256) (hd : (i 3).val = d.val) :
    View.canon (⟨Rect.unit ![s, g, 8, 0] ![1, 1, n, 256] h8, P⟩ :: ⟨Rect.unit ![s, g, 6, 0] ![1, 1, 2, 256] h6, Q⟩ :: L) i = Q (ix4 0 0 q d) := by
  rw [View.canon_cons_of_not_mem]
  · refine Eq.trans (congrArg _ ?_) (View.canon_cons_emb (Rect.unit (s := ⟨4, ![4, G, N, 256]⟩) ![s, g, 6, 0] ![1, 1, 2, 256] h6) Q L (ix4 0 0 q d))
    funext a
    match a with
    | 0 => apply Fin.ext; show (i 0).val = s + 1 * 0; omega
    | 1 => apply Fin.ext; show (i 1).val = g + 1 * 0; omega
    | 2 => apply Fin.ext; show (i 2).val = 6 + 1 * q.val; omega
    | 3 => apply Fin.ext; show (i 3).val = 0 + 1 * d.val; omega
  · intro hm
    have : 8 ≤ (i 2).val := ((Rect.mem_set_unit (s := ⟨4, ![4, G, N, 256]⟩) (inb := h8)).1 hm 2).1
    omega

theorem ush_high (i : (⟨4, ![4, G, N, 256]⟩ : Shape).Idx) (h0 : (i 0).val = s) (h1 : (i 1).val = g) (q : Fin n) (hq : (i 2).val = 8 + q.val) (d : Fin 256) (hd : (i 3).val = d.val) :
    View.canon (⟨Rect.unit ![s, g, 8, 0] ![1, 1, n, 256] h8, P⟩ :: L) i = P (ix4 0 0 q d) := by
  refine Eq.trans (congrArg _ ?_) (View.canon_cons_emb (Rect.unit (s := ⟨4, ![4, G, N, 256]⟩) ![s, g, 8, 0] ![1, 1, n, 256] h8) P L (ix4 0 0 q d))
  funext a
  match a with
  | 0 => apply Fin.ext; show (i 0).val = s + 1 * 0; omega
  | 1 => apply Fin.ext; show (i 1).val = g + 1 * 0; omega
  | 2 => apply Fin.ext; show (i 2).val = 8 + 1 * q.val; omega
  | 3 => apply Fin.ext; show (i 3).val = 0 + 1 * d.val; omega

/-- The load one row up of a stored tile and the two rows before it, -/
theorem load_shift1 {sig : RefSig} {κ : Kind} {sp : Space} (v : View sig κ sp ⟨4, ![4, G, N, 256]⟩ .f32) (h7 : ∀ a, ![s, g, 7, 0] a + ![1, 1, n, 256] a ≤ (⟨4, ![4, G, N, 256]⟩ : Shape).size a) :
    v.readCov (⟨Rect.unit ![s, g, 8, 0] ![1, 1, n, 256] h8, P⟩ :: ⟨Rect.unit ![s, g, 6, 0] ![1, 1, 2, 256] h6, Q⟩ :: L)
      (Rect.unit ![s, g, 7, 0] ![1, 1, n, 256] h7).toLoadRect = shift1 P Q := by
  rw [View.readCov_eq_canon']
  funext y
  have hy : (y 2).val < n := (y 2).isLt
  have hy0 : (y 0).val < 1 := (y 0).isLt
  have hy1 : (y 1).val < 1 := (y 1).isLt
  unfold shift1
  by_cases h : (y 2).val < 1
  · rw [dif_pos h]
    exact (ush_low h8 h6 P Q L _ (by show s + 1 * (y 0).val = s; omega) (by show g + 1 * (y 1).val = g; omega) 1 (by show 7 + 1 * (y 2).val = 6 + 1; omega) (y 3) (by show 0 + 1 * (y 3).val = (y 3).val; omega))
  · rw [dif_neg h]
    exact (ush_high h8 P _ _ (by show s + 1 * (y 0).val = s; omega) (by show g + 1 * (y 1).val = g; omega) ⟨(y 2).val - 1, by omega⟩ (by show 7 + 1 * (y 2).val = 8 + ((y 2).val - 1); omega) (y 3) (by show 0 + 1 * (y 3).val = (y 3).val; omega))

/-- and two rows up. -/
theorem load_shift2 {sig : RefSig} {κ : Kind} {sp : Space} (v : View sig κ sp ⟨4, ![4, G, N, 256]⟩ .f32) (h7 : ∀ a, ![s, g, 6, 0] a + ![1, 1, n, 256] a ≤ (⟨4, ![4, G, N, 256]⟩ : Shape).size a) :
    v.readCov (⟨Rect.unit ![s, g, 8, 0] ![1, 1, n, 256] h8, P⟩ :: ⟨Rect.unit ![s, g, 6, 0] ![1, 1, 2, 256] h6, Q⟩ :: L)
      (Rect.unit ![s, g, 6, 0] ![1, 1, n, 256] h7).toLoadRect = shift2 P Q := by
  rw [View.readCov_eq_canon']
  funext y
  have hy : (y 2).val < n := (y 2).isLt
  have hy0 : (y 0).val < 1 := (y 0).isLt
  have hy1 : (y 1).val < 1 := (y 1).isLt
  unfold shift2
  by_cases h : (y 2).val < 2
  · rw [dif_pos h]
    exact (ush_low h8 h6 P Q L _ (by show s + 1 * (y 0).val = s; omega) (by show g + 1 * (y 1).val = g; omega) ⟨(y 2).val, h⟩ (by show 6 + 1 * (y 2).val = 6 + (y 2).val; omega) (y 3) (by show 0 + 1 * (y 3).val = (y 3).val; omega))
  · rw [dif_neg h]
    exact (ush_high h8 P _ _ (by show s + 1 * (y 0).val = s; omega) (by show g + 1 * (y 1).val = g; omega) ⟨(y 2).val - 2, by omega⟩ (by show 6 + 1 * (y 2).val = 8 + ((y 2).val - 2); omega) (y 3) (by show 0 + 1 * (y 3).val = (y 3).val; omega))

/-- A load of one sequence's rows where the last store went to another sequence's. -/
theorem load_other {sig : RefSig} {κ : Kind} {sp : Space} (v : View sig κ sp ⟨4, ![4, G, N, 256]⟩ .f32) {a b k : ℕ} {f : ℕ}
    (hf : ∀ d, ![s, f, a, 0] d + ![1, 1, k, 256] d ≤ (⟨4, ![4, G, N, 256]⟩ : Shape).size d) (W : Vec Ideal ⟨4, ![1, 1, k, 256]⟩ .f32)
    (hb : ∀ d, ![s, g, b, 0] d + ![1, 1, n, 256] d ≤ (⟨4, ![4, G, N, 256]⟩ : Shape).size d) (hfg : f < g ∨ g < f) :
    v.readCov (⟨Rect.unit ![s, f, a, 0] ![1, 1, k, 256] hf, W⟩ :: L) (Rect.unit ![s, g, b, 0] ![1, 1, n, 256] hb).toLoadRect
      = v.readCov L (Rect.unit ![s, g, b, 0] ![1, 1, n, 256] hb).toLoadRect := by
  rw [View.readCov_eq_canon', View.readCov_eq_canon']
  funext y
  refine View.canon_cons_of_not_mem _ L fun hm => ?_
  have h := (Rect.mem_set_unit (s := ⟨4, ![4, G, N, 256]⟩) (inb := hf)).1 hm 1
  have h1 : f ≤ g + 1 * (y 1).val := h.1
  have h2 : g + 1 * (y 1).val < f + 1 := h.2
  have hy : (y 1).val < 1 := (y 1).isLt
  omega

end Shift

end Cert.Kernel2Ideal.Block

end
-- ==== Proof.FfnOpen.lean ====
module

public import proofs.«01_k».proof.Proof.FfnRead

@[expose] public section

set_option maxRecDepth 65536
set_option maxHeartbeats 4000000

noncomputable section

namespace Cert.Kernel2Ideal.Block

open Idealize.ShloMosaic Idealize.ShloMosaic.TcCoe Idealize.ShloMosaic.Tactic
open Idealize.SL Idealize.SL.Sem
open Cert.Kernel2Ideal Cert.Kernel2Ideal.Gen

/-! ## The body of one tile, column chunk by column chunk

Over the tile's blocks: the stream `x0`, the two attention outputs `x1` and `x2`, the two rows of the convolution's
state `x3`, the projections and gains `x4 … x9`, and `xc`: the two rows of the projection before this tile. -/

/-- The columns of a chunk lie in the array. -/
theorem inCols {n o N : ℕ} (h : o + 256 ≤ N) : ∀ a : Fin 2, (![0, o] : Fin 2 → ℕ) a + (![n, 256] : Fin 2 → ℕ) a ≤ (![n, N] : Fin 2 → ℕ) a
  | 0 => by simp
  | 1 => h
theorem inCols3 {n o N : ℕ} (h : o + 256 ≤ N) : ∀ a : Fin 3, (![0, 0, o] : Fin 3 → ℕ) a + (![1, n, 256] : Fin 3 → ℕ) a ≤ (![1, n, N] : Fin 3 → ℕ) a
  | 0 => by simp
  | 1 => by simp
  | 2 => h

/-- The first column of chunk `k`: a gate's chunk, then the value's, and so on. -/
def col (k : Fin 22) : ℕ := 256 * (k.val / 2) + 2816 * (k.val % 2)
theorem col_le (k : Fin 22) : col k + 256 ≤ 5632 := by unfold col; omega
theorem gate_le (c : Fin 11) : 256 * c.val + 256 ≤ 2816 := by omega
/-- The chunks holding the gate and the value of chunk `c` of the activation. -/
def gk (c : Fin 11) : Fin 22 := ⟨2 * c.val, by omega⟩
def vk (c : Fin 11) : Fin 22 := ⟨2 * c.val + 1, by omega⟩

/-- The convolution's state before the first tile. -/
def firstRows (x3 : Vec Ideal S1x2x5632 .f32) : Vec Ideal S2x5632 .f32 :=
  k0_pay4 (F := Ideal) (View.ld x3 (Rect.unit ![0, 0, 0] ![1, 2, 5632] inb_S1x2x5632_S1x2x5632_0_0_0))

section Stages
variable (x0 : Vec Ideal S512x1024 .f32) (x1 x2 : Vec Ideal S512x512 .bf16) (x3 : Vec Ideal S1x2x5632 .f32)
  (x4 : Vec Ideal S1024x1024 .bf16) (x5 : Vec Ideal S1x1024 .f32) (x6 : Vec Ideal S1024x5632 .bf16) (x7 : Vec Ideal S4x5632 .f32)
  (x8 : Vec Ideal S2816x1024 .bf16) (x9 : Vec Ideal S1x1024 .f32) (xc : Vec Ideal S2x5632 .f32)

/-- The stream after the attention's projection, -/
def mid : Vec Ideal S512x1024 .f32 :=
  k0_pay2 (F := Ideal) (View.ld x1 (Rect.unit ![0, 0] ![512, 512] inb_S512x512_S512x512_0_0)) (View.ld x2 (Rect.unit ![0, 0] ![512, 512] inb_S512x512_S512x512_0_0))
    (View.ld x0 (Rect.unit ![0, 0] ![512, 1024] inb_S512x1024_S512x1024_0_0)) (View.ld x4 (Rect.unit ![0, 0] ![1024, 1024] inb_S1024x1024_S1024x1024_0_0))
/-- and normalized. -/
def hn : Vec Ideal S512x1024 .bf16 :=
  k0_pay3 (F := Ideal) (View.ld x1 (Rect.unit ![0, 0] ![512, 512] inb_S512x512_S512x512_0_0)) (View.ld x2 (Rect.unit ![0, 0] ![512, 512] inb_S512x512_S512x512_0_0))
    (View.ld x0 (Rect.unit ![0, 0] ![512, 1024] inb_S512x1024_S512x1024_0_0)) (View.ld x4 (Rect.unit ![0, 0] ![1024, 1024] inb_S1024x1024_S1024x1024_0_0))
    (View.ld x5 (Rect.unit ![0, 0] ![1, 1024] inb_S1x1024_S1x1024_0_0))
/-- Chunk `k` of the projection, -/
def up (k : Fin 22) : Vec Ideal S512x256 .f32 :=
  k0_pay140 (F := Ideal) (hn x0 x1 x2 x4 x5) (View.ld x6 (Rect.unit ![0, col k] ![1024, 256] (inCols (col_le k))))
/-- the same one row and two rows earlier, -/
def up1 (k : Fin 22) : Vec Ideal S1x1x512x256 .f32 :=
  shift1 (k0_pay154 (F := Ideal) (up x0 x1 x2 x4 x5 x6 k)) (k0_pay153 (F := Ideal) (View.ld xc (Rect.unit ![0, col k] ![2, 256] (inCols (col_le k)))))
def up2 (k : Fin 22) : Vec Ideal S1x1x512x256 .f32 :=
  shift2 (k0_pay154 (F := Ideal) (up x0 x1 x2 x4 x5 x6 k)) (k0_pay153 (F := Ideal) (View.ld xc (Rect.unit ![0, col k] ![2, 256] (inCols (col_le k)))))
/-- the convolution's weights and bias there, -/
def cw (k : Fin 22) : Vec Ideal S4x256 .f32 := View.ld x7 (Rect.unit ![0, col k] ![4, 256] (inCols (col_le k)))
/-- and the activation's chunk `c`. -/
def act (c : Fin 11) : Vec Ideal S512x256 .bf16 :=
  k0_pay152 (F := Ideal) (up x0 x1 x2 x4 x5 x6 (vk c))
    (k0_pay147 (F := Ideal) (up x0 x1 x2 x4 x5 x6 (gk c)) (up1 x0 x1 x2 x4 x5 x6 xc (gk c)) (up2 x0 x1 x2 x4 x5 x6 xc (gk c)) (cw x7 (gk c)))
    (up1 x0 x1 x2 x4 x5 x6 xc (vk c)) (up2 x0 x1 x2 x4 x5 x6 xc (vk c)) (cw x7 (vk c))

/-- The activation's stores, last first, -/
def actP (c : Fin 11) : View.Piece (Elt Ideal) S512x2816 .bf16 :=
  ⟨Rect.unit ![0, 256 * c.val] ![512, 256] (inCols (gate_le c)), act x0 x1 x2 x4 x5 x6 x7 xc c⟩
def actL : List (View.Piece (Elt Ideal) S512x2816 .bf16) := [10, 9, 8, 7, 6, 5, 4, 3, 2, 1, 0].map (actP x0 x1 x2 x4 x5 x6 x7 xc)
/-- the state's, -/
def cstP (k : Fin 22) : View.Piece (Elt Ideal) S1x2x5632 .f32 :=
  ⟨Rect.unit ![0, 0, col k] ![1, 2, 256] (inCols3 (col_le k)), k0_pay155 (F := Ideal) (up x0 x1 x2 x4 x5 x6 k)⟩
def cstL : List (View.Piece (Elt Ideal) S1x2x5632 .f32) :=
  [21, 20, 19, 18, 17, 16, 15, 14, 13, 12, 11, 10, 9, 8, 7, 6, 5, 4, 3, 2, 1, 0].map (cstP x0 x1 x2 x4 x5 x6)
/-- those of the rows kept for the next tile, -/
def carP (k : Fin 22) : View.Piece (Elt Ideal) S2x5632 .f32 :=
  ⟨Rect.unit ![0, col k] ![2, 256] (inCols (col_le k)), k0_pay156 (F := Ideal) (up x0 x1 x2 x4 x5 x6 k)⟩
def carL : List (View.Piece (Elt Ideal) S2x5632 .f32) :=
  [21, 20, 19, 18, 17, 16, 15, 14, 13, 12, 11, 10, 9, 8, 7, 6, 5, 4, 3, 2, 1, 0].map (carP x0 x1 x2 x4 x5 x6)
/-- and the result's. -/
def fin : Vec Ideal S512x1024 .f32 :=
  let a := (View.whole cc0_scratch1).readCov (actL x0 x1 x2 x4 x5 x6 x7 xc) (Rect.unit (s := S512x2816) ![0, 0] ![512, 2816] inb_S512x2816_S512x2816_0_0).toLoadRect
  let w := View.ld x8 (Rect.unit ![0, 0] ![2816, 1024] inb_S2816x1024_S2816x1024_0_0)
  k0_pay1 (F := Ideal) (k0_pay170 (F := Ideal) (mid x0 x1 x2 x4) a w) (k0_pay171 (F := Ideal) (mid x0 x1 x2 x4) a w) (View.ld x9 (Rect.unit ![0, 0] ![1, 1024] inb_S1x1024_S1x1024_0_0))
def yL : List (View.Piece (Elt Ideal) S512x1024 .f32) :=
  [⟨Rect.unit ![0, 0] ![512, 1024] inb_S512x1024_S512x1024_0_0, fin x0 x1 x2 x4 x5 x6 x7 x8 x9 xc⟩,
   ⟨Rect.unit ![0, 0] ![512, 1024] inb_S512x1024_S512x1024_0_0, mid x0 x1 x2 x4⟩]

/-- What a sequence's first tile leaves: the result, -/
theorem y_first (c : Dev nD) (t : Fin cfg0.N) (h : cond0_0 (grid0.coords t)) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) h x0 x1 x2 x3 x4 x5 x6 x7 x8 x9
      = View.canon (yL x0 x1 x2 x4 x5 x6 x7 x8 x9 (firstRows x3)) := by
  unfold out0_A_10
  rw [View.read_writes_eq_canon _ _ _ (cover0_A_10 c _ _ _ _ _ _ _ _ _ _ _ _ _ _ _ _ _ _ _ _ _ _ _ _ _ _ _ _ _ _ _ _ _ _ _ _ _ _ _ _ _ _ _ _ )]
  unfold kernelRun0_A
  dsimp only
  sl_unfold_words
  simp (disch := omega) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, load_whole, load_shift1, load_shift2, load_skip, load_cols]
  rfl

/-- the state, -/
theorem cst_first (c : Dev nD) (t : Fin cfg0.N) (h : cond0_0 (grid0.coords t)) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) h x0 x1 x2 x3 x4 x5 x6 x7 x8 x9
      = View.canon (cstL x0 x1 x2 x4 x5 x6) := by
  unfold out0_A_11
  rw [View.read_writes_eq_canon _ _ _ (cover0_A_11 c _ _ _ _ _ _ _ _ _ _ _ _ _ _ _ _ _ _ _ _ _ _ _ _ _ _ _ _ _ _ _ _ _ _ _ _ _ _ _ _ _ _ _ _ )]
  unfold kernelRun0_A
  dsimp only
  sl_unfold_words
  simp (disch := omega) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, load_whole, load_shift1, load_shift2, load_skip, load_cols]
  rfl

/-- and the rows kept. -/
theorem car_first (c : Dev nD) (t : Fin cfg0.N) (h : cond0_0 (grid0.coords t)) :
    sout0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) h x0 x1 x2 x3 x4 x5 x6 x7 x8 x9
      = View.canon (carL x0 x1 x2 x4 x5 x6 ++ [⟨Rect.unit ![0, 0] ![2, 5632] inb_S2x5632_S2x5632_0_0, firstRows x3⟩]) := by
  unfold sout0_A_3
  rw [View.read_writes_eq_canon _ _ _ (scover0_A_3 c _ _ _ _ _ _ _ _ _ _ _ _ _ _ _ _ _ _ _ _ _ _ _ _ _ _ _ _ _ _ _ _ _ _ _ _ _ _ _ _ _ _ _ _ )]
  unfold kernelRun0_A
  dsimp only
  sl_unfold_words
  simp (disch := omega) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, load_whole, load_shift1, load_shift2, load_skip, load_cols]
  rfl

/-- What a later tile leaves: the result, -/
theorem y_next (c : Dev nD) (t : Fin cfg0.N) (h : ¬cond0_0 (grid0.coords t)) (xs : Vec Ideal S2x5632 .f32) :
    out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) h x0 x1 x2 x3 x4 x5 x6 x7 x8 x9 xs
      = View.canon (yL x0 x1 x2 x4 x5 x6 x7 x8 x9 xs) := by
  unfold out0_B_10
  rw [View.read_writes_eq_canon _ _ _ (cover0_B_10 c _ _ _ _ _ _ _ _ _ _ _ _ _ _ _ _ _ _ _ _ _ _ _ _ _ _ _ _ _ _ _ _ _ _ _ _ _ _ _ _ _ _ _ _ _ )]
  unfold kernelRun0_B
  dsimp only
  sl_unfold_words
  simp (disch := omega) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (Memref.isWhole_whole cc0_scratch3).read_unread, load_whole, load_shift1, load_shift2]
  rfl

/-- the state, -/
theorem cst_next (c : Dev nD) (t : Fin cfg0.N) (h : ¬cond0_0 (grid0.coords t)) (xs : Vec Ideal S2x5632 .f32) :
    out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) h x0 x1 x2 x3 x4 x5 x6 x7 x8 x9 xs
      = View.canon (cstL x0 x1 x2 x4 x5 x6) := by
  unfold out0_B_11
  rw [View.read_writes_eq_canon _ _ _ (cover0_B_11 c _ _ _ _ _ _ _ _ _ _ _ _ _ _ _ _ _ _ _ _ _ _ _ _ _ _ _ _ _ _ _ _ _ _ _ _ _ _ _ _ _ _ _ _ _ )]
  unfold kernelRun0_B
  dsimp only
  sl_unfold_words
  simp (disch := omega) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (Memref.isWhole_whole cc0_scratch3).read_unread, load_whole, load_shift1, load_shift2]
  rfl

/-- and the rows kept. -/
theorem car_next (c : Dev nD) (t : Fin cfg0.N) (h : ¬cond0_0 (grid0.coords t)) (xs : Vec Ideal S2x5632 .f32) :
    sout0_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) h x0 x1 x2 x3 x4 x5 x6 x7 x8 x9 xs
      = View.canon (carL x0 x1 x2 x4 x5 x6) := by
  unfold sout0_B_3
  rw [View.read_writes_eq_canon _ _ _ (scover0_B_3 c _ _ _ _ _ _ _ _ _ _ _ _ _ _ _ _ _ _ _ _ _ _ _ _ _ _ _ _ _ _ _ _ _ _ _ _ _ _ _ _ _ _ _ _ _ )]
  unfold kernelRun0_B
  dsimp only
  sl_unfold_words
  simp (disch := omega) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (Memref.isWhole_whole cc0_scratch3).read_unread, load_whole, load_shift1, load_shift2]
  rfl

end Stages

end Cert.Kernel2Ideal.Block

end
-- ==== Proof.FfnRow.lean ====
module

public import Idealize.ShloMosaic.Lib.Pointwise

@[expose] public section

noncomputable section

namespace Cert.Ffn

open Idealize.ShloMosaic

/-! ## One row of the layer's second half

A row of the stream goes through the attention's projection, a normalization, the projection up, a convolution over
this row and the two before it, the gated activation, the projection down and the last normalization. -/

/-- The stream plus the projected attention outputs. -/
def mid (x : Fin 1024 → EReal) (fox mla : Fin 512 → EReal) (wo : Fin 1024 → Fin 1024 → EReal) (d : Fin 1024) : EReal :=
  x d + (∑ k : Fin 512, fox k * wo ⟨k, by omega⟩ d + ∑ k : Fin 512, mla k * wo ⟨512 + k, by omega⟩ d)

/-- A row over its root mean square, times a gain. -/
def norm (y g : Fin 1024 → EReal) (d : Fin 1024) : EReal :=
  y d * Ideal.rsqrt (Ideal.div (∑ k : Fin 1024, y k * y k) (Ideal.ofBits .f32 0x44800000#32) + Ideal.ofBits .f32 0x358637BD#32) * g d

/-- A row times a matrix. -/
def dot {n m : ℕ} (h : Fin n → EReal) (w : Fin n → Fin m → EReal) (j : Fin m) : EReal := ∑ k : Fin n, h k * w k j

/-- The convolution over the row two before, the one before and this one. -/
def conv (b c0 c1 c2 u2 u1 u : EReal) : EReal := b + c0 * u2 + c1 * u1 + c2 * u

/-- The gated activation. -/
def gated (g v : EReal) : EReal := g * Ideal.logistic g * v

end Cert.Ffn

end
-- ==== Proof.FfnTile.lean ====
module

public import proofs.«01_k».proof.Proof.FfnOpen
public import proofs.«01_k».proof.Proof.FfnRow

@[expose] public section

set_option maxRecDepth 16384

noncomputable section

namespace Cert.Kernel2Ideal.Block

open Idealize.ShloMosaic Idealize.ShloMosaic.TcCoe Idealize.ShloMosaic.Tactic
open Idealize.SL Idealize.SL.Sem
open Cert.Kernel2Ideal Cert.Kernel2Ideal.Gen

/-- A load of 256 columns. -/
theorem ld_cols {n : ℕ} {e : EltTy} (x : Vec Ideal ⟨2, ![n, 5632]⟩ e) (o : ℕ) (h) (a : Fin n) (q : Fin 256) (j : Fin 5632) (hj : j.val = o + q.val) :
    View.ld x (Rect.unit (s := ⟨2, ![n, 5632]⟩) ![0, o] ![n, 256] h) (ix2 a q) = x (ix2 a j) := by
  show x _ = x _
  congr 1
  funext d
  match d with
  | 0 => apply Fin.ext; show 0 + 1 * a.val = a.val; omega
  | 1 => apply Fin.ext; show o + 1 * q.val = j.val; omega

/-- Every chunk is stored. -/
theorem all11 (c : Fin 11) : c ∈ [(10 : Fin 11), 9, 8, 7, 6, 5, 4, 3, 2, 1, 0] := by revert c; decide
theorem all22 (k : Fin 22) : k ∈ [(21 : Fin 22), 20, 19, 18, 17, 16, 15, 14, 13, 12, 11, 10, 9, 8, 7, 6, 5, 4, 3, 2, 1, 0] := by revert k; decide

/-- The chunk a column is in. -/
theorem col_of (j : Fin 5632) : ∃ k : Fin 22, col k ≤ j.val ∧ j.val < col k + 256 := by
  by_cases h : j.val < 2816
  · exact ⟨⟨2 * (j.val / 256), by omega⟩, by unfold col; dsimp only; omega, by unfold col; dsimp only; omega⟩
  · exact ⟨⟨2 * ((j.val - 2816) / 256) + 1, by omega⟩, by unfold col; dsimp only; omega, by unfold col; dsimp only; omega⟩

/-- The contents where the last stores, all tiles of one function, reach. -/
theorem canon_append {s : Shape} {e : EltTy} (g : s.Idx → Elt Ideal e) (L M : List (View.Piece (Elt Ideal) s e))
    (hL : ∀ p ∈ L, ∀ x, p.2 x = g (p.1.emb x)) (i : s.Idx) (hi : ∃ p ∈ L, i ∈ p.1.set) : View.canon (L ++ M) i = g i := by
  induction L with
  | nil => obtain ⟨p, hp, -⟩ := hi; exact absurd hp List.not_mem_nil
  | cons p L ih =>
    by_cases h : i ∈ p.1.set
    · obtain ⟨x, rfl⟩ := p.1.exists_idx_of_mem h
      exact (View.canon_cons_emb p.1 p.2 (L ++ M) x).trans (hL p List.mem_cons_self x)
    · refine (View.canon_cons_of_not_mem p (L ++ M) h).trans (ih (fun q hq => hL q (List.mem_cons_of_mem _ hq)) ?_)
      obtain ⟨q, hq, hiq⟩ := hi
      rcases List.mem_cons.1 hq with rfl | hq
      · exact absurd hiq h
      · exact ⟨q, hq, hiq⟩

section Tile
variable (x0 : Vec Ideal S512x1024 .f32) (x1 x2 : Vec Ideal S512x512 .bf16) (x3 : Vec Ideal S1x2x5632 .f32)
  (x4 : Vec Ideal S1024x1024 .bf16) (x5 : Vec Ideal S1x1024 .f32) (x6 : Vec Ideal S1024x5632 .bf16) (x7 : Vec Ideal S4x5632 .f32)
  (x8 : Vec Ideal S2816x1024 .bf16) (x9 : Vec Ideal S1x1024 .f32) (xc : Vec Ideal S2x5632 .f32)

/-- A row of the tile after the attention's projection, -/
def tMid (r : Fin 512) : Fin 1024 → EReal :=
  Ffn.mid (fun d => x0 (ix2 r d)) (fun k => x1 (ix2 r k)) (fun k => x2 (ix2 r k)) (fun k d => x4 (ix2 k d))
/-- and projected up. -/
def tUp (r : Fin 512) : Fin 5632 → EReal :=
  Ffn.dot (Ffn.norm (tMid x0 x1 x2 x4 r) (fun d => x5 (ix2 0 d))) (fun k j => x6 (ix2 k j))
/-- The same with the two rows before the tile in front. -/
def tRows (s : Fin 514) (j : Fin 5632) : EReal :=
  if h : s.val < 2 then xc (ix2 ⟨s.val, h⟩ j) else tUp x0 x1 x2 x4 x5 x6 ⟨s.val - 2, by omega⟩ j
/-- A row convolved, -/
def tConv (r : Fin 512) (j : Fin 5632) : EReal :=
  Ffn.conv (x7 (ix2 3 j)) (x7 (ix2 0 j)) (x7 (ix2 1 j)) (x7 (ix2 2 j)) (tRows x0 x1 x2 x4 x5 x6 xc ⟨r.val, by omega⟩ j)
    (tRows x0 x1 x2 x4 x5 x6 xc ⟨r.val + 1, by omega⟩ j) (tUp x0 x1 x2 x4 x5 x6 r j)
/-- activated, -/
def tAct (r : Fin 512) (j : Fin 2816) : EReal :=
  Ffn.gated (tConv x0 x1 x2 x4 x5 x6 x7 xc r ⟨j.val, by omega⟩) (tConv x0 x1 x2 x4 x5 x6 x7 xc r ⟨2816 + j.val, by omega⟩)
/-- and the result's row. -/
def tFin (r : Fin 512) : Fin 1024 → EReal :=
  Ffn.norm (fun d => tMid x0 x1 x2 x4 r d + Ffn.dot (tAct x0 x1 x2 x4 x5 x6 x7 xc r) (fun k d => x8 (ix2 k d)) d) (fun d => x9 (ix2 0 d))

theorem mid_apply (r : Fin 512) (d : Fin 1024) : mid x0 x1 x2 x4 (ix2 r d) = tMid x0 x1 x2 x4 r d := by
  unfold mid
  pointwise [k0_pay2]
  rfl

theorem hn_apply (r : Fin 512) (d : Fin 1024) :
    hn x0 x1 x2 x4 x5 (ix2 r d) = Ffn.norm (tMid x0 x1 x2 x4 r) (fun d => x5 (ix2 0 d)) d := by
  have e : ∀ d, k0_pay2 (F := Ideal) (View.ld x1 (Rect.unit ![0, 0] ![512, 512] inb_S512x512_S512x512_0_0)) (View.ld x2 (Rect.unit ![0, 0] ![512, 512] inb_S512x512_S512x512_0_0))
    (View.ld x0 (Rect.unit ![0, 0] ![512, 1024] inb_S512x1024_S512x1024_0_0)) (View.ld x4 (Rect.unit ![0, 0] ![1024, 1024] inb_S1024x1024_S1024x1024_0_0)) (ix2 r d) = tMid x0 x1 x2 x4 r d := mid_apply x0 x1 x2 x4 r
  unfold hn k0_pay3
  generalize k0_pay2 (F := Ideal) _ _ _ _ = y at e ⊢
  pointwise []
  exact congrArg (fun f => Ffn.norm f (fun d => x5 (ix2 0 d)) d) (funext e)

theorem up_apply (k : Fin 22) (r : Fin 512) (q : Fin 256) (j : Fin 5632) (hj : j.val = col k + q.val) :
    up x0 x1 x2 x4 x5 x6 k (ix2 r q) = tUp x0 x1 x2 x4 x5 x6 r j := by
  have e := hn_apply x0 x1 x2 x4 x5 r
  unfold up
  generalize hn x0 x1 x2 x4 x5 = y at e ⊢
  generalize hz : View.ld x6 (Rect.unit ![0, col k] ![1024, 256] (inCols (col_le k))) = z
  pointwise [k0_pay140]
  subst hz
  exact Finset.sum_congr rfl fun x _ => congrArg₂ (fun a b : EReal => a * b) (e x) (ld_cols x6 (col k) _ x q j hj)

theorem conv_apply (u : Vec Ideal S512x256 .f32) (u1 u2 : Vec Ideal S1x1x512x256 .f32) (w : Vec Ideal S4x256 .f32) (r : Fin 512) (q : Fin 256) :
    k0_pay147 (F := Ideal) u u1 u2 w (ix2 r q)
      = Ffn.conv (w (ix2 3 q)) (w (ix2 0 q)) (w (ix2 1 q)) (w (ix2 2 q)) (u2 (ix4 0 0 r q)) (u1 (ix4 0 0 r q)) (u (ix2 r q)) := by
  pointwise [k0_pay147]
  rfl
theorem act_apply' (u g : Vec Ideal S512x256 .f32) (u1 u2 : Vec Ideal S1x1x512x256 .f32) (w : Vec Ideal S4x256 .f32) (r : Fin 512) (q : Fin 256) :
    k0_pay152 (F := Ideal) u g u1 u2 w (ix2 r q) = Ffn.gated (g (ix2 r q))
       (Ffn.conv (w (ix2 3 q)) (w (ix2 0 q)) (w (ix2 1 q)) (w (ix2 2 q)) (u2 (ix4 0 0 r q)) (u1 (ix4 0 0 r q)) (u (ix2 r q))) := by
  pointwise [k0_pay152]
  rfl
theorem pay154 (u : Vec Ideal S512x256 .f32) (r : Fin 512) (q : Fin 256) :
    k0_pay154 (F := Ideal) u (ix4 0 0 r q) = u (ix2 r q) := by
  pointwise [k0_pay154]
theorem pay153 (u : Vec Ideal S2x256 .f32) (r : Fin 2) (q : Fin 256) :
    k0_pay153 (F := Ideal) u (ix4 0 0 r q) = u (ix2 r q) := by
  pointwise [k0_pay153]
theorem pay155 (u : Vec Ideal S512x256 .f32) (r : Fin 2) (q : Fin 256) :
    k0_pay155 (F := Ideal) u (ix3 0 r q) = u (ix2 ⟨510 + r.val, by omega⟩ q) := by
  pointwise [k0_pay155]
theorem pay156 (u : Vec Ideal S512x256 .f32) (r : Fin 2) (q : Fin 256) :
    k0_pay156 (F := Ideal) u (ix2 r q) = u (ix2 ⟨510 + r.val, by omega⟩ q) := by
  pointwise [k0_pay156]
theorem firstRows_apply (r : Fin 2) (j : Fin 5632) : firstRows x3 (ix2 r j) = x3 (ix3 0 r j) := by
  pointwise [firstRows, k0_pay4]
theorem pay171 (m : Vec Ideal S512x1024 .f32) (a : Vec Ideal S512x2816 .bf16) (w : Vec Ideal S2816x1024 .bf16) (g : Vec Ideal S1x1024 .f32) (r : Fin 512) (d : Fin 1024) :
    k0_pay1 (F := Ideal) (k0_pay170 (F := Ideal) m a w) (k0_pay171 (F := Ideal) m a w) g (ix2 r d)
      = Ffn.norm (fun d => m (ix2 r d) + Ffn.dot (fun k => a (ix2 r k)) (fun k d => w (ix2 k d)) d) (fun d => g (ix2 0 d)) d := by
  unfold k0_pay171
  have e : ∀ d, k0_pay170 (F := Ideal) m a w (ix2 r d) = (m (ix2 r d) + Ffn.dot (fun k => a (ix2 r k)) (fun k d => w (ix2 k d)) d : EReal) := fun d => by
    pointwise [k0_pay170]
    rfl
  generalize k0_pay170 (F := Ideal) m a w = y at e ⊢
  pointwise [k0_pay1]
  exact congrArg (fun f => Ffn.norm f (fun d => g (ix2 0 d)) d) (funext e)
theorem up1_apply (k : Fin 22) (r : Fin 512) (q : Fin 256) (j : Fin 5632) (hj : j.val = col k + q.val) :
    up1 x0 x1 x2 x4 x5 x6 xc k (ix4 0 0 r q) = tRows x0 x1 x2 x4 x5 x6 xc ⟨r.val + 1, by omega⟩ j := by
  unfold up1 shift1 tRows
  by_cases h : r.val < 1
  · refine (dif_pos h).trans (((pay153 _ _ _).trans (ld_cols xc (col k) _ 1 q j hj)).trans ?_)
    rw [dif_pos (by show r.val + 1 < 2; omega)]
    exact congrArg (fun a => xc (ix2 a j)) (Fin.ext (by show 1 = r.val + 1; omega))
  · refine (dif_neg h).trans (((pay154 _ _ _).trans (up_apply x0 x1 x2 x4 x5 x6 k _ q j hj)).trans ?_)
    rw [dif_neg (by show ¬ r.val + 1 < 2; omega)]
    exact congrArg (fun a => tUp x0 x1 x2 x4 x5 x6 a j) (Fin.ext (by show r.val - 1 = r.val + 1 - 2; omega))

theorem up2_apply (k : Fin 22) (r : Fin 512) (q : Fin 256) (j : Fin 5632) (hj : j.val = col k + q.val) :
    up2 x0 x1 x2 x4 x5 x6 xc k (ix4 0 0 r q) = tRows x0 x1 x2 x4 x5 x6 xc ⟨r.val, by omega⟩ j := by
  unfold up2 shift2 tRows
  by_cases h : r.val < 2
  · refine (dif_pos h).trans (((pay153 _ _ _).trans (ld_cols xc (col k) _ _ q j hj)).trans ?_)
    rw [dif_pos h]; rfl
  · refine (dif_neg h).trans (((pay154 _ _ _).trans (up_apply x0 x1 x2 x4 x5 x6 k _ q j hj)).trans ?_)
    rw [dif_neg h]; rfl

theorem convd (k : Fin 22) (r : Fin 512) (q : Fin 256) (j : Fin 5632) (hj : j.val = col k + q.val) :
    Ffn.conv (cw x7 k (ix2 3 q)) (cw x7 k (ix2 0 q)) (cw x7 k (ix2 1 q)) (cw x7 k (ix2 2 q)) (up2 x0 x1 x2 x4 x5 x6 xc k (ix4 0 0 r q))
      (up1 x0 x1 x2 x4 x5 x6 xc k (ix4 0 0 r q)) (up x0 x1 x2 x4 x5 x6 k (ix2 r q)) = tConv x0 x1 x2 x4 x5 x6 x7 xc r j := by
  rw [up2_apply x0 x1 x2 x4 x5 x6 xc k r q j hj, up1_apply x0 x1 x2 x4 x5 x6 xc k r q j hj, up_apply x0 x1 x2 x4 x5 x6 k r q j hj]
  have e : ∀ a : Fin 4, cw x7 k (ix2 a q) = x7 (ix2 a j) := fun a => ld_cols x7 (col k) _ a q j hj
  rw [e, e, e, e]
  rfl

theorem act_apply (c : Fin 11) (r : Fin 512) (q : Fin 256) (j : Fin 2816) (hj : j.val = 256 * c.val + q.val) :
    act x0 x1 x2 x4 x5 x6 x7 xc c (ix2 r q) = tAct x0 x1 x2 x4 x5 x6 x7 xc r j := by
  unfold act tAct
  rw [act_apply', conv_apply,
    convd x0 x1 x2 x4 x5 x6 x7 xc (gk c) r q ⟨j.val, by omega⟩ (by show j.val = 256 * (2 * c.val / 2) + 2816 * (2 * c.val % 2) + q.val; omega),
    convd x0 x1 x2 x4 x5 x6 x7 xc (vk c) r q ⟨2816 + j.val, by omega⟩ (by show 2816 + j.val = 256 * ((2 * c.val + 1) / 2) + 2816 * ((2 * c.val + 1) % 2) + q.val; omega)]

/-- The activation as read back whole. -/
theorem actL_apply (r : Fin 512) (j : Fin 2816) :
    View.canon (actL x0 x1 x2 x4 x5 x6 x7 xc) (ix2 r j) = tAct x0 x1 x2 x4 x5 x6 x7 xc r j := by
  refine View.canon_apply_of_pieces (Val := Elt Ideal) (e := .bf16) (fun y : S512x2816.Idx => tAct x0 x1 x2 x4 x5 x6 x7 xc (y 0) (y 1)) _ ?_ (ix2 r j) ?_
  · intro p hp
    obtain ⟨c, -, rfl⟩ := List.mem_map.1 hp
    intro y
    have e : y = ix2 (y 0) (y 1) := by funext a; match a with | 0 => rfl | 1 => rfl
    refine (congrArg (act x0 x1 x2 x4 x5 x6 x7 xc c) e).trans ((act_apply x0 x1 x2 x4 x5 x6 x7 xc c (y 0) (y 1) ⟨256 * c.val + (y 1).val, by have : (y 1).val < 256 := (y 1).isLt; omega⟩ rfl).trans ?_)
    refine congrArg₂ (fun a b => tAct x0 x1 x2 x4 x5 x6 x7 xc a b) (Fin.ext ?_) (Fin.ext ?_)
    · show (y 0).val = 0 + 1 * (y 0).val; omega
    · show 256 * c.val + (y 1).val = 256 * c.val + 1 * (y 1).val; omega
  · refine ⟨actP x0 x1 x2 x4 x5 x6 x7 xc ⟨j.val / 256, by omega⟩, List.mem_map_of_mem (all11 _), ?_⟩
    refine (Rect.mem_set_unit (s := S512x2816) (inb := inCols (gate_le ⟨j.val / 256, by omega⟩))).2 fun a => ?_
    match a with
    | 0 => exact ⟨Nat.zero_le _, by show r.val < 0 + 512; omega⟩
    | 1 => exact ⟨by show 256 * (j.val / 256) ≤ j.val; omega, by show j.val < 256 * (j.val / 256) + 256; omega⟩

/-- The result's tile. -/
theorem y_apply (r : Fin 512) (d : Fin 1024) :
    View.canon (yL x0 x1 x2 x4 x5 x6 x7 x8 x9 xc) (ix2 r d) = tFin x0 x1 x2 x4 x5 x6 x7 x8 x9 xc r d := by
  have h0 : View.canon (yL x0 x1 x2 x4 x5 x6 x7 x8 x9 xc) (ix2 r d) = fin x0 x1 x2 x4 x5 x6 x7 x8 x9 xc (ix2 r d) :=
    Eq.trans (congrArg _ (by funext a; match a with | 0 => exact Fin.ext (by show r.val = 0 + 1 * r.val; omega) | 1 => exact Fin.ext (by show d.val = 0 + 1 * d.val; omega)))
      (View.canon_cons_emb (Rect.unit (s := S512x1024) ![0, 0] ![512, 1024] inb_S512x1024_S512x1024_0_0) (fin x0 x1 x2 x4 x5 x6 x7 x8 x9 xc) _ (ix2 r d))
  rw [h0]
  unfold fin tFin
  dsimp only
  rw [pay171]
  have e8 : ∀ (k : Fin 2816) (d : Fin 1024), View.ld x8 (Rect.unit ![0, 0] ![2816, 1024] inb_S2816x1024_S2816x1024_0_0) (ix2 k d) = x8 (ix2 k d) := fun k d => by pointwise []
  have e9 : ∀ d : Fin 1024, View.ld x9 (Rect.unit ![0, 0] ![1, 1024] inb_S1x1024_S1x1024_0_0) (ix2 0 d) = x9 (ix2 0 d) := fun d => by pointwise []
  have ea : ∀ k : Fin 2816, (View.whole cc0_scratch1).readCov (actL x0 x1 x2 x4 x5 x6 x7 xc) (Rect.unit (s := S512x2816) ![0, 0] ![512, 2816] inb_S512x2816_S512x2816_0_0).toLoadRect (ix2 r k)
      = tAct x0 x1 x2 x4 x5 x6 x7 xc r k := fun k => by
    rw [View.readCov_eq_canon']
    refine Eq.trans (congrArg _ ?_) (actL_apply x0 x1 x2 x4 x5 x6 x7 xc r k)
    funext a
    match a with
    | 0 => exact Fin.ext (by show 0 + 1 * r.val = r.val; omega)
    | 1 => exact Fin.ext (by show 0 + 1 * k.val = k.val; omega)
  simp only [e8, e9, ea, mid_apply]

/-- The state's rows after the tile. -/
theorem cst_apply (r : Fin 2) (j : Fin 5632) :
    View.canon (cstL x0 x1 x2 x4 x5 x6) (ix3 0 r j) = tUp x0 x1 x2 x4 x5 x6 ⟨510 + r.val, by omega⟩ j := by
  refine View.canon_apply_of_pieces (Val := Elt Ideal) (e := .f32) (fun y : S1x2x5632.Idx => tUp x0 x1 x2 x4 x5 x6 ⟨510 + (y 1).val, by have : (y 1).val < 2 := (y 1).isLt; omega⟩ (y 2)) _ ?_ (ix3 0 r j) ?_
  · intro p hp
    obtain ⟨k, -, rfl⟩ := List.mem_map.1 hp
    intro y
    have e : y = ix3 0 (y 1) (y 2) := by
      funext a
      match a with
      | 0 => exact Fin.ext (by have : (y 0).val < 1 := (y 0).isLt; show (y 0).val = 0; omega)
      | 1 => rfl
      | 2 => rfl
    have hk := col_le k
    refine (congrArg (k0_pay155 (F := Ideal) (up x0 x1 x2 x4 x5 x6 k)) e).trans ((pay155 _ (y 1) (y 2)).trans
      ((up_apply x0 x1 x2 x4 x5 x6 k _ (y 2) ⟨col k + (y 2).val, by have : (y 2).val < 256 := (y 2).isLt; omega⟩ rfl).trans ?_))
    refine congrArg₂ (fun a b => tUp x0 x1 x2 x4 x5 x6 a b) (Fin.ext ?_) (Fin.ext ?_)
    · show 510 + (y 1).val = 510 + (0 + 1 * (y 1).val); omega
    · show col k + (y 2).val = col k + 1 * (y 2).val; omega
  · obtain ⟨k, h1, h2⟩ := col_of j
    refine ⟨cstP x0 x1 x2 x4 x5 x6 k, List.mem_map_of_mem (all22 k), ?_⟩
    refine (Rect.mem_set_unit (s := S1x2x5632) (inb := inCols3 (col_le k))).2 fun a => ?_
    match a with
    | 0 => exact ⟨Nat.zero_le _, by show 0 < 0 + 1; omega⟩
    | 1 => exact ⟨Nat.zero_le _, by show r.val < 0 + 2; omega⟩
    | 2 => exact ⟨h1, h2⟩

/-- The rows kept for the next tile, whatever the scratch held before. -/
theorem car_apply (L : List (View.Piece (Elt Ideal) S2x5632 .f32)) (r : Fin 2) (j : Fin 5632) :
    View.canon (carL x0 x1 x2 x4 x5 x6 ++ L) (ix2 r j) = tUp x0 x1 x2 x4 x5 x6 ⟨510 + r.val, by omega⟩ j := by
  refine canon_append (e := .f32) (fun y : S2x5632.Idx => tUp x0 x1 x2 x4 x5 x6 ⟨510 + (y 0).val, by have : (y 0).val < 2 := (y 0).isLt; omega⟩ (y 1)) _ L ?_ (ix2 r j) ?_
  · intro p hp
    obtain ⟨k, -, rfl⟩ := List.mem_map.1 hp
    intro y
    have e : y = ix2 (y 0) (y 1) := by funext a; match a with | 0 => rfl | 1 => rfl
    have hk := col_le k
    refine (congrArg (k0_pay156 (F := Ideal) (up x0 x1 x2 x4 x5 x6 k)) e).trans ((pay156 _ (y 0) (y 1)).trans
      ((up_apply x0 x1 x2 x4 x5 x6 k _ (y 1) ⟨col k + (y 1).val, by have : (y 1).val < 256 := (y 1).isLt; omega⟩ rfl).trans ?_))
    refine congrArg₂ (fun a b => tUp x0 x1 x2 x4 x5 x6 a b) (Fin.ext ?_) (Fin.ext ?_)
    · show 510 + (y 0).val = 510 + (0 + 1 * (y 0).val); omega
    · show col k + (y 1).val = col k + 1 * (y 1).val; omega
  · obtain ⟨k, h1, h2⟩ := col_of j
    refine ⟨carP x0 x1 x2 x4 x5 x6 k, List.mem_map_of_mem (all22 k), ?_⟩
    refine (Rect.mem_set_unit (s := S2x5632) (inb := inCols (col_le k))).2 fun a => ?_
    match a with
    | 0 => exact ⟨Nat.zero_le _, by show r.val < 0 + 2; omega⟩
    | 1 => exact ⟨h1, h2⟩

end Tile

end Cert.Kernel2Ideal.Block

end
-- ==== Proof.FfnSeq.lean ====
module

public import proofs.«01_k».proof.Proof.FfnRow
public import Idealize.ShloMosaic.Lib.Pointwise

@[expose] public section

noncomputable section

namespace Cert.Ffn

open Idealize.ShloMosaic

/-! ## The layer's second half on whole sequences

The row functions over `n` sequences of `l` tokens: the two rows before a sequence are handed in, every later row's
two predecessors are the sequence's own. -/

variable {n l : ℕ} (x : (⟨3, ![n, l, 1024]⟩ : Shape).Idx → EReal) (fox mla : (⟨3, ![n, l, 512]⟩ : Shape).Idx → EReal)
  (before : (⟨3, ![n, 2, 5632]⟩ : Shape).Idx → EReal) (wo : (⟨2, ![1024, 1024]⟩ : Shape).Idx → EReal)
  (g1 : (⟨1, ![1024]⟩ : Shape).Idx → EReal) (wup : (⟨2, ![1024, 5632]⟩ : Shape).Idx → EReal)
  (cw : (⟨2, ![3, 5632]⟩ : Shape).Idx → EReal) (cb : (⟨1, ![5632]⟩ : Shape).Idx → EReal)
  (wdn : (⟨2, ![2816, 1024]⟩ : Shape).Idx → EReal) (g2 : (⟨1, ![1024]⟩ : Shape).Idx → EReal)

/-- A token's stream after the attention, -/
def sMid (b : Fin n) (t : Fin l) : Fin 1024 → EReal :=
  mid (fun d => x (ix3 b t d)) (fun k => fox (ix3 b t k)) (fun k => mla (ix3 b t k)) (fun k d => wo (ix2 k d))
/-- projected up. -/
def sUp (b : Fin n) (t : Fin l) : Fin 5632 → EReal :=
  dot (norm (sMid x fox mla wo b t) (fun d => g1 (ix1 d))) (fun k j => wup (ix2 k j))
/-- The same with the two rows before the sequence in front. -/
def sRows (b : Fin n) (s : Fin (l + 2)) (j : Fin 5632) : EReal :=
  if h : s.val < 2 then before (ix3 b ⟨s.val, h⟩ j) else sUp x fox mla wo g1 wup b ⟨s.val - 2, by omega⟩ j
/-- A token convolved, -/
def sConv (b : Fin n) (t : Fin l) (j : Fin 5632) : EReal :=
  conv (cb (ix1 j)) (cw (ix2 0 j)) (cw (ix2 1 j)) (cw (ix2 2 j)) (sRows x fox mla before wo g1 wup b ⟨t.val, by omega⟩ j)
    (sRows x fox mla before wo g1 wup b ⟨t.val + 1, by omega⟩ j) (sUp x fox mla wo g1 wup b t j)
/-- activated, -/
def sAct (b : Fin n) (t : Fin l) (j : Fin 2816) : EReal :=
  gated (sConv x fox mla before wo g1 wup cw cb b t ⟨j.val, by omega⟩) (sConv x fox mla before wo g1 wup cw cb b t ⟨2816 + j.val, by omega⟩)
/-- and the result's row. -/
def sFin (b : Fin n) (t : Fin l) : Fin 1024 → EReal :=
  norm (fun d => sMid x fox mla wo b t d + dot (sAct x fox mla before wo g1 wup cw cb b t) (fun k d => wdn (ix2 k d)) d) (fun d => g2 (ix1 d))

theorem sRows_next (b : Fin n) (t : Fin l) (j : Fin 5632) :
    sRows x fox mla before wo g1 wup b ⟨2 + t.val, by omega⟩ j = sUp x fox mla wo g1 wup b t j := by
  unfold sRows
  rw [dif_neg (by show ¬ 2 + t.val < 2; omega)]
  exact congrArg (fun a => sUp x fox mla wo g1 wup b a j) (Fin.ext (by show 2 + t.val - 2 = t.val; omega))

theorem sRows_first (b : Fin n) (t : Fin 2) (j : Fin 5632) :
    sRows x fox mla before wo g1 wup b ⟨t.val, by omega⟩ j = before (ix3 b t j) := by
  unfold sRows
  rw [dif_pos t.isLt]

end Cert.Ffn

end
-- ==== Proof.FfnBlocks.lean ====
module

public import proofs.«01_k».proof.Proof.Gen.Kernel2Ideal.Value
public import Idealize.ShloMosaic.Lib.Pointwise
public import Idealize.ShloMosaic.Lib.Claim
public import Idealize.ShloMosaic.Lib.Pipeline.ValueKit.Geometry
public import Idealize.ShloMosaic.Lib.Pipeline.ValueKit.Point

@[expose] public section

set_option maxRecDepth 16384

noncomputable section

/-! # The blocks of a grid point of the second call, read at an index -/

namespace Cert.Kernel2Ideal.Host

open Idealize.ShloMosaic Idealize.ShloMosaic.TcCoe Idealize.ShloMosaic.Tactic
open Idealize.SL Idealize.SL.Sem
open Cert.Kernel2Ideal Cert.Kernel2Ideal.Gen

variable (m : (ℓ : Loc nD τ sig) → Buf (Elt Ideal) ℓ) (c : Dev nD)

/-- The arguments as arrays of extended reals. -/
def aX (i : S8x2048x1024.Idx) : EReal := m (c, Proc.tc.devRef main_arg0) i
def aFox (i : S8x2048x512.Idx) : EReal := m (c, Proc.tc.devRef main_arg1) i
def aMla (i : S8x2048x512.Idx) : EReal := m (c, Proc.tc.devRef main_arg2) i
def aBefore (i : S8x2x5632.Idx) : EReal := m (c, Proc.tc.devRef main_arg3) i
def aWo (i : S1024x1024.Idx) : EReal := m (c, Proc.tc.devRef main_arg4) i
def aG1 (i : S1024.Idx) : EReal := m (c, Proc.tc.devRef main_arg5) i
def aWup (i : S1024x5632.Idx) : EReal := m (c, Proc.tc.devRef main_arg6) i
def aCw (i : S3x5632.Idx) : EReal := m (c, Proc.tc.devRef main_arg7) i
def aCb (i : S5632.Idx) : EReal := m (c, Proc.tc.devRef main_arg8) i
def aWdn (i : S2816x1024.Idx) : EReal := m (c, Proc.tc.devRef main_arg9) i
def aG2 (i : S1024.Idx) : EReal := m (c, Proc.tc.devRef main_arg10) i

/-! ## The arrays the host prepares -/

theorem v2 (r : Fin 16384) (d : Fin 1024) : V m c main_v2 (ix2 r d) = aX m c (ix3 ⟨r.val / 2048, by omega⟩ ⟨r.val % 2048, by omega⟩ d) := by
  rw [aX]; entry_read; pointwise
theorem v3 (r : Fin 16384) (d : Fin 512) : V m c main_v3 (ix2 r d) = aFox m c (ix3 ⟨r.val / 2048, by omega⟩ ⟨r.val % 2048, by omega⟩ d) := by
  rw [aFox]; entry_read; pointwise
theorem v4 (r : Fin 16384) (d : Fin 512) : V m c main_v4 (ix2 r d) = aMla m c (ix3 ⟨r.val / 2048, by omega⟩ ⟨r.val % 2048, by omega⟩ d) := by
  rw [aMla]; entry_read; pointwise
theorem v5 (k d : Fin 1024) : V m c main_v5 (ix2 k d) = aWo m c (ix2 k d) := by
  rw [aWo]; entry_read; pointwise
theorem v6 (d : Fin 1024) : V m c main_v6 (ix2 0 d) = aG1 m c (ix1 d) := by
  rw [aG1]; entry_read; pointwise
theorem v7 (k : Fin 1024) (d : Fin 5632) : V m c main_v7 (ix2 k d) = aWup m c (ix2 k d) := by
  rw [aWup]; entry_read; pointwise
theorem v1 (k : Fin 3) (d : Fin 5632) : V m c main_v1 (ix2 ⟨k.val, by omega⟩ d) = aCw m c (ix2 k d) := by
  rw [aCw]; entry_read; pointwise
theorem v1b (d : Fin 5632) : V m c main_v1 (ix2 3 d) = aCb m c (ix1 d) := by
  rw [aCb]; entry_read; pointwise
theorem v8 (k : Fin 2816) (d : Fin 1024) : V m c main_v8 (ix2 k d) = aWdn m c (ix2 k d) := by
  rw [aWdn]; entry_read; pointwise
theorem v9 (d : Fin 1024) : V m c main_v9 (ix2 0 d) = aG2 m c (ix1 d) := by
  rw [aG2]; entry_read; pointwise

/-! ## The blocks -/

theorem points (t : Fin cfg0.N) : t.val < 32 := t.isLt

theorem idx : ∀ t : Fin cfg0.N, win0_0.index t = ![t.val, 0] ∧ win0_1.index t = ![t.val, 0]
    ∧ win0_2.index t = ![t.val, 0] ∧ win0_3.index t = ![t.val / 4, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] :=
  (by decide +kernel : ∀ t : Fin grid0.N, _)

variable (t : Fin cfg0.N)

/-- The sequence a grid point works on, -/
def bat : Fin 8 := ⟨t.val / 4, by have := points t; omega⟩
/-- and the token a row of its tile is. -/
def tok (r : Fin 512) : Fin 2048 := ⟨512 * (t.val % 4) + r.val, by omega⟩

theorem row_bat (r : Fin 512) (h) : (⟨(512 * t.val + r.val) / 2048, h⟩ : Fin 8) = bat t := Fin.ext (by show _ = t.val / 4; dsimp only; omega)
theorem row_tok (r : Fin 512) (h) : (⟨(512 * t.val + r.val) % 2048, h⟩ : Fin 2048) = tok t r := Fin.ext (by show _ = 512 * (t.val % 4) + r.val; dsimp only; omega)

theorem b0 (r : Fin 512) (d : Fin 1024) : iblk m c 0 t (ix2 r d) = aX m c (ix3 (bat t) (tok t r) d) := by
  have hp := points t
  have e : iblk m c 0 t (ix2 r d) = V m c main_v2 (ix2 ⟨512 * t.val + r.val, by omega⟩ d) := by blk_ext [iblk, V, idx t]
  rw [e, v2, row_bat, row_tok]
theorem b1 (r : Fin 512) (d : Fin 512) : iblk m c 1 t (ix2 r d) = aFox m c (ix3 (bat t) (tok t r) d) := by
  have hp := points t
  have e : iblk m c 1 t (ix2 r d) = V m c main_v3 (ix2 ⟨512 * t.val + r.val, by omega⟩ d) := by blk_ext [iblk, V, idx t]
  rw [e, v3, row_bat, row_tok]
theorem b2 (r : Fin 512) (d : Fin 512) : iblk m c 2 t (ix2 r d) = aMla m c (ix3 (bat t) (tok t r) d) := by
  have hp := points t
  have e : iblk m c 2 t (ix2 r d) = V m c main_v4 (ix2 ⟨512 * t.val + r.val, by omega⟩ d) := by blk_ext [iblk, V, idx t]
  rw [e, v4, row_bat, row_tok]
theorem b3 (q : Fin 2) (j : Fin 5632) : iblk m c 3 t (ix3 0 q j) = aBefore m c (ix3 (bat t) q j) := by
  have hp := points t
  have e : iblk m c 3 t (ix3 0 q j) = V m c main_arg3 (ix3 (bat t) q j) := by blk_ext [iblk, V, idx t, bat]
  rw [e, V_main_arg3]; rfl
theorem b4 (k d : Fin 1024) : iblk m c 4 t (ix2 k d) = aWo m c (ix2 k d) := by
  have e : iblk m c 4 t (ix2 k d) = V m c main_v5 (ix2 k d) := by blk_ext [iblk, V, idx t]
  rw [e, v5]
theorem b5 (d : Fin 1024) : iblk m c 5 t (ix2 0 d) = aG1 m c (ix1 d) := by
  have e : iblk m c 5 t (ix2 0 d) = V m c main_v6 (ix2 0 d) := by blk_ext [iblk, V, idx t]
  rw [e, v6]
theorem b6 (k : Fin 1024) (d : Fin 5632) : iblk m c 6 t (ix2 k d) = aWup m c (ix2 k d) := by
  have e : iblk m c 6 t (ix2 k d) = V m c main_v7 (ix2 k d) := by blk_ext [iblk, V, idx t]
  rw [e, v7]
theorem b7 (k : Fin 3) (d : Fin 5632) : iblk m c 7 t (ix2 ⟨k.val, by omega⟩ d) = aCw m c (ix2 k d) := by
  have e : iblk m c 7 t (ix2 ⟨k.val, by omega⟩ d) = V m c main_v1 (ix2 ⟨k.val, by omega⟩ d) := by blk_ext [iblk, V, idx t]
  rw [e, v1]
theorem b7b (d : Fin 5632) : iblk m c 7 t (ix2 3 d) = aCb m c (ix1 d) := by
  have e : iblk m c 7 t (ix2 3 d) = V m c main_v1 (ix2 3 d) := by blk_ext [iblk, V, idx t]
  rw [e, v1b]
theorem b8 (k : Fin 2816) (d : Fin 1024) : iblk m c 8 t (ix2 k d) = aWdn m c (ix2 k d) := by
  have e : iblk m c 8 t (ix2 k d) = V m c main_v8 (ix2 k d) := by blk_ext [iblk, V, idx t]
  rw [e, v8]
theorem b9 (d : Fin 1024) : iblk m c 9 t (ix2 0 d) = aG2 m c (ix1 d) := by
  have e : iblk m c 9 t (ix2 0 d) = V m c main_v9 (ix2 0 d) := by blk_ext [iblk, V, idx t]
  rw [e, v9]

end Cert.Kernel2Ideal.Host

end
-- ==== Proof.FfnValue.lean ====
module

public import proofs.«01_k».proof.Proof.FfnTile
public import proofs.«01_k».proof.Proof.FfnSeq
public import proofs.«01_k».proof.Proof.FfnBlocks

@[expose] public section

set_option maxRecDepth 16384

noncomputable section

/-! # What the second call's grid leaves in its results -/

namespace Cert.Kernel2Ideal.Host

open Idealize.ShloMosaic Idealize.ShloMosaic.TcCoe Idealize.ShloMosaic.Tactic
open Idealize.SL Idealize.SL.Sem
open Cert.Kernel2Ideal Cert.Kernel2Ideal.Gen Cert.Kernel2Ideal.Block

variable (m : (ℓ : Loc nD τ sig) → Buf (Elt Ideal) ℓ) (c : Dev nD)

/-- The layer's second half on the call's arguments: the rows projected up, -/
def kUp : Fin 8 → Fin 2048 → Fin 5632 → EReal := Cert.Ffn.sUp (aX m c) (aFox m c) (aMla m c) (aWo m c) (aG1 m c) (aWup m c)
/-- the same with the two rows before, -/
def kRows : Fin 8 → Fin 2050 → Fin 5632 → EReal :=
  Cert.Ffn.sRows (aX m c) (aFox m c) (aMla m c) (aBefore m c) (aWo m c) (aG1 m c) (aWup m c)
/-- and the result. -/
def kFin : Fin 8 → Fin 2048 → Fin 1024 → EReal :=
  Cert.Ffn.sFin (aX m c) (aFox m c) (aMla m c) (aBefore m c) (aWo m c) (aG1 m c) (aWup m c) (aCw m c) (aCb m c) (aWdn m c) (aG2 m c)

section tile
variable (t : Fin cfg0.N)

theorem tile_mid (r : Fin 512) : tMid (iblk m c 0 t) (iblk m c 1 t) (iblk m c 2 t) (iblk m c 4 t) r
    = Cert.Ffn.sMid (aX m c) (aFox m c) (aMla m c) (aWo m c) (bat t) (tok t r) := by
  unfold tMid Cert.Ffn.sMid
  rw [funext (b0 m c t r), funext (b1 m c t r), funext (b2 m c t r), funext fun k => funext (b4 m c t k)]

theorem tile_up (r : Fin 512) : tUp (iblk m c 0 t) (iblk m c 1 t) (iblk m c 2 t) (iblk m c 4 t) (iblk m c 5 t) (iblk m c 6 t) r
    = kUp m c (bat t) (tok t r) := by
  unfold tUp kUp Cert.Ffn.sUp
  rw [tile_mid, funext (b5 m c t), funext fun k => funext (b6 m c t k)]

variable (xc : Vec Ideal S2x5632 .f32) (hxc : ∀ (q : Fin 2) (j : Fin 5632), xc (ix2 q j) = kRows m c (bat t) ⟨512 * (t.val % 4) + q.val, by omega⟩ j)
include hxc

theorem tile_rows (s : Fin 514) (j : Fin 5632) :
    tRows (iblk m c 0 t) (iblk m c 1 t) (iblk m c 2 t) (iblk m c 4 t) (iblk m c 5 t) (iblk m c 6 t) xc s j
      = kRows m c (bat t) ⟨512 * (t.val % 4) + s.val, by omega⟩ j := by
  unfold tRows
  by_cases h : s.val < 2
  · rw [dif_pos h]; exact hxc ⟨s.val, h⟩ j
  · rw [dif_neg h, tile_up]
    refine (Cert.Ffn.sRows_next (aX m c) (aFox m c) (aMla m c) (aBefore m c) (aWo m c) (aG1 m c) (aWup m c) (bat t) (tok t ⟨s.val - 2, by omega⟩) j).symm.trans ?_
    exact congrArg (fun a => kRows m c (bat t) a j) (Fin.ext (by show 2 + (512 * (t.val % 4) + (s.val - 2)) = 512 * (t.val % 4) + s.val; omega))

theorem tile_conv (r : Fin 512) (j : Fin 5632) :
    tConv (iblk m c 0 t) (iblk m c 1 t) (iblk m c 2 t) (iblk m c 4 t) (iblk m c 5 t) (iblk m c 6 t) (iblk m c 7 t) xc r j
      = Cert.Ffn.sConv (aX m c) (aFox m c) (aMla m c) (aBefore m c) (aWo m c) (aG1 m c) (aWup m c) (aCw m c) (aCb m c) (bat t) (tok t r) j := by
  unfold tConv Cert.Ffn.sConv
  rw [tile_rows m c t xc hxc, tile_rows m c t xc hxc, tile_up, b7b]
  have h0 : iblk m c 7 t (ix2 0 j) = aCw m c (ix2 0 j) := b7 m c t 0 j
  have h1 : iblk m c 7 t (ix2 1 j) = aCw m c (ix2 1 j) := b7 m c t 1 j
  have h2 : iblk m c 7 t (ix2 2 j) = aCw m c (ix2 2 j) := b7 m c t 2 j
  rw [h0, h1, h2]
  rfl

theorem tile_act (r : Fin 512) :
    tAct (iblk m c 0 t) (iblk m c 1 t) (iblk m c 2 t) (iblk m c 4 t) (iblk m c 5 t) (iblk m c 6 t) (iblk m c 7 t) xc r
      = Cert.Ffn.sAct (aX m c) (aFox m c) (aMla m c) (aBefore m c) (aWo m c) (aG1 m c) (aWup m c) (aCw m c) (aCb m c) (bat t) (tok t r) := by
  funext j
  unfold tAct Cert.Ffn.sAct
  rw [tile_conv m c t xc hxc, tile_conv m c t xc hxc]

theorem tile_fin (r : Fin 512) :
    tFin (iblk m c 0 t) (iblk m c 1 t) (iblk m c 2 t) (iblk m c 4 t) (iblk m c 5 t) (iblk m c 6 t) (iblk m c 7 t) (iblk m c 8 t) (iblk m c 9 t) xc r
      = kFin m c (bat t) (tok t r) := by
  unfold tFin kFin Cert.Ffn.sFin
  rw [tile_act m c t xc hxc, tile_mid, funext fun k => funext (b8 m c t k), funext (b9 m c t)]

end tile

/-- What a grid point leaves: its tile of the result, the last two rows before the convolution in the state result and
    in the scratch. -/
structure Left (t : Fin cfg0.N) (o : Vec Ideal S512x1024 .f32 × Vec Ideal S1x2x5632 .f32 × Vec Ideal S2x5632 .f32) : Prop where
  y : ∀ (r : Fin 512) (d : Fin 1024), o.1 (ix2 r d) = kFin m c (bat t) (tok t r) d
  st : ∀ (q : Fin 2) (j : Fin 5632), o.2.1 (ix3 0 q j) = kUp m c (bat t) (tok t ⟨510 + q.val, by omega⟩) j
  car : ∀ (q : Fin 2) (j : Fin 5632), o.2.2 (ix2 q j) = kUp m c (bat t) (tok t ⟨510 + q.val, by omega⟩) j

theorem left_first (t : Fin cfg0.N) (h : t.val % 4 = 0) : Left m c t (outsAt0 m c t.val t.isLt) := by
  have hxc : ∀ (q : Fin 2) (j : Fin 5632), firstRows (iblk m c 3 t) (ix2 q j) = kRows m c (bat t) ⟨512 * (t.val % 4) + q.val, by omega⟩ j := fun q j =>
    (firstRows_apply (iblk m c 3 t) q j).trans ((b3 m c t q j).trans
      ((Cert.Ffn.sRows_first (aX m c) (aFox m c) (aMla m c) (aBefore m c) (aWo m c) (aG1 m c) (aWup m c) (bat t) q j).symm.trans
        (congrArg (fun a => kRows m c (bat t) a j) (Fin.ext (by show q.val = 512 * (t.val % 4) + q.val; omega)))))
  rw [outsAt0_A m c t h]
  refine ⟨fun r d => ?_, fun q j => ?_, fun q j => ?_⟩
  · dsimp only
    rw [y_first, y_apply]
    exact congrFun (tile_fin m c t _ hxc r) d
  · dsimp only
    rw [cst_first, cst_apply]
    exact congrFun (tile_up m c t _) j
  · dsimp only
    rw [car_first, car_apply]
    exact congrFun (tile_up m c t _) j

theorem left_next (t : Fin cfg0.N) (h : ¬ t.val % 4 = 0)
    (ih : Left m c ⟨t.val - 1, Nat.lt_of_le_of_lt (Nat.sub_le _ _) t.isLt⟩ (outsAt0 m c (t.val - 1) (Nat.lt_of_le_of_lt (Nat.sub_le _ _) t.isLt))) :
    Left m c t (outsAt0 m c t.val t.isLt) := by
  have hp := points t
  have hxc : ∀ (q : Fin 2) (j : Fin 5632), (outsAt0 m c (t.val - 1) (Nat.lt_of_le_of_lt (Nat.sub_le _ _) t.isLt)).2.2 (ix2 q j)
      = kRows m c (bat t) ⟨512 * (t.val % 4) + q.val, by omega⟩ j := fun q j => by
    rw [ih.car]
    have hb : bat ⟨t.val - 1, Nat.lt_of_le_of_lt (Nat.sub_le _ _) t.isLt⟩ = bat t := Fin.ext (by show (t.val - 1) / 4 = t.val / 4; omega)
    rw [hb]
    refine (Cert.Ffn.sRows_next (aX m c) (aFox m c) (aMla m c) (aBefore m c) (aWo m c) (aG1 m c) (aWup m c) (bat t) _ j).symm.trans ?_
    exact congrArg (fun a => kRows m c (bat t) a j) (Fin.ext (by show 2 + (512 * ((t.val - 1) % 4) + (510 + q.val)) = 512 * (t.val % 4) + q.val; omega))
  rw [outsAt0_B m c t h]
  refine ⟨fun r d => ?_, fun q j => ?_, fun q j => ?_⟩
  · dsimp only
    rw [y_next, y_apply]
    exact congrFun (tile_fin m c t _ hxc r) d
  · dsimp only
    rw [cst_next, cst_apply]
    exact congrFun (tile_up m c t _) j
  · dsimp only
    rw [car_next, ← List.append_nil (carL _ _ _ _ _ _), car_apply]
    exact congrFun (tile_up m c t _) j

theorem left : ∀ (n : ℕ) (hn : n < cfg0.N), Left m c ⟨n, hn⟩ (outsAt0 m c n hn)
  | 0, hn => left_first m c ⟨0, hn⟩ rfl
  | n + 1, hn => by
    by_cases h : (n + 1) % 4 = 0
    · exact left_first m c ⟨n + 1, hn⟩ h
    · exact left_next m c ⟨n + 1, hn⟩ h (left n (Nat.lt_of_succ_lt hn))

/-- The first result, rows of all sequences one after the other. -/
theorem result (r : Fin 16384) (d : Fin 1024) : Value.G10 m c (ix2 r d) = kFin m c ⟨r.val / 2048, by omega⟩ ⟨r.val % 2048, by omega⟩ d := by
  have hn : r.val / 512 < cfg0.N := by show _ < 32; omega
  have hpt : Value.pt10Of (ix2 r d) = r.val / 512 := by show 1 * (r.val / 512 - 0) + 1 * (d.val / 1024 - 0) = r.val / 512; omega
  unfold Value.G10
  rw [dif_pos (hpt ▸ hn), Value.fold0_congr m c _ _ (r.val / 512) (by omega) hpt, ← Value.outsAt0_sweep m c _ hn]
  have e : Value.loc10Of (ix2 r d) = ix2 ⟨r.val % 512, by omega⟩ d := by
    funext a
    match a with
    | 0 => rfl
    | 1 => exact Fin.ext (by show d.val % 1024 = d.val; omega)
  rw [e]
  refine ((left m c _ hn).y ⟨r.val % 512, by omega⟩ d).trans ?_
  refine congrArg₂ (fun a b => kFin m c a b d) (Fin.ext ?_) (Fin.ext ?_)
  · show r.val / 512 / 4 = r.val / 2048; omega
  · show 512 * (r.val / 512 % 4) + r.val % 512 = r.val % 2048; omega

/-- The second result, the last two rows before the convolution. -/
theorem state (b : Fin 8) (q : Fin 2) (j : Fin 5632) : Value.G11 m c (ix3 b q j) = kUp m c b ⟨2046 + q.val, by omega⟩ j := by
  have hn : 4 * b.val + 3 < cfg0.N := by show _ < 32; omega
  have hpt : Value.pt11Of (ix3 b q j) = 4 * b.val + 3 := by
    show 4 * (1 * (b.val / 1 - 0) + 1 * (q.val / 2 - 0) + 1 * (j.val / 5632 - 0)) + 3 = 4 * b.val + 3; omega
  unfold Value.G11
  rw [dif_pos (hpt ▸ hn), Value.fold0_congr m c _ _ (4 * b.val + 3) (by omega) hpt, ← Value.outsAt0_sweep m c _ hn]
  have e : Value.loc11Of (ix3 b q j) = ix3 0 q j := by
    funext a
    match a with
    | 0 => exact Fin.ext (by show b.val % 1 = 0; omega)
    | 1 => exact Fin.ext (by show q.val % 2 = q.val; omega)
    | 2 => exact Fin.ext (by show j.val % 5632 = j.val; omega)
  rw [e]
  refine ((left m c _ hn).st q j).trans ?_
  refine congrArg₂ (fun a b => kUp m c a b j) (Fin.ext ?_) (Fin.ext ?_)
  · show (4 * b.val + 3) / 4 = b.val; omega
  · show 512 * ((4 * b.val + 3) % 4) + (510 + q.val) = 2046 + q.val; omega

end Cert.Kernel2Ideal.Host

end
-- ==== Proof.RefFfn.lean ====
module

public import proofs.«01_k».proof.Proof.Gen.Reference2Ideal.Read
public import proofs.«01_k».proof.Proof.FfnSeq
public import Idealize.ShloMosaic.Lib.Pointwise

@[expose] public section

set_option maxRecDepth 16384

noncomputable section

/-! # The reference of the second call, read at an index -/

namespace Cert.Reference2Ideal.Ffn

open Idealize.ShloMosaic Idealize.ShloMosaic.TcCoe Idealize.ShloMosaic.Tactic
open Cert.Reference2Ideal Cert.Reference2Ideal.Gen Cert.Reference2Ideal.Read

variable (x0 : (⟨S8x2048x1024, .f32⟩ : BufTy).Contents (Elt Ideal)) (x1 x2 : (⟨S8x2048x512, .bf16⟩ : BufTy).Contents (Elt Ideal))
  (x3 : (⟨S8x2x5632, .f32⟩ : BufTy).Contents (Elt Ideal)) (x4 : (⟨S1024x1024, .f32⟩ : BufTy).Contents (Elt Ideal))
  (x5 : (⟨S1024, .f32⟩ : BufTy).Contents (Elt Ideal)) (x6 : (⟨S1024x5632, .f32⟩ : BufTy).Contents (Elt Ideal))
  (x7 : (⟨S3x5632, .f32⟩ : BufTy).Contents (Elt Ideal)) (x8 : (⟨S5632, .f32⟩ : BufTy).Contents (Elt Ideal))
  (x9 : (⟨S2816x1024, .f32⟩ : BufTy).Contents (Elt Ideal)) (x10 : (⟨S1024, .f32⟩ : BufTy).Contents (Elt Ideal))

theorem zero_bits : (FloatOps.ofBits (F := Ideal) .f32 0x00000000#32 : EReal) = 0 := by
  simp [FloatOps.ofBits, Ideal.ofBits, Ideal.ieee]

theorem v3 (b : Fin 8) (t : Fin 2048) (d : Fin 1024) : val_main_v3 (F := Ideal) x0 x1 x2 x4 (ix3 b t d) = Cert.Ffn.sMid x0 x1 x2 x4 b t d := by
  pointwise [val_main_v3, val_main_v2, val_main_v1, val_main_v0]
  rfl

theorem v16 (b : Fin 8) (t : Fin 2048) (d : Fin 1024) :
    val_main_v16 (F := Ideal) x0 x1 x2 x4 x5 (ix3 b t d) = Cert.Ffn.norm (Cert.Ffn.sMid x0 x1 x2 x4 b t) (fun d => x5 (ix1 d)) d := by
  have e := v3 x0 x1 x2 x4 b t
  unfold val_main_v16 val_main_v13 val_main_v12 val_main_v11 val_main_v10 val_main_v8 val_main_v6 val_main_v5 val_main_v4
  generalize val_main_v3 (F := Ideal) x0 x1 x2 x4 = y at e ⊢
  pointwise [val_main_v15, val_main_v14, val_main_v9, val_main_v7]
  rw [val_main_cst_apply, zero_bits, zero_add]
  exact congrArg (fun f => Cert.Ffn.norm f (fun d => x5 (ix1 d)) d) (funext e)

theorem v17 (b : Fin 8) (t : Fin 2048) (d : Fin 5632) :
    val_main_v17 (F := Ideal) x0 x1 x2 x4 x5 x6 (ix3 b t d) = Cert.Ffn.sUp x0 x1 x2 x4 x5 x6 b t d := by
  have e := v16 x0 x1 x2 x4 x5 b t
  unfold val_main_v17
  generalize val_main_v16 (F := Ideal) x0 x1 x2 x4 x5 = y at e ⊢
  pointwise []
  exact congrArg (fun f => Cert.Ffn.dot f (fun k j => x6 (ix2 k j)) d) (funext e)

theorem v18a (b : Fin 8) (t : Fin 2) (d : Fin 5632) :
    val_main_v18 (F := Ideal) x0 x1 x2 x3 x4 x5 x6 (ix3 b ⟨t.val, by omega⟩ d) = x3 (ix3 b t d) := by
  unfold val_main_v18
  generalize val_main_v17 (F := Ideal) x0 x1 x2 x4 x5 x6 = y
  pointwise []
theorem v18b (b : Fin 8) (t : Fin 2048) (d : Fin 5632) :
    val_main_v18 (F := Ideal) x0 x1 x2 x3 x4 x5 x6 (ix3 b ⟨2 + t.val, by omega⟩ d) = val_main_v17 (F := Ideal) x0 x1 x2 x4 x5 x6 (ix3 b t d) := by
  unfold val_main_v18
  generalize val_main_v17 (F := Ideal) x0 x1 x2 x4 x5 x6 = y
  pointwise []
theorem v18 (b : Fin 8) (s : Fin 2050) (j : Fin 5632) :
    val_main_v18 (F := Ideal) x0 x1 x2 x3 x4 x5 x6 (ix3 b s j) = Cert.Ffn.sRows x0 x1 x2 x3 x4 x5 x6 b s j := by
  by_cases h : s.val < 2
  · exact (v18a x0 x1 x2 x3 x4 x5 x6 b ⟨s.val, h⟩ j).trans (Cert.Ffn.sRows_first x0 x1 x2 x3 x4 x5 x6 b ⟨s.val, h⟩ j).symm
  · obtain ⟨t, h⟩ : ∃ t : Fin 2048, (⟨2 + t.val, Nat.add_lt_add_left t.isLt 2⟩ : Fin 2050) = s := ⟨⟨s.val - 2, by omega⟩, Fin.ext (by show 2 + (s.val - 2) = s.val; omega)⟩
    subst h
    exact (v18b x0 x1 x2 x3 x4 x5 x6 b t j).trans ((v17 x0 x1 x2 x4 x5 x6 b t j).trans (Cert.Ffn.sRows_next x0 x1 x2 x3 x4 x5 x6 b t j).symm)

theorem v43 (b : Fin 8) (t : Fin 2048) (d : Fin 5632) :
    val_main_v43 (F := Ideal) x0 x1 x2 x3 x4 x5 x6 x7 x8 (ix3 b t d) = Cert.Ffn.sConv x0 x1 x2 x3 x4 x5 x6 x7 x8 b t d := by
  have e : ∀ s, val_main_v18 (F := Ideal) x0 x1 x2 x3 x4 x5 x6 (ix3 b s d) = _ := fun s => v18 x0 x1 x2 x3 x4 x5 x6 b s d
  unfold val_main_v43 val_main_v40 val_main_v39 val_main_v36 val_main_v33 val_main_v32 val_main_v29 val_main_v26 val_main_v24 val_main_v21
  generalize val_main_v18 (F := Ideal) x0 x1 x2 x3 x4 x5 x6 = y at e ⊢
  pointwise [val_main_v42, val_main_v41, val_main_v38, val_main_v37, val_main_v35, val_main_v34, val_main_v31, val_main_v30, val_main_v28, val_main_v27, val_main_v25, val_main_v23, val_main_v22, val_main_v20, val_main_v19]
  rw [val_main_cst_2_apply, zero_bits, zero_add, e, e, e, Cert.Ffn.sRows_next]
  unfold Cert.Ffn.sConv Cert.Ffn.conv
  have h1 : (⟨1 + t.val, by omega⟩ : Fin 2050) = ⟨t.val + 1, by omega⟩ := Fin.ext (Nat.add_comm _ _)
  rw [h1, add_assoc, add_assoc, add_assoc]

theorem v47 (b : Fin 8) (t : Fin 2048) (j : Fin 2816) :
    val_main_v47 (F := Ideal) x0 x1 x2 x3 x4 x5 x6 x7 x8 (ix3 b t j) = Cert.Ffn.sAct x0 x1 x2 x3 x4 x5 x6 x7 x8 b t j := by
  have e := v43 x0 x1 x2 x3 x4 x5 x6 x7 x8 b t
  unfold val_main_v47 val_main_v46 val_main_call0_v5 val_main_call0_v3 val_main_call0_v1 val_main_call0_v0 val_main_v45 val_main_v44
  generalize val_main_v43 (F := Ideal) x0 x1 x2 x3 x4 x5 x6 x7 x8 = y at e ⊢
  pointwise [val_main_call0_v2, val_main_call0_v4, val_main_call0_cst, val_main_call0_cst_0]
  rw [e, e]
  rfl

theorem v49 (b : Fin 8) (t : Fin 2048) (d : Fin 1024) :
    val_main_v49 (F := Ideal) x0 x1 x2 x3 x4 x5 x6 x7 x8 x9 (ix3 b t d)
      = Cert.Ffn.sMid x0 x1 x2 x4 b t d + Cert.Ffn.dot (Cert.Ffn.sAct x0 x1 x2 x3 x4 x5 x6 x7 x8 b t) (fun k d => x9 (ix2 k d)) d := by
  have e := v47 x0 x1 x2 x3 x4 x5 x6 x7 x8 b t
  have e3 := v3 x0 x1 x2 x4 b t d
  unfold val_main_v49 val_main_v48
  generalize val_main_v47 (F := Ideal) x0 x1 x2 x3 x4 x5 x6 x7 x8 = y at e ⊢
  generalize val_main_v3 (F := Ideal) x0 x1 x2 x4 = z at e3 ⊢
  pointwise []
  rw [e3]
  exact congrArg (fun f => Cert.Ffn.sMid x0 x1 x2 x4 b t d + Cert.Ffn.dot f (fun k j => x9 (ix2 k j)) d) (funext e)

theorem v62 (b : Fin 8) (t : Fin 2048) (d : Fin 1024) :
    val_main_v62 (F := Ideal) x0 x1 x2 x3 x4 x5 x6 x7 x8 x9 x10 (ix3 b t d) = Cert.Ffn.sFin x0 x1 x2 x3 x4 x5 x6 x7 x8 x9 x10 b t d := by
  have e := v49 x0 x1 x2 x3 x4 x5 x6 x7 x8 x9 b t
  unfold val_main_v62 val_main_v59 val_main_v58 val_main_v57 val_main_v56 val_main_v54 val_main_v52 val_main_v51 val_main_v50
  generalize val_main_v49 (F := Ideal) x0 x1 x2 x3 x4 x5 x6 x7 x8 x9 = y at e ⊢
  pointwise [val_main_v61, val_main_v60, val_main_v55, val_main_v53]
  rw [val_main_cst_3_apply, zero_bits, zero_add]
  exact congrArg (fun f => Cert.Ffn.norm f (fun d => x10 (ix1 d)) d) (funext e)

/-- The first result, rows of all sequences one after the other. -/
theorem v63 (r : Fin 16384) (d : Fin 1024) :
    val_main_v63 (F := Ideal) x0 x1 x2 x3 x4 x5 x6 x7 x8 x9 x10 (ix2 r d)
      = Cert.Ffn.sFin x0 x1 x2 x3 x4 x5 x6 x7 x8 x9 x10 ⟨r.val / 2048, by omega⟩ ⟨r.val % 2048, by omega⟩ d := by
  refine Eq.trans ?_ (v62 x0 x1 x2 x3 x4 x5 x6 x7 x8 x9 x10 ⟨r.val / 2048, by omega⟩ ⟨r.val % 2048, by omega⟩ d)
  unfold val_main_v63
  generalize val_main_v62 (F := Ideal) x0 x1 x2 x3 x4 x5 x6 x7 x8 x9 x10 = y
  pointwise []

/-- The second result, the last two rows before the convolution. -/
theorem v64 (b : Fin 8) (q : Fin 2) (j : Fin 5632) :
    val_main_v64 (F := Ideal) x0 x1 x2 x3 x4 x5 x6 (ix3 b q j) = Cert.Ffn.sUp x0 x1 x2 x4 x5 x6 b ⟨2046 + q.val, by omega⟩ j := by
  refine Eq.trans ?_ ((v18 x0 x1 x2 x3 x4 x5 x6 b ⟨2 + (2046 + q.val), by omega⟩ j).trans
    (Cert.Ffn.sRows_next x0 x1 x2 x3 x4 x5 x6 b ⟨2046 + q.val, by omega⟩ j))
  unfold val_main_v64
  generalize val_main_v18 (F := Ideal) x0 x1 x2 x3 x4 x5 x6 = y
  pointwise []
  exact congrArg (fun s => y (ix3 b s j)) (Fin.ext (by show 2048 + q.val = 2 + (2046 + q.val); omega))

end Cert.Reference2Ideal.Ffn

end
-- ==== Proof.FfnClaim.lean ====
module

public import proofs.«01_k».proof.Proof.FfnValue
public import proofs.«01_k».proof.Proof.RefFfn

@[expose] public section

noncomputable section

/-! # The second call's results are the reference's -/

namespace Cert.Kernel2Ideal.Host

open Idealize.ShloMosaic Idealize.ShloMosaic.TcCoe Idealize.ShloMosaic.Tactic
open Idealize.SL Idealize.SL.Sem
open Cert.Kernel2Ideal Cert.Kernel2Ideal.Gen

variable (m : (ℓ : Loc nD τ sig) → Buf (Elt Ideal) ℓ) (c : Dev nD)

theorem result_value :
    Cert.Reference2Ideal.Read.val_main_v63 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
    = Value.G10 m c := by
  refine funext fun (i : S16384x1024.Idx) => ?_
  have e : i = ix2 (i 0) (i 1) := by funext a; match a with | 0 => rfl | 1 => rfl
  rw [e]
  exact (Cert.Reference2Ideal.Ffn.v63 _ _ _ _ _ _ _ _ _ _ _ (i 0) (i 1)).trans (result m c (i 0) (i 1)).symm

theorem state_value :
    Cert.Reference2Ideal.Read.val_main_v64 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))
    = Value.G11 m c := by
  refine funext fun (i : S8x2x5632.Idx) => ?_
  have e : i = ix3 (i 0) (i 1) (i 2) := by funext a; match a with | 0 => rfl | 1 => rfl | 2 => rfl
  rw [e]
  exact (Cert.Reference2Ideal.Ffn.v64 _ _ _ _ _ _ _ (i 0) (i 1) (i 2)).trans (state m c (i 0) (i 1) (i 2)).symm

end Cert.Kernel2Ideal.Host

end
-- ==== Proof.FfnSample.lean ====
module

public import proofs.«01_k».proof.Proof.FfnTile
public import proofs.«01_k».proof.Proof.Gen.Kernel3Ideal.Skeleton

@[expose] public section

set_option maxRecDepth 16384

noncomputable section

namespace Cert.Kernel3Ideal.Block

open Idealize.ShloMosaic Idealize.ShloMosaic.TcCoe Idealize.ShloMosaic.Tactic
open Idealize.SL Idealize.SL.Sem
open Cert.Kernel3Ideal Cert.Kernel3Ideal.Gen
open Cert.Kernel2Ideal.Block (shift1 shift2 inCols col col_le gate_le gk vk mid hn up cw)

/-! ## The body of one tile of eight whole sequences

As in the tile of one sequence, whose stages up to the projection are the same, but each sequence's 64 rows are shifted
by themselves, beside the two rows given for it. -/

theorem inRows {k : Fin 22} (g : Fin 8) : ∀ a : Fin 3, (![g.val, 0, col k] : Fin 3 → ℕ) a + (![1, 2, 256] : Fin 3 → ℕ) a ≤ (![8, 2, 5632] : Fin 3 → ℕ) a
  | 0 => by show g.val + 1 ≤ 8; omega
  | 1 => by simp
  | 2 => col_le k

/-- The rows of one sequence, -/
def seg (u : Vec Ideal S512x256 .f32) : Fin 8 → Vec Ideal S1x1x64x256 .f32
  | 0 => k0_pay9 (F := Ideal) u
  | 1 => k0_pay13 (F := Ideal) u
  | 2 => k0_pay16 (F := Ideal) u
  | 3 => k0_pay20 (F := Ideal) u
  | 4 => k0_pay23 (F := Ideal) u
  | 5 => k0_pay27 (F := Ideal) u
  | 6 => k0_pay30 (F := Ideal) u
  | 7 => k0_pay34 (F := Ideal) u
/-- and its last two. -/
def last (u : Vec Ideal S512x256 .f32) : Fin 8 → Vec Ideal S1x2x256 .f32
  | 0 => k0_pay10 (F := Ideal) u
  | 1 => k0_pay14 (F := Ideal) u
  | 2 => k0_pay17 (F := Ideal) u
  | 3 => k0_pay21 (F := Ideal) u
  | 4 => k0_pay24 (F := Ideal) u
  | 5 => k0_pay28 (F := Ideal) u
  | 6 => k0_pay31 (F := Ideal) u
  | 7 => k0_pay35 (F := Ideal) u
/-- Eight sequences' rows one below the other. -/
def stack (f : Fin 8 → Vec Ideal S1x1x64x256 .f32) : Vec Ideal S512x256 .f32 :=
  k0_pay43 (F := Ideal) (f 0) (f 1) (f 2) (f 3) (f 4) (f 5) (f 6) (f 7)

section Stages
variable (x0 : Vec Ideal S512x1024 .f32) (x1 x2 : Vec Ideal S512x512 .bf16) (x3 : Vec Ideal S8x2x5632 .f32)
  (x4 : Vec Ideal S1024x1024 .bf16) (x5 : Vec Ideal S1x1024 .f32) (x6 : Vec Ideal S1024x5632 .bf16) (x7 : Vec Ideal S4x5632 .f32)
  (x8 : Vec Ideal S2816x1024 .bf16) (x9 : Vec Ideal S1x1024 .f32)

/-- The two rows given for a sequence, chunk `k`. -/
def given (k : Fin 22) (g : Fin 8) : Vec Ideal S1x1x2x256 .f32 :=
  k0_pay8 (F := Ideal) (View.ld x3 (Rect.unit ![g.val, 0, col k] ![1, 2, 256] (inRows g)))
/-- Chunk `k` of the projection one row and two rows earlier in each sequence, -/
def up1 (k : Fin 22) : Vec Ideal S512x256 .f32 := stack fun g => shift1 (seg (up x0 x1 x2 x4 x5 x6 k) g) (given x3 k g)
def up2 (k : Fin 22) : Vec Ideal S512x256 .f32 := stack fun g => shift2 (seg (up x0 x1 x2 x4 x5 x6 k) g) (given x3 k g)
/-- and the activation's chunk `c`. -/
def act (c : Fin 11) : Vec Ideal S512x256 .bf16 :=
  k0_pay80 (F := Ideal) (up x0 x1 x2 x4 x5 x6 (vk c))
    (k0_pay44 (F := Ideal) (up x0 x1 x2 x4 x5 x6 (gk c)) (up1 x0 x1 x2 x3 x4 x5 x6 (gk c)) (up2 x0 x1 x2 x3 x4 x5 x6 (gk c)) (cw x7 (gk c)))
    (up1 x0 x1 x2 x3 x4 x5 x6 (vk c)) (up2 x0 x1 x2 x3 x4 x5 x6 (vk c)) (k0_pay78 (F := Ideal) (cw x7 (vk c))) (k0_pay79 (F := Ideal) (cw x7 (vk c)))

/-- The activation's stores, last first, -/
def actP (c : Fin 11) : View.Piece (Elt Ideal) S512x2816 .bf16 :=
  ⟨Rect.unit ![0, 256 * c.val] ![512, 256] (inCols (gate_le c)), act x0 x1 x2 x3 x4 x5 x6 x7 c⟩
def actL : List (View.Piece (Elt Ideal) S512x2816 .bf16) := [10, 9, 8, 7, 6, 5, 4, 3, 2, 1, 0].map (actP x0 x1 x2 x3 x4 x5 x6 x7)
/-- the state's, -/
def cstP (k : Fin 22) (g : Fin 8) : View.Piece (Elt Ideal) S8x2x5632 .f32 :=
  ⟨Rect.unit ![g.val, 0, col k] ![1, 2, 256] (inRows g), last (up x0 x1 x2 x4 x5 x6 k) g⟩
def cstL : List (View.Piece (Elt Ideal) S8x2x5632 .f32) :=
  [21, 20, 19, 18, 17, 16, 15, 14, 13, 12, 11, 10, 9, 8, 7, 6, 5, 4, 3, 2, 1, 0].flatMap fun k =>
    [7, 6, 5, 4, 3, 2, 1, 0].map (cstP x0 x1 x2 x4 x5 x6 k)
/-- and the result's. -/
def fin : Vec Ideal S512x1024 .f32 :=
  k0_pay1 (F := Ideal) (mid x0 x1 x2 x4)
    ((View.whole cc0_scratch1).readCov (actL x0 x1 x2 x3 x4 x5 x6 x7) (Rect.unit (s := S512x2816) ![0, 0] ![512, 2816] inb_S512x2816_S512x2816_0_0).toLoadRect)
    (View.ld x8 (Rect.unit ![0, 0] ![2816, 1024] inb_S2816x1024_S2816x1024_0_0)) (View.ld x9 (Rect.unit ![0, 0] ![1, 1024] inb_S1x1024_S1x1024_0_0))
def yL : List (View.Piece (Elt Ideal) S512x1024 .f32) :=
  [⟨Rect.unit ![0, 0] ![512, 1024] inb_S512x1024_S512x1024_0_0, fin x0 x1 x2 x3 x4 x5 x6 x7 x8 x9⟩,
   ⟨Rect.unit ![0, 0] ![512, 1024] inb_S512x1024_S512x1024_0_0, mid x0 x1 x2 x4⟩]

end Stages

end Cert.Kernel3Ideal.Block

end
-- ==== Proof.FfnSampleOpen.lean ====
module

public import proofs.«01_k».proof.Proof.FfnSample
public import proofs.«01_k».proof.Proof.Gen.Kernel3Ideal.Frame

@[expose] public section

set_option maxRecDepth 65536
set_option maxHeartbeats 8000000

noncomputable section

namespace Cert.Kernel3Ideal.Block

open Idealize.ShloMosaic Idealize.ShloMosaic.TcCoe Idealize.ShloMosaic.Tactic
open Idealize.SL Idealize.SL.Sem
open Cert.Kernel3Ideal Cert.Kernel3Ideal.Gen
open Cert.Kernel2Ideal.Block (load_whole load_shift1 load_shift2 load_other)

/-- Eight blocks of 64 rows one below the other, as a function of the blocks. -/
def cat8 {α : Type} (b0 b1 b2 b3 b4 b5 b6 b7 : S64x256.Idx → α) : S512x256.Idx → α :=
  concatenate S512x256 0 [⟨S64x256, b0⟩, ⟨S64x256, b1⟩, ⟨S64x256, b2⟩, ⟨S64x256, b3⟩, ⟨S64x256, b4⟩, ⟨S64x256, b5⟩, ⟨S64x256, b6⟩, ⟨S64x256, b7⟩] concatenates_S64x256_S64x256_S64x256_S64x256_S64x256_S64x256_S64x256_S64x256_S512x256_d0

theorem cat8_eq {α : Type} (b0 b1 b2 b3 b4 b5 b6 b7 : S64x256.Idx → α)
    (h : Shape.Concatenates [S64x256, S64x256, S64x256, S64x256, S64x256, S64x256, S64x256, S64x256] S512x256 0) :
    concatenate S512x256 0 [⟨S64x256, b0⟩, ⟨S64x256, b1⟩, ⟨S64x256, b2⟩, ⟨S64x256, b3⟩, ⟨S64x256, b4⟩, ⟨S64x256, b5⟩, ⟨S64x256, b6⟩, ⟨S64x256, b7⟩] h
      = cat8 b0 b1 b2 b3 b4 b5 b6 b7 := rfl

variable (x0 : Vec Ideal S512x1024 .f32) (x1 x2 : Vec Ideal S512x512 .bf16) (x3 : Vec Ideal S8x2x5632 .f32)
  (x4 : Vec Ideal S1024x1024 .bf16) (x5 : Vec Ideal S1x1024 .f32) (x6 : Vec Ideal S1024x5632 .bf16) (x7 : Vec Ideal S4x5632 .f32)
  (x8 : Vec Ideal S2816x1024 .bf16) (x9 : Vec Ideal S1x1024 .f32)

/-- What a tile leaves: the state, -/
theorem cst (c : Dev nD) (t : Fin cfg0.N) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) x0 x1 x2 x3 x4 x5 x6 x7 x8 x9
      = View.canon (cstL x0 x1 x2 x4 x5 x6) := by
  unfold out0_A_11
  rw [View.read_writes_eq_canon _ _ _ (cover0_A_11 c _ _ _ _ _ _ _ _ _ _ _ _ _ _ _ _ _ _ _ _ _ _ _ _ _ _ _ _ _ _ _ _ _ _ _ _ _ _ _ _ _ _ _ )]
  unfold kernelRun0_A
  dsimp only
  sl_unfold_words
  simp (disch := omega) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, load_whole]
  rfl

/-- and the result. -/
theorem y (c : Dev nD) (t : Fin cfg0.N) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) x0 x1 x2 x3 x4 x5 x6 x7 x8 x9
      = View.canon (yL x0 x1 x2 x3 x4 x5 x6 x7 x8 x9) := by
  unfold out0_A_10
  rw [View.read_writes_eq_canon _ _ _ (cover0_A_10 c _ _ _ _ _ _ _ _ _ _ _ _ _ _ _ _ _ _ _ _ _ _ _ _ _ _ _ _ _ _ _ _ _ _ _ _ _ _ _ _ _ _ _ )]
  unfold kernelRun0_A
  dsimp only
  sl_unfold_words
  simp (disch := omega) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, load_whole, load_shift1, load_shift2, load_other, cat8_eq]
  rfl

end Cert.Kernel3Ideal.Block

end
-- ==== Proof.FfnSampleTile.lean ====
module

public import proofs.«01_k».proof.Proof.FfnSample

@[expose] public section

set_option maxRecDepth 16384
set_option maxHeartbeats 2000000

noncomputable section

namespace Cert.Kernel3Ideal.Block

open Idealize.ShloMosaic Idealize.ShloMosaic.TcCoe Idealize.ShloMosaic.Tactic
open Idealize.SL Idealize.SL.Sem
open Cert.Kernel3Ideal Cert.Kernel3Ideal.Gen
open Cert.Kernel2Ideal.Block (shift1 shift2 inCols col col_le gate_le gk vk mid hn up cw tMid tUp mid_apply up_apply ld_cols all11 all22 col_of)

/-- The tile's row of a sequence's token. -/
def row (g : Fin 8) (r : Fin 64) : Fin 512 := ⟨64 * g.val + r.val, by omega⟩

theorem row_of (r : Fin 512) : ∃ g q, r = row g q := ⟨⟨r.val / 64, by omega⟩, ⟨r.val % 64, by omega⟩, Fin.ext (by show r.val = 64 * (r.val / 64) + r.val % 64; omega)⟩

theorem seg_apply (u : Vec Ideal S512x256 .f32) (g : Fin 8) (r : Fin 64) (q : Fin 256) : seg u g (ix4 0 0 r q) = u (ix2 (row g r) q) := by
  unfold row
  fin_cases g <;> pointwise [seg, k0_pay9, k0_pay13, k0_pay16, k0_pay20, k0_pay23, k0_pay27, k0_pay30, k0_pay34]

theorem last_apply (u : Vec Ideal S512x256 .f32) (g : Fin 8) (r : Fin 2) (q : Fin 256) : last u g (ix3 0 r q) = u (ix2 (row g ⟨62 + r.val, by omega⟩) q) := by
  unfold row
  fin_cases g <;> pointwise [last, k0_pay10, k0_pay14, k0_pay17, k0_pay21, k0_pay24, k0_pay28, k0_pay31, k0_pay35] <;>
    exact congrArg (fun a => u (ix2 a q)) (Fin.ext (by dsimp only; omega))

theorem stack_apply (f : Fin 8 → Vec Ideal S1x1x64x256 .f32) (g : Fin 8) (r : Fin 64) (q : Fin 256) : stack f (ix2 (row g r) q) = f g (ix4 0 0 r q) := by
  unfold row stack
  fin_cases g <;> pointwise [k0_pay43] <;> split_ifs <;>
    first | omega | exact congrArg (fun a => f _ (ix4 0 0 a q)) (Fin.ext (by dsimp only; omega))

theorem conv_apply (u u1 u2 : Vec Ideal S512x256 .f32) (w : Vec Ideal S4x256 .f32) (r : Fin 512) (q : Fin 256) :
    k0_pay44 (F := Ideal) u u1 u2 w (ix2 r q)
      = Ffn.conv (w (ix2 3 q)) (w (ix2 0 q)) (w (ix2 1 q)) (w (ix2 2 q)) (u2 (ix2 r q)) (u1 (ix2 r q)) (u (ix2 r q)) := by
  pointwise [k0_pay44]
  rfl
theorem act_apply' (u g u1 u2 : Vec Ideal S512x256 .f32) (w : Vec Ideal S4x256 .f32) (r : Fin 512) (q : Fin 256) :
    k0_pay80 (F := Ideal) u g u1 u2 (k0_pay78 w) (k0_pay79 w) (ix2 r q) = Ffn.gated (g (ix2 r q))
       (Ffn.conv (w (ix2 3 q)) (w (ix2 0 q)) (w (ix2 1 q)) (w (ix2 2 q)) (u2 (ix2 r q)) (u1 (ix2 r q)) (u (ix2 r q))) := by
  pointwise [k0_pay80, k0_pay79, k0_pay78]
  rfl
theorem fin_apply (m : Vec Ideal S512x1024 .f32) (a : Vec Ideal S512x2816 .bf16) (w : Vec Ideal S2816x1024 .bf16) (g : Vec Ideal S1x1024 .f32) (r : Fin 512) (d : Fin 1024) :
    k0_pay1 (F := Ideal) m a w g (ix2 r d)
      = Ffn.norm (fun d => m (ix2 r d) + Ffn.dot (fun k => a (ix2 r k)) (fun k d => w (ix2 k d)) d) (fun d => g (ix2 0 d)) d :=
  Cert.Kernel2Ideal.Block.pay171 m a w g r d

section Tile
variable (x0 : Vec Ideal S512x1024 .f32) (x1 x2 : Vec Ideal S512x512 .bf16) (x3 : Vec Ideal S8x2x5632 .f32)
  (x4 : Vec Ideal S1024x1024 .bf16) (x5 : Vec Ideal S1x1024 .f32) (x6 : Vec Ideal S1024x5632 .bf16) (x7 : Vec Ideal S4x5632 .f32)
  (x8 : Vec Ideal S2816x1024 .bf16) (x9 : Vec Ideal S1x1024 .f32)

/-- The rows of a sequence projected up, with the two rows before it in front. -/
def tRows (g : Fin 8) (s : Fin 66) (j : Fin 5632) : EReal :=
  if h : s.val < 2 then x3 (ix3 g ⟨s.val, h⟩ j) else tUp x0 x1 x2 x4 x5 x6 (row g ⟨s.val - 2, by omega⟩) j
/-- A row convolved, -/
def tConv (g : Fin 8) (r : Fin 64) (j : Fin 5632) : EReal :=
  Ffn.conv (x7 (ix2 3 j)) (x7 (ix2 0 j)) (x7 (ix2 1 j)) (x7 (ix2 2 j)) (tRows x0 x1 x2 x3 x4 x5 x6 g ⟨r.val, by omega⟩ j)
    (tRows x0 x1 x2 x3 x4 x5 x6 g ⟨r.val + 1, by omega⟩ j) (tUp x0 x1 x2 x4 x5 x6 (row g r) j)
/-- activated, -/
def tAct (g : Fin 8) (r : Fin 64) (j : Fin 2816) : EReal :=
  Ffn.gated (tConv x0 x1 x2 x3 x4 x5 x6 x7 g r ⟨j.val, by omega⟩) (tConv x0 x1 x2 x3 x4 x5 x6 x7 g r ⟨2816 + j.val, by omega⟩)
/-- and the result's row. -/
def tFin (g : Fin 8) (r : Fin 64) : Fin 1024 → EReal :=
  Ffn.norm (fun d => tMid x0 x1 x2 x4 (row g r) d + Ffn.dot (tAct x0 x1 x2 x3 x4 x5 x6 x7 g r) (fun k d => x8 (ix2 k d)) d) (fun d => x9 (ix2 0 d))

theorem given_apply (k : Fin 22) (g : Fin 8) (r : Fin 2) (q : Fin 256) (j : Fin 5632) (hj : j.val = col k + q.val) :
    given x3 k g (ix4 0 0 r q) = x3 (ix3 g r j) := by
  have e : View.ld x3 (Rect.unit (s := S8x2x5632) ![g.val, 0, col k] ![1, 2, 256] (inRows g)) (ix3 0 r q) = x3 (ix3 g r j) := by
    show x3 _ = x3 _
    congr 1
    funext d
    match d with
    | 0 => apply Fin.ext; show g.val + 1 * 0 = g.val; omega
    | 1 => apply Fin.ext; show 0 + 1 * r.val = r.val; omega
    | 2 => apply Fin.ext; show col k + 1 * q.val = j.val; omega
  unfold given
  generalize View.ld x3 _ = y at e ⊢
  rw [← e]
  pointwise [k0_pay8]

theorem up1_apply (k : Fin 22) (g : Fin 8) (r : Fin 64) (q : Fin 256) (j : Fin 5632) (hj : j.val = col k + q.val) :
    up1 x0 x1 x2 x3 x4 x5 x6 k (ix2 (row g r) q) = tRows x0 x1 x2 x3 x4 x5 x6 g ⟨r.val + 1, by omega⟩ j := by
  unfold up1
  rw [stack_apply]
  unfold shift1 tRows
  by_cases h : r.val < 1
  · refine (dif_pos h).trans ((given_apply x3 k g 1 q j hj).trans ?_)
    rw [dif_pos (by show r.val + 1 < 2; omega)]
    exact congrArg (fun a => x3 (ix3 g a j)) (Fin.ext (by show 1 = r.val + 1; omega))
  · refine (dif_neg h).trans (((seg_apply _ g _ _).trans (up_apply x0 x1 x2 x4 x5 x6 k _ q j hj)).trans ?_)
    rw [dif_neg (by show ¬ r.val + 1 < 2; omega)]
    exact congrArg (fun a => tUp x0 x1 x2 x4 x5 x6 (row g a) j) (Fin.ext (by show r.val - 1 = r.val + 1 - 2; omega))

theorem up2_apply (k : Fin 22) (g : Fin 8) (r : Fin 64) (q : Fin 256) (j : Fin 5632) (hj : j.val = col k + q.val) :
    up2 x0 x1 x2 x3 x4 x5 x6 k (ix2 (row g r) q) = tRows x0 x1 x2 x3 x4 x5 x6 g ⟨r.val, by omega⟩ j := by
  unfold up2
  rw [stack_apply]
  unfold shift2 tRows
  by_cases h : r.val < 2
  · refine (dif_pos h).trans ((given_apply x3 k g _ q j hj).trans ?_)
    rw [dif_pos h]; rfl
  · refine (dif_neg h).trans (((seg_apply _ g _ _).trans (up_apply x0 x1 x2 x4 x5 x6 k _ q j hj)).trans ?_)
    rw [dif_neg h]; rfl

theorem convd (k : Fin 22) (g : Fin 8) (r : Fin 64) (q : Fin 256) (j : Fin 5632) (hj : j.val = col k + q.val) :
    Ffn.conv (cw x7 k (ix2 3 q)) (cw x7 k (ix2 0 q)) (cw x7 k (ix2 1 q)) (cw x7 k (ix2 2 q)) (up2 x0 x1 x2 x3 x4 x5 x6 k (ix2 (row g r) q))
      (up1 x0 x1 x2 x3 x4 x5 x6 k (ix2 (row g r) q)) (up x0 x1 x2 x4 x5 x6 k (ix2 (row g r) q)) = tConv x0 x1 x2 x3 x4 x5 x6 x7 g r j := by
  rw [up2_apply x0 x1 x2 x3 x4 x5 x6 k g r q j hj, up1_apply x0 x1 x2 x3 x4 x5 x6 k g r q j hj, up_apply x0 x1 x2 x4 x5 x6 k _ q j hj]
  have e : ∀ a : Fin 4, cw x7 k (ix2 a q) = x7 (ix2 a j) := fun a => ld_cols x7 (col k) _ a q j hj
  rw [e, e, e, e]
  rfl

theorem act_apply (c : Fin 11) (g : Fin 8) (r : Fin 64) (q : Fin 256) (j : Fin 2816) (hj : j.val = 256 * c.val + q.val) :
    act x0 x1 x2 x3 x4 x5 x6 x7 c (ix2 (row g r) q) = tAct x0 x1 x2 x3 x4 x5 x6 x7 g r j := by
  unfold act tAct
  rw [act_apply', conv_apply,
    convd x0 x1 x2 x3 x4 x5 x6 x7 (gk c) g r q ⟨j.val, by omega⟩ (by show j.val = 256 * (2 * c.val / 2) + 2816 * (2 * c.val % 2) + q.val; omega),
    convd x0 x1 x2 x3 x4 x5 x6 x7 (vk c) g r q ⟨2816 + j.val, by omega⟩ (by show 2816 + j.val = 256 * ((2 * c.val + 1) / 2) + 2816 * ((2 * c.val + 1) % 2) + q.val; omega)]

/-- The activation as read back whole. -/
theorem actL_apply (g : Fin 8) (r : Fin 64) (j : Fin 2816) :
    View.canon (actL x0 x1 x2 x3 x4 x5 x6 x7) (ix2 (row g r) j) = tAct x0 x1 x2 x3 x4 x5 x6 x7 g r j := by
  refine (View.canon_apply_of_pieces (Val := Elt Ideal) (e := .bf16) (fun y : S512x2816.Idx => tAct x0 x1 x2 x3 x4 x5 x6 x7
    ⟨(y 0).val / 64, by have : (y 0).val < 512 := (y 0).isLt; omega⟩ ⟨(y 0).val % 64, by omega⟩ (y 1)) _ ?_ (ix2 (row g r) j) ?_).trans ?_
  · intro p hp
    obtain ⟨c, -, rfl⟩ := List.mem_map.1 hp
    intro y
    obtain ⟨g, r, h⟩ := row_of (y 0)
    have e : y = ix2 (row g r) (y 1) := by funext a; match a with | 0 => exact h | 1 => rfl
    have h0 : (y 0).val = 64 * g.val + r.val := congrArg Fin.val h
    refine (congrArg (act x0 x1 x2 x3 x4 x5 x6 x7 c) e).trans ((act_apply x0 x1 x2 x3 x4 x5 x6 x7 c g r (y 1) ⟨256 * c.val + (y 1).val, by have : (y 1).val < 256 := (y 1).isLt; omega⟩ rfl).trans ?_)
    congr 1
    · apply Fin.ext; show g.val = (0 + 1 * (y 0).val) / 64; omega
    · apply Fin.ext; show r.val = (0 + 1 * (y 0).val) % 64; omega
    · apply Fin.ext; show 256 * c.val + (y 1).val = 256 * c.val + 1 * (y 1).val; omega
  · refine ⟨actP x0 x1 x2 x3 x4 x5 x6 x7 ⟨j.val / 256, by omega⟩, List.mem_map_of_mem (all11 _), ?_⟩
    refine (Rect.mem_set_unit (s := S512x2816) (inb := inCols (gate_le ⟨j.val / 256, by omega⟩))).2 fun a => ?_
    match a with
    | 0 => exact ⟨Nat.zero_le _, by show 64 * g.val + r.val < 0 + 512; omega⟩
    | 1 => exact ⟨by show 256 * (j.val / 256) ≤ j.val; omega, by show j.val < 256 * (j.val / 256) + 256; omega⟩
  · show tAct x0 x1 x2 x3 x4 x5 x6 x7 ⟨(64 * g.val + r.val) / 64, _⟩ ⟨(64 * g.val + r.val) % 64, _⟩ j = _
    congr 1
    · apply Fin.ext; show (64 * g.val + r.val) / 64 = g.val; omega
    · apply Fin.ext; show (64 * g.val + r.val) % 64 = r.val; omega

/-- The result's tile. -/
theorem y_apply (g : Fin 8) (r : Fin 64) (d : Fin 1024) :
    View.canon (yL x0 x1 x2 x3 x4 x5 x6 x7 x8 x9) (ix2 (row g r) d) = tFin x0 x1 x2 x3 x4 x5 x6 x7 x8 x9 g r d := by
  have h0 : View.canon (yL x0 x1 x2 x3 x4 x5 x6 x7 x8 x9) (ix2 (row g r) d) = fin x0 x1 x2 x3 x4 x5 x6 x7 x8 x9 (ix2 (row g r) d) :=
    Eq.trans (congrArg _ (by funext a; match a with | 0 => exact Fin.ext (by show (row g r).val = 0 + 1 * (row g r).val; omega) | 1 => exact Fin.ext (by show d.val = 0 + 1 * d.val; omega)))
      (View.canon_cons_emb (Rect.unit (s := S512x1024) ![0, 0] ![512, 1024] inb_S512x1024_S512x1024_0_0) (fin x0 x1 x2 x3 x4 x5 x6 x7 x8 x9) _ (ix2 (row g r) d))
  rw [h0]
  unfold fin tFin
  rw [fin_apply]
  have e8 : ∀ (k : Fin 2816) (d : Fin 1024), View.ld x8 (Rect.unit ![0, 0] ![2816, 1024] inb_S2816x1024_S2816x1024_0_0) (ix2 k d) = x8 (ix2 k d) := fun k d => by pointwise []
  have e9 : ∀ d : Fin 1024, View.ld x9 (Rect.unit ![0, 0] ![1, 1024] inb_S1x1024_S1x1024_0_0) (ix2 0 d) = x9 (ix2 0 d) := fun d => by pointwise []
  have ea : ∀ k : Fin 2816, (View.whole cc0_scratch1).readCov (actL x0 x1 x2 x3 x4 x5 x6 x7) (Rect.unit (s := S512x2816) ![0, 0] ![512, 2816] inb_S512x2816_S512x2816_0_0).toLoadRect (ix2 (row g r) k)
      = tAct x0 x1 x2 x3 x4 x5 x6 x7 g r k := fun k => by
    rw [View.readCov_eq_canon']
    refine Eq.trans (congrArg _ ?_) (actL_apply x0 x1 x2 x3 x4 x5 x6 x7 g r k)
    funext a
    match a with
    | 0 => exact Fin.ext (by show 0 + 1 * (row g r).val = (row g r).val; omega)
    | 1 => exact Fin.ext (by show 0 + 1 * k.val = k.val; omega)
  simp only [e8, e9, ea, mid_apply]

/-- The state's rows after the tile. -/
theorem cst_apply (g : Fin 8) (r : Fin 2) (j : Fin 5632) :
    View.canon (cstL x0 x1 x2 x4 x5 x6) (ix3 g r j) = tUp x0 x1 x2 x4 x5 x6 (row g ⟨62 + r.val, by omega⟩) j := by
  refine View.canon_apply_of_pieces (Val := Elt Ideal) (e := .f32) (fun y : S8x2x5632.Idx => tUp x0 x1 x2 x4 x5 x6 (row (y 0) ⟨62 + (y 1).val, by have : (y 1).val < 2 := (y 1).isLt; omega⟩) (y 2)) _ ?_ (ix3 g r j) ?_
  · intro p hp
    obtain ⟨k, -, hp⟩ := List.mem_flatMap.1 hp
    obtain ⟨g, -, rfl⟩ := List.mem_map.1 hp
    intro y
    have y0 : (y 0).val = 0 := by have : (y 0).val < 1 := (y 0).isLt; omega
    have e : y = ix3 0 (y 1) (y 2) := by
      funext a
      match a with
      | 0 => exact Fin.ext y0
      | 1 => rfl
      | 2 => rfl
    have hk := col_le k
    refine (congrArg (last (up x0 x1 x2 x4 x5 x6 k) g) e).trans ((last_apply _ g (y 1) (y 2)).trans
      ((up_apply x0 x1 x2 x4 x5 x6 k _ (y 2) ⟨col k + (y 2).val, by have : (y 2).val < 256 := (y 2).isLt; omega⟩ rfl).trans ?_))
    refine congrArg₂ (fun a b => tUp x0 x1 x2 x4 x5 x6 a b) (Fin.ext ?_) (Fin.ext ?_)
    · show 64 * g.val + (62 + (y 1).val) = 64 * (g.val + 1 * (y 0).val) + (62 + (0 + 1 * (y 1).val)); omega
    · show col k + (y 2).val = col k + 1 * (y 2).val; omega
  · obtain ⟨k, h1, h2⟩ := col_of j
    have all8 : ∀ g : Fin 8, g ∈ [(7 : Fin 8), 6, 5, 4, 3, 2, 1, 0] := by decide
    refine ⟨cstP x0 x1 x2 x4 x5 x6 k g, List.mem_flatMap.2 ⟨k, all22 k, List.mem_map_of_mem (all8 g)⟩, ?_⟩
    refine (Rect.mem_set_unit (s := S8x2x5632) (inb := inRows g)).2 fun a => ?_
    match a with
    | 0 => exact ⟨Nat.le_refl _, by show g.val < g.val + 1; omega⟩
    | 1 => exact ⟨Nat.zero_le _, by show r.val < 0 + 2; omega⟩
    | 2 => exact ⟨h1, h2⟩

end Tile

end Cert.Kernel3Ideal.Block

end
-- ==== Proof.FfnSampleBlocks.lean ====
module

public import proofs.«01_k».proof.Proof.Gen.Kernel3Ideal.Value
public import Idealize.ShloMosaic.Lib.Pointwise
public import Idealize.ShloMosaic.Lib.Claim
public import Idealize.ShloMosaic.Lib.Pipeline.ValueKit.Geometry
public import Idealize.ShloMosaic.Lib.Pipeline.ValueKit.Point

@[expose] public section

set_option maxRecDepth 16384

noncomputable section

/-! # The blocks of a grid point of the sample group's call, read at an index -/

namespace Cert.Kernel3Ideal.Host

open Idealize.ShloMosaic Idealize.ShloMosaic.TcCoe Idealize.ShloMosaic.Tactic
open Idealize.SL Idealize.SL.Sem
open Cert.Kernel3Ideal Cert.Kernel3Ideal.Gen

variable (m : (ℓ : Loc nD τ sig) → Buf (Elt Ideal) ℓ) (c : Dev nD)

/-- The arguments as arrays of extended reals. -/
def aX (i : S32x64x1024.Idx) : EReal := m (c, Proc.tc.devRef main_arg0) i
def aFox (i : S32x64x512.Idx) : EReal := m (c, Proc.tc.devRef main_arg1) i
def aMla (i : S32x64x512.Idx) : EReal := m (c, Proc.tc.devRef main_arg2) i
def aBefore (i : S32x2x5632.Idx) : EReal := m (c, Proc.tc.devRef main_arg3) i
def aWo (i : S1024x1024.Idx) : EReal := m (c, Proc.tc.devRef main_arg4) i
def aG1 (i : S1024.Idx) : EReal := m (c, Proc.tc.devRef main_arg5) i
def aWup (i : S1024x5632.Idx) : EReal := m (c, Proc.tc.devRef main_arg6) i
def aCw (i : S3x5632.Idx) : EReal := m (c, Proc.tc.devRef main_arg7) i
def aCb (i : S5632.Idx) : EReal := m (c, Proc.tc.devRef main_arg8) i
def aWdn (i : S2816x1024.Idx) : EReal := m (c, Proc.tc.devRef main_arg9) i
def aG2 (i : S1024.Idx) : EReal := m (c, Proc.tc.devRef main_arg10) i

theorem points (t : Fin cfg0.N) : t.val < 4 := t.isLt

theorem idx : ∀ t : Fin cfg0.N, win0_0.index t = ![t.val, 0] ∧ win0_1.index t = ![t.val, 0]
    ∧ win0_2.index t = ![t.val, 0] ∧ win0_3.index t = ![t.val, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![t.val, 0, 0] :=
  (by decide +kernel : ∀ t : Fin grid0.N, _)

variable (t : Fin cfg0.N)

/-- The sequence the rows of a tile's eighth belong to. -/
def bat (g : Fin 8) : Fin 32 := ⟨8 * t.val + g.val, by have := points t; omega⟩

/-! The tile's rows are the tokens of its eight sequences in turn. -/

theorem b0 (g : Fin 8) (r : Fin 64) (d : Fin 1024) : iblk m c 0 t (ix2 ⟨64 * g.val + r.val, by omega⟩ d) = aX m c (ix3 (bat t g) r d) := by
  have hp := points t
  have e : iblk m c 0 t (ix2 ⟨64 * g.val + r.val, by omega⟩ d) = V m c main_v2 (ix2 ⟨512 * t.val + (64 * g.val + r.val), by omega⟩ d) := by blk_ext [iblk, V, idx t]
  rw [e, aX]
  entry_read
  pointwise
  exact congrArg (fun a => m (c, Proc.tc.devRef main_arg0) (ix3 a r d)) (Fin.ext (by show (512 * t.val + (64 * g.val + r.val)) / 64 = 8 * t.val + g.val; omega))
theorem b1 (g : Fin 8) (r : Fin 64) (d : Fin 512) : iblk m c 1 t (ix2 ⟨64 * g.val + r.val, by omega⟩ d) = aFox m c (ix3 (bat t g) r d) := by
  have hp := points t
  have e : iblk m c 1 t (ix2 ⟨64 * g.val + r.val, by omega⟩ d) = V m c main_v3 (ix2 ⟨512 * t.val + (64 * g.val + r.val), by omega⟩ d) := by blk_ext [iblk, V, idx t]
  rw [e, aFox]
  entry_read
  pointwise
  exact congrArg (fun a => m (c, Proc.tc.devRef main_arg1) (ix3 a r d)) (Fin.ext (by show (512 * t.val + (64 * g.val + r.val)) / 64 = 8 * t.val + g.val; omega))
theorem b2 (g : Fin 8) (r : Fin 64) (d : Fin 512) : iblk m c 2 t (ix2 ⟨64 * g.val + r.val, by omega⟩ d) = aMla m c (ix3 (bat t g) r d) := by
  have hp := points t
  have e : iblk m c 2 t (ix2 ⟨64 * g.val + r.val, by omega⟩ d) = V m c main_v4 (ix2 ⟨512 * t.val + (64 * g.val + r.val), by omega⟩ d) := by blk_ext [iblk, V, idx t]
  rw [e, aMla]
  entry_read
  pointwise
  exact congrArg (fun a => m (c, Proc.tc.devRef main_arg2) (ix3 a r d)) (Fin.ext (by show (512 * t.val + (64 * g.val + r.val)) / 64 = 8 * t.val + g.val; omega))
theorem b3 (g : Fin 8) (q : Fin 2) (j : Fin 5632) : iblk m c 3 t (ix3 g q j) = aBefore m c (ix3 (bat t g) q j) := by
  have hp := points t
  have e : iblk m c 3 t (ix3 g q j) = V m c main_arg3 (ix3 (bat t g) q j) := by blk_ext [iblk, V, idx t, bat]
  rw [e, V_main_arg3]; rfl

/-! The weights are whole at every point. -/

theorem b4 (k d : Fin 1024) : iblk m c 4 t (ix2 k d) = aWo m c (ix2 k d) := by
  have e : iblk m c 4 t (ix2 k d) = V m c main_v5 (ix2 k d) := by blk_ext [iblk, V, idx t]
  rw [e, aWo]; entry_read; pointwise
theorem b5 (d : Fin 1024) : iblk m c 5 t (ix2 0 d) = aG1 m c (ix1 d) := by
  have e : iblk m c 5 t (ix2 0 d) = V m c main_v6 (ix2 0 d) := by blk_ext [iblk, V, idx t]
  rw [e, aG1]; entry_read; pointwise
theorem b6 (k : Fin 1024) (d : Fin 5632) : iblk m c 6 t (ix2 k d) = aWup m c (ix2 k d) := by
  have e : iblk m c 6 t (ix2 k d) = V m c main_v7 (ix2 k d) := by blk_ext [iblk, V, idx t]
  rw [e, aWup]; entry_read; pointwise
theorem b7 (k : Fin 3) (d : Fin 5632) : iblk m c 7 t (ix2 ⟨k.val, by omega⟩ d) = aCw m c (ix2 k d) := by
  have e : iblk m c 7 t (ix2 ⟨k.val, by omega⟩ d) = V m c main_v1 (ix2 ⟨k.val, by omega⟩ d) := by blk_ext [iblk, V, idx t]
  rw [e, aCw]; entry_read; pointwise
theorem b7b (d : Fin 5632) : iblk m c 7 t (ix2 3 d) = aCb m c (ix1 d) := by
  have e : iblk m c 7 t (ix2 3 d) = V m c main_v1 (ix2 3 d) := by blk_ext [iblk, V, idx t]
  rw [e, aCb]; entry_read; pointwise
theorem b8 (k : Fin 2816) (d : Fin 1024) : iblk m c 8 t (ix2 k d) = aWdn m c (ix2 k d) := by
  have e : iblk m c 8 t (ix2 k d) = V m c main_v8 (ix2 k d) := by blk_ext [iblk, V, idx t]
  rw [e, aWdn]; entry_read; pointwise
theorem b9 (d : Fin 1024) : iblk m c 9 t (ix2 0 d) = aG2 m c (ix1 d) := by
  have e : iblk m c 9 t (ix2 0 d) = V m c main_v9 (ix2 0 d) := by blk_ext [iblk, V, idx t]
  rw [e, aG2]; entry_read; pointwise

end Cert.Kernel3Ideal.Host

end
-- ==== Proof.RefFfnSample.lean ====
module

public import proofs.«01_k».proof.Proof.Gen.Reference3Ideal.Read
public import proofs.«01_k».proof.Proof.FfnSeq
public import proofs.«01_k».proof.Proof.RefFfn

@[expose] public section

set_option maxRecDepth 16384

noncomputable section

/-! # The reference at the sample group's shapes, read at an index -/

namespace Cert.Reference3Ideal.Ffn

open Idealize.ShloMosaic Idealize.ShloMosaic.TcCoe Idealize.ShloMosaic.Tactic
open Cert.Reference3Ideal Cert.Reference3Ideal.Gen Cert.Reference3Ideal.Read
open Cert.Ffn
open Cert.Reference2Ideal.Ffn (zero_bits)

variable (x0 : (⟨S32x64x1024, .f32⟩ : BufTy).Contents (Elt Ideal)) (x1 x2 : (⟨S32x64x512, .bf16⟩ : BufTy).Contents (Elt Ideal))
  (x3 : (⟨S32x2x5632, .f32⟩ : BufTy).Contents (Elt Ideal)) (x4 : (⟨S1024x1024, .f32⟩ : BufTy).Contents (Elt Ideal))
  (x5 : (⟨S1024, .f32⟩ : BufTy).Contents (Elt Ideal)) (x6 : (⟨S1024x5632, .f32⟩ : BufTy).Contents (Elt Ideal))
  (x7 : (⟨S3x5632, .f32⟩ : BufTy).Contents (Elt Ideal)) (x8 : (⟨S5632, .f32⟩ : BufTy).Contents (Elt Ideal))
  (x9 : (⟨S2816x1024, .f32⟩ : BufTy).Contents (Elt Ideal)) (x10 : (⟨S1024, .f32⟩ : BufTy).Contents (Elt Ideal))

/-- The stream after the attention, -/
theorem stream (b : Fin 32) (t : Fin 64) (d : Fin 1024) : val_main_v3 (F := Ideal) x0 x1 x2 x4 (ix3 b t d) = sMid x0 x1 x2 x4 b t d := by
  pointwise [val_main_v3, val_main_v2, val_main_v1, val_main_v0]
  rfl

/-- normed and projected up; -/
theorem wide (b : Fin 32) (t : Fin 64) (j : Fin 5632) : val_main_v17 (F := Ideal) x0 x1 x2 x4 x5 x6 (ix3 b t j) = sUp x0 x1 x2 x4 x5 x6 b t j := by
  have en : ∀ d : Fin 1024, val_main_v16 (F := Ideal) x0 x1 x2 x4 x5 (ix3 b t d) = norm (sMid x0 x1 x2 x4 b t) (fun d => x5 (ix1 d)) d := fun d => by
    have e := stream x0 x1 x2 x4 b t
    unfold val_main_v16 val_main_v13 val_main_v12 val_main_v11 val_main_v10 val_main_v8 val_main_v6 val_main_v5 val_main_v4
    generalize val_main_v3 (F := Ideal) x0 x1 x2 x4 = y at e ⊢
    pointwise [val_main_v15, val_main_v14, val_main_v9, val_main_v7]
    rw [val_main_cst_apply, zero_bits, zero_add]
    exact congrArg (fun f => norm f (fun d => x5 (ix1 d)) d) (funext e)
  unfold val_main_v17
  generalize val_main_v16 (F := Ideal) x0 x1 x2 x4 x5 = y at en ⊢
  pointwise []
  exact congrArg (fun f => dot f (fun k j => x6 (ix2 k j)) j) (funext en)

/-- with the two rows given before a sequence in front; -/
theorem rows (b : Fin 32) (s : Fin 66) (j : Fin 5632) : val_main_v18 (F := Ideal) x0 x1 x2 x3 x4 x5 x6 (ix3 b s j) = sRows x0 x1 x2 x3 x4 x5 x6 b s j := by
  have e := fun t : Fin 64 => wide x0 x1 x2 x4 x5 x6 b t j
  unfold val_main_v18
  generalize val_main_v17 (F := Ideal) x0 x1 x2 x4 x5 x6 = y at e ⊢
  by_cases h : s.val < 2
  · refine Eq.trans ?_ (sRows_first x0 x1 x2 x3 x4 x5 x6 b ⟨s.val, h⟩ j).symm
    pointwise []
    exact dif_pos h
  · obtain ⟨t, h⟩ : ∃ t : Fin 64, (⟨2 + t.val, Nat.add_lt_add_left t.isLt 2⟩ : Fin 66) = s := ⟨⟨s.val - 2, by omega⟩, Fin.ext (by show 2 + (s.val - 2) = s.val; omega)⟩
    subst h
    refine Eq.trans ?_ ((e t).trans (sRows_next x0 x1 x2 x3 x4 x5 x6 b t j).symm)
    pointwise []

/-- convolved; -/
theorem convolved (b : Fin 32) (t : Fin 64) (j : Fin 5632) :
    val_main_v43 (F := Ideal) x0 x1 x2 x3 x4 x5 x6 x7 x8 (ix3 b t j) = sConv x0 x1 x2 x3 x4 x5 x6 x7 x8 b t j := by
  have e : ∀ s, val_main_v18 (F := Ideal) x0 x1 x2 x3 x4 x5 x6 (ix3 b s j) = _ := fun s => rows x0 x1 x2 x3 x4 x5 x6 b s j
  unfold val_main_v43 val_main_v40 val_main_v39 val_main_v36 val_main_v33 val_main_v32 val_main_v29 val_main_v26 val_main_v24 val_main_v21
  generalize val_main_v18 (F := Ideal) x0 x1 x2 x3 x4 x5 x6 = y at e ⊢
  pointwise [val_main_v42, val_main_v41, val_main_v38, val_main_v37, val_main_v35, val_main_v34, val_main_v31, val_main_v30, val_main_v28, val_main_v27, val_main_v25, val_main_v23, val_main_v22, val_main_v20, val_main_v19]
  rw [val_main_cst_2_apply, zero_bits, zero_add, e, e, e, sRows_next]
  unfold sConv conv
  have h1 : (⟨1 + t.val, by omega⟩ : Fin 66) = ⟨t.val + 1, by omega⟩ := Fin.ext (Nat.add_comm _ _)
  rw [h1, add_assoc, add_assoc, add_assoc]

/-- activated; -/
theorem activated (b : Fin 32) (t : Fin 64) (j : Fin 2816) :
    val_main_v47 (F := Ideal) x0 x1 x2 x3 x4 x5 x6 x7 x8 (ix3 b t j) = sAct x0 x1 x2 x3 x4 x5 x6 x7 x8 b t j := by
  have e := convolved x0 x1 x2 x3 x4 x5 x6 x7 x8 b t
  unfold val_main_v47 val_main_v46 val_main_call0_v5 val_main_call0_v3 val_main_call0_v1 val_main_call0_v0 val_main_v45 val_main_v44
  generalize val_main_v43 (F := Ideal) x0 x1 x2 x3 x4 x5 x6 x7 x8 = y at e ⊢
  pointwise [val_main_call0_v2, val_main_call0_v4, val_main_call0_cst, val_main_call0_cst_0]
  rw [e, e]
  rfl

/-- projected down, added and normed. -/
theorem final (b : Fin 32) (t : Fin 64) (d : Fin 1024) :
    val_main_v62 (F := Ideal) x0 x1 x2 x3 x4 x5 x6 x7 x8 x9 x10 (ix3 b t d) = sFin x0 x1 x2 x3 x4 x5 x6 x7 x8 x9 x10 b t d := by
  have es : ∀ d : Fin 1024, val_main_v49 (F := Ideal) x0 x1 x2 x3 x4 x5 x6 x7 x8 x9 (ix3 b t d)
      = sMid x0 x1 x2 x4 b t d + dot (sAct x0 x1 x2 x3 x4 x5 x6 x7 x8 b t) (fun k d => x9 (ix2 k d)) d := fun d => by
    have e := activated x0 x1 x2 x3 x4 x5 x6 x7 x8 b t
    have e3 := stream x0 x1 x2 x4 b t d
    unfold val_main_v49 val_main_v48
    generalize val_main_v47 (F := Ideal) x0 x1 x2 x3 x4 x5 x6 x7 x8 = y at e ⊢
    generalize val_main_v3 (F := Ideal) x0 x1 x2 x4 = z at e3 ⊢
    pointwise []
    rw [e3]
    exact congrArg (fun f => sMid x0 x1 x2 x4 b t d + dot f (fun k j => x9 (ix2 k j)) d) (funext e)
  unfold val_main_v62 val_main_v59 val_main_v58 val_main_v57 val_main_v56 val_main_v54 val_main_v52 val_main_v51 val_main_v50
  generalize val_main_v49 (F := Ideal) x0 x1 x2 x3 x4 x5 x6 x7 x8 x9 = y at es ⊢
  pointwise [val_main_v61, val_main_v60, val_main_v55, val_main_v53]
  rw [val_main_cst_3_apply, zero_bits, zero_add]
  exact congrArg (fun f => norm f (fun d => x10 (ix1 d)) d) (funext es)

/-- The first result, rows of all sequences one after the other. -/
theorem result (b : Fin 32) (t : Fin 64) (d : Fin 1024) :
    val_main_v63 (F := Ideal) x0 x1 x2 x3 x4 x5 x6 x7 x8 x9 x10 (ix2 ⟨64 * b.val + t.val, by omega⟩ d)
      = sFin x0 x1 x2 x3 x4 x5 x6 x7 x8 x9 x10 b t d := by
  refine Eq.trans ?_ (final x0 x1 x2 x3 x4 x5 x6 x7 x8 x9 x10 b t d)
  unfold val_main_v63
  generalize val_main_v62 (F := Ideal) x0 x1 x2 x3 x4 x5 x6 x7 x8 x9 x10 = y
  pointwise []

/-- The second result, the last two rows before the convolution. -/
theorem state (b : Fin 32) (q : Fin 2) (j : Fin 5632) :
    val_main_v64 (F := Ideal) x0 x1 x2 x3 x4 x5 x6 (ix3 b q j) = sUp x0 x1 x2 x4 x5 x6 b ⟨62 + q.val, by omega⟩ j := by
  refine Eq.trans ?_ ((rows x0 x1 x2 x3 x4 x5 x6 b ⟨2 + (62 + q.val), by omega⟩ j).trans
    (sRows_next x0 x1 x2 x3 x4 x5 x6 b ⟨62 + q.val, by omega⟩ j))
  unfold val_main_v64
  generalize val_main_v18 (F := Ideal) x0 x1 x2 x3 x4 x5 x6 = y
  pointwise []
  exact congrArg (fun s => y (ix3 b s j)) (Fin.ext (by show 64 + q.val = 2 + (62 + q.val); omega))

end Cert.Reference3Ideal.Ffn

end
-- ==== Proof.FfnSampleValue.lean ====
module

public import proofs.«01_k».proof.Proof.FfnSampleOpen
public import proofs.«01_k».proof.Proof.FfnSampleTile
public import proofs.«01_k».proof.Proof.FfnSampleBlocks
public import proofs.«01_k».proof.Proof.RefFfnSample

@[expose] public section

set_option maxRecDepth 16384

noncomputable section

/-! # The results of the sample group's call are the reference's -/

namespace Cert.Kernel3Ideal.Host

open Idealize.ShloMosaic Idealize.ShloMosaic.TcCoe Idealize.ShloMosaic.Tactic
open Idealize.SL Idealize.SL.Sem
open Cert.Kernel3Ideal Cert.Kernel3Ideal.Gen Cert.Kernel3Ideal.Block
open Cert.Kernel2Ideal.Block (tMid tUp)

variable (m : (ℓ : Loc nD τ sig) → Buf (Elt Ideal) ℓ) (c : Dev nD) (t : Fin cfg0.N)

theorem tile_mid (g : Fin 8) (r : Fin 64) : tMid (iblk m c 0 t) (iblk m c 1 t) (iblk m c 2 t) (iblk m c 4 t) (row g r)
    = Cert.Ffn.sMid (aX m c) (aFox m c) (aMla m c) (aWo m c) (bat t g) r := by
  unfold tMid Cert.Ffn.sMid row
  rw [funext (b0 m c t g r), funext (b1 m c t g r), funext (b2 m c t g r), funext fun k => funext (b4 m c t k)]

theorem tile_up (g : Fin 8) (r : Fin 64) : tUp (iblk m c 0 t) (iblk m c 1 t) (iblk m c 2 t) (iblk m c 4 t) (iblk m c 5 t) (iblk m c 6 t) (row g r)
    = Cert.Ffn.sUp (aX m c) (aFox m c) (aMla m c) (aWo m c) (aG1 m c) (aWup m c) (bat t g) r := by
  unfold tUp Cert.Ffn.sUp
  rw [tile_mid, funext (b5 m c t), funext fun k => funext (b6 m c t k)]

theorem tile_rows (g : Fin 8) (s : Fin 66) (j : Fin 5632) :
    tRows (iblk m c 0 t) (iblk m c 1 t) (iblk m c 2 t) (iblk m c 3 t) (iblk m c 4 t) (iblk m c 5 t) (iblk m c 6 t) g s j
      = Cert.Ffn.sRows (aX m c) (aFox m c) (aMla m c) (aBefore m c) (aWo m c) (aG1 m c) (aWup m c) (bat t g) s j := by
  unfold tRows Cert.Ffn.sRows
  by_cases h : s.val < 2
  · rw [dif_pos h, dif_pos h, b3]
  · rw [dif_neg h, dif_neg h, tile_up]

theorem tile_conv (g : Fin 8) (r : Fin 64) (j : Fin 5632) :
    tConv (iblk m c 0 t) (iblk m c 1 t) (iblk m c 2 t) (iblk m c 3 t) (iblk m c 4 t) (iblk m c 5 t) (iblk m c 6 t) (iblk m c 7 t) g r j
      = Cert.Ffn.sConv (aX m c) (aFox m c) (aMla m c) (aBefore m c) (aWo m c) (aG1 m c) (aWup m c) (aCw m c) (aCb m c) (bat t g) r j := by
  unfold tConv Cert.Ffn.sConv
  rw [tile_rows, tile_rows, tile_up, b7b]
  have h0 : iblk m c 7 t (ix2 0 j) = aCw m c (ix2 0 j) := b7 m c t 0 j
  have h1 : iblk m c 7 t (ix2 1 j) = aCw m c (ix2 1 j) := b7 m c t 1 j
  have h2 : iblk m c 7 t (ix2 2 j) = aCw m c (ix2 2 j) := b7 m c t 2 j
  rw [h0, h1, h2]

theorem tile_fin (g : Fin 8) (r : Fin 64) :
    tFin (iblk m c 0 t) (iblk m c 1 t) (iblk m c 2 t) (iblk m c 3 t) (iblk m c 4 t) (iblk m c 5 t) (iblk m c 6 t) (iblk m c 7 t) (iblk m c 8 t) (iblk m c 9 t) g r
      = Cert.Ffn.sFin (aX m c) (aFox m c) (aMla m c) (aBefore m c) (aWo m c) (aG1 m c) (aWup m c) (aCw m c) (aCb m c) (aWdn m c) (aG2 m c) (bat t g) r := by
  have ea : tAct (iblk m c 0 t) (iblk m c 1 t) (iblk m c 2 t) (iblk m c 3 t) (iblk m c 4 t) (iblk m c 5 t) (iblk m c 6 t) (iblk m c 7 t) g r
      = Cert.Ffn.sAct (aX m c) (aFox m c) (aMla m c) (aBefore m c) (aWo m c) (aG1 m c) (aWup m c) (aCw m c) (aCb m c) (bat t g) r := funext fun j => by
    unfold tAct Cert.Ffn.sAct
    rw [tile_conv, tile_conv]
  unfold tFin Cert.Ffn.sFin
  rw [ea, tile_mid, funext fun k => funext (b8 m c t k), funext (b9 m c t)]

/-- What the grid leaves in the first result, -/
theorem result (g : Fin 8) (r : Fin 64) (d : Fin 1024) :
    (dats m 0 c).arrAt 10 cfg0.N (ix2 ⟨64 * (bat t g).val + r.val, by omega⟩ d)
      = Cert.Ffn.sFin (aX m c) (aFox m c) (aMla m c) (aBefore m c) (aWo m c) (aG1 m c) (aWup m c) (aCw m c) (aCb m c) (aWdn m c) (aG2 m c) (bat t g) r d := by
  have hp := points t
  have hf : (cfg0.win 10).flush t = true := (by decide +kernel : ∀ t : Fin grid0.N, win0_10.flush t = true) t
  have hr := congrFun (Value.blocks10 m c t hf) (ix2 (row g r) d)
  rw [Value.flushed10_A, y] at hr
  have e1 : View.read (Elt Ideal) ((cfg0.win 10).blk t).view ((dats m 0 c).arrAt 10 cfg0.N) (ix2 (row g r) d)
      = (dats m 0 c).arrAt 10 cfg0.N (ix2 ⟨64 * (bat t g).val + r.val, by omega⟩ d) := by
    generalize (dats m 0 c).arrAt 10 cfg0.N = X
    blk_ext [idx t, row, bat]
  rw [e1] at hr
  refine hr.trans (Eq.trans ?_ ((y_apply _ _ _ _ _ _ _ _ _ _ g r d).trans (congrFun (tile_fin m c t g r) d)))
  generalize View.canon (yL (iblk m c 0 t) (iblk m c 1 t) (iblk m c 2 t) (iblk m c 3 t) (iblk m c 4 t) (iblk m c 5 t) (iblk m c 6 t) (iblk m c 7 t) (iblk m c 8 t) (iblk m c 9 t)) = X
  blk_ext [idx t, row]

/-- and in the second. -/
theorem state (g : Fin 8) (q : Fin 2) (j : Fin 5632) :
    (dats m 0 c).arrAt 11 cfg0.N (ix3 (bat t g) q j)
      = Cert.Ffn.sUp (aX m c) (aFox m c) (aMla m c) (aWo m c) (aG1 m c) (aWup m c) (bat t g) ⟨62 + q.val, by omega⟩ j := by
  have hp := points t
  have hf : (cfg0.win 11).flush t = true := (by decide +kernel : ∀ t : Fin grid0.N, win0_11.flush t = true) t
  have hr := congrFun (Value.blocks11 m c t hf) (ix3 g q j)
  rw [Value.flushed11_A, cst] at hr
  have e1 : View.read (Elt Ideal) ((cfg0.win 11).blk t).view ((dats m 0 c).arrAt 11 cfg0.N) (ix3 g q j)
      = (dats m 0 c).arrAt 11 cfg0.N (ix3 (bat t g) q j) := by
    generalize (dats m 0 c).arrAt 11 cfg0.N = X
    blk_ext [idx t, bat]
  rw [e1] at hr
  refine hr.trans (Eq.trans ?_ ((cst_apply _ _ _ _ _ _ g q j).trans (congrFun (tile_up m c t g _) j)))
  generalize View.canon (cstL (iblk m c 0 t) (iblk m c 1 t) (iblk m c 2 t) (iblk m c 4 t) (iblk m c 5 t) (iblk m c 6 t)) = X
  blk_ext [idx t]

/-- Every sequence is one of some tile's eight. -/
theorem bat_of (b : Fin 32) : ∃ (t : Fin cfg0.N) (g : Fin 8), b = bat t g :=
  ⟨⟨b.val / 8, by show _ < 4; omega⟩, ⟨b.val % 8, by omega⟩, Fin.ext (by show b.val = 8 * (b.val / 8) + b.val % 8; omega)⟩

theorem result_value :
    Cert.Reference3Ideal.Read.val_main_v63 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
    = (dats m 0 c).arrAt 10 cfg0.N := by
  refine funext fun (i : S2048x1024.Idx) => ?_
  have h0 : (i 0).val < 2048 := (i 0).isLt
  obtain ⟨t, g, hb⟩ := bat_of ⟨(i 0).val / 64, by omega⟩
  have hb : (i 0).val / 64 = (bat t g).val := congrArg Fin.val hb
  have e : i = ix2 ⟨64 * (bat t g).val + (⟨(i 0).val % 64, by omega⟩ : Fin 64).val, by have := (bat t g).isLt; show _ + (i 0).val % 64 < 2048; omega⟩ (i 1) := by
    funext a
    match a with
    | 0 => exact Fin.ext (by show (i 0).val = 64 * (bat t g).val + (i 0).val % 64; omega)
    | 1 => rfl
  rw [e]
  exact (Cert.Reference3Ideal.Ffn.result _ _ _ _ _ _ _ _ _ _ _ (bat t g) _ (i 1)).trans (result m c t g _ (i 1)).symm

theorem state_value :
    Cert.Reference3Ideal.Read.val_main_v64 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))
    = (dats m 0 c).arrAt 11 cfg0.N := by
  refine funext fun (i : S32x2x5632.Idx) => ?_
  obtain ⟨t, g, hb⟩ := bat_of (i 0)
  have e : i = ix3 (bat t g) (i 1) (i 2) := by funext a; match a with | 0 => exact hb | 1 => rfl | 2 => rfl
  rw [e]
  exact (Cert.Reference3Ideal.Ffn.state _ _ _ _ _ _ _ (bat t g) (i 1) (i 2)).trans (state m c t g (i 1) (i 2)).symm

end Cert.Kernel3Ideal.Host

end
-- ==== Proof.FlashOpen.lean ====
module

public import proofs.«01_k».proof.Proof.Gen.Kernel4Ideal.Flash.Runs
public import Idealize.ShloMosaic.Lib.Pointwise
public import Idealize.ShloMosaic.Lib.Pipeline.ValueKit.Acc

@[expose] public section

set_option maxRecDepth 16384

noncomputable section

/-! # What the body of the prompt attention leaves in its buffers

The body unrolls eight heads; what it stores is written here once, as functions of the head's number, for each of its four
paths: the first tile of keys or a later one, off the diagonal or on it. -/

namespace Cert.Flash

open Idealize.ShloMosaic Idealize.ShloMosaic.TcCoe Idealize.ShloMosaic.Tactic
open Idealize.SL Idealize.SL.Sem
open Cert.Kernel4Ideal Cert.Kernel4Ideal.Gen

/-! ## Offsets of a head -/

theorem slQ (h : Fin 8) : S512x1024.Slices ![0, 256 * (h.val / 2)] S512x256 := by
  match h with
  | 0 | 1 => exact slices_S512x1024_o0_0_S512x256
  | 2 | 3 => exact slices_S512x1024_o0_256_S512x256
  | 4 | 5 => exact slices_S512x1024_o0_512_S512x256
  | 6 | 7 => exact slices_S512x1024_o0_768_S512x256
theorem slV (p : Fin 4) : S512x512.Slices ![0, 128 * p.val] S512x128 := by
  match p with
  | 0 => exact slices_S512x512_o0_0_S512x128
  | 1 => exact slices_S512x512_o0_128_S512x128
  | 2 => exact slices_S512x512_o0_256_S512x128
  | 3 => exact slices_S512x512_o0_384_S512x128
theorem inQ (h : Fin 8) : ∀ a, (![h.val, 0, 0] : Fin 3 → ℕ) a + S1x512x256.size a ≤ S8x512x256.size a := by
  intro a; have := h.isLt; match a with
  | 0 => show h.val + 1 ≤ 8; omega
  | 1 => show 0 + 512 ≤ 512; omega
  | 2 => show 0 + 256 ≤ 256; omega
theorem inM (h : Fin 8) : ∀ a, (![h.val, 0, 0] : Fin 3 → ℕ) a + S1x512x128.size a ≤ S8x512x128.size a := by
  intro a; have := h.isLt; match a with
  | 0 => show h.val + 1 ≤ 8; omega
  | 1 => show 0 + 512 ≤ 512; omega
  | 2 => show 0 + 128 ≤ 128; omega
theorem inA (p : Fin 4) : ∀ a, (![p.val, 0, 0] : Fin 3 → ℕ) a + S1x512x128.size a ≤ S4x512x128.size a := by
  intro a; have := p.isLt; match a with
  | 0 => show p.val + 1 ≤ 4; omega
  | 1 => show 0 + 512 ≤ 512; omega
  | 2 => show 0 + 128 ≤ 128; omega

/-- Two rows of heads: the first and the second head of a pair. -/
def fst (p : Fin 4) : Fin 8 := ⟨2 * p.val, by omega⟩
def snd (p : Fin 4) : Fin 8 := ⟨2 * p.val + 1, by omega⟩

/-! ## Eight heads' stores, four pairs' stores -/

def list8Q (f : Fin 8 → S1x512x256.Idx → Elt Ideal .bf16) : List (View.Piece (Elt Ideal) S8x512x256 .bf16) :=
  [⟨Rect.unit (s := S8x512x256) ![7, 0, 0] S1x512x256.size inb_S8x512x256_S1x512x256_7_0_0, f 7⟩,
   ⟨Rect.unit (s := S8x512x256) ![6, 0, 0] S1x512x256.size inb_S8x512x256_S1x512x256_6_0_0, f 6⟩,
   ⟨Rect.unit (s := S8x512x256) ![5, 0, 0] S1x512x256.size inb_S8x512x256_S1x512x256_5_0_0, f 5⟩,
   ⟨Rect.unit (s := S8x512x256) ![4, 0, 0] S1x512x256.size inb_S8x512x256_S1x512x256_4_0_0, f 4⟩,
   ⟨Rect.unit (s := S8x512x256) ![3, 0, 0] S1x512x256.size inb_S8x512x256_S1x512x256_3_0_0, f 3⟩,
   ⟨Rect.unit (s := S8x512x256) ![2, 0, 0] S1x512x256.size inb_S8x512x256_S1x512x256_2_0_0, f 2⟩,
   ⟨Rect.unit (s := S8x512x256) ![1, 0, 0] S1x512x256.size inb_S8x512x256_S1x512x256_1_0_0, f 1⟩,
   ⟨Rect.unit (s := S8x512x256) ![0, 0, 0] S1x512x256.size inb_S8x512x256_S1x512x256_0_0_0, f 0⟩]
def list8M (f : Fin 8 → S1x512x128.Idx → Elt Ideal .f32) : List (View.Piece (Elt Ideal) S8x512x128 .f32) :=
  [⟨Rect.unit (s := S8x512x128) ![7, 0, 0] S1x512x128.size inb_S8x512x128_S1x512x128_7_0_0, f 7⟩,
   ⟨Rect.unit (s := S8x512x128) ![6, 0, 0] S1x512x128.size inb_S8x512x128_S1x512x128_6_0_0, f 6⟩,
   ⟨Rect.unit (s := S8x512x128) ![5, 0, 0] S1x512x128.size inb_S8x512x128_S1x512x128_5_0_0, f 5⟩,
   ⟨Rect.unit (s := S8x512x128) ![4, 0, 0] S1x512x128.size inb_S8x512x128_S1x512x128_4_0_0, f 4⟩,
   ⟨Rect.unit (s := S8x512x128) ![3, 0, 0] S1x512x128.size inb_S8x512x128_S1x512x128_3_0_0, f 3⟩,
   ⟨Rect.unit (s := S8x512x128) ![2, 0, 0] S1x512x128.size inb_S8x512x128_S1x512x128_2_0_0, f 2⟩,
   ⟨Rect.unit (s := S8x512x128) ![1, 0, 0] S1x512x128.size inb_S8x512x128_S1x512x128_1_0_0, f 1⟩,
   ⟨Rect.unit (s := S8x512x128) ![0, 0, 0] S1x512x128.size inb_S8x512x128_S1x512x128_0_0_0, f 0⟩]
def list4A (f : Fin 4 → S1x512x128.Idx → Elt Ideal .f32) : List (View.Piece (Elt Ideal) S4x512x128 .f32) :=
  [⟨Rect.unit (s := S4x512x128) ![3, 0, 0] S1x512x128.size inb_S4x512x128_S1x512x128_3_0_0, f 3⟩,
   ⟨Rect.unit (s := S4x512x128) ![2, 0, 0] S1x512x128.size inb_S4x512x128_S1x512x128_2_0_0, f 2⟩,
   ⟨Rect.unit (s := S4x512x128) ![1, 0, 0] S1x512x128.size inb_S4x512x128_S1x512x128_1_0_0, f 1⟩,
   ⟨Rect.unit (s := S4x512x128) ![0, 0, 0] S1x512x128.size inb_S4x512x128_S1x512x128_0_0_0, f 0⟩]

/-! ## The arithmetic of one head on a whole tile -/

/-- The tile of queries with all but one head's lanes made zero. -/
def qpad (q : FVec Ideal S512x1024 .bf16) (h : Fin 8) : FVec Ideal S1x512x256 .bf16 :=
  shapeCast S1x512x256 (select
    (andi (cmpi .sge (iota .tc S512x256 32 [1] iota_S512x256_d1_w32) (broadcast S512x256 (BitVec.ofNat 32 (128 * (h.val % 2)))))
      (cmpi .slt (iota .tc S512x256 32 [1] iota_S512x256_d1_w32) (broadcast S512x256 (BitVec.ofNat 32 (128 * (h.val % 2) + 128)))))
    (extractStridedSlice S512x256 ![0, 256 * (h.val / 2)] q (slQ h))
    (broadcast S512x256 (Scalar.ofBits (F := Ideal) .bf16 0x0000#16))) shapeCasts_S512x256_S1x512x256

/-- The scores of a head. -/
def scF (h : Fin 8) (qb : FVec Ideal S1x512x256 .bf16) (k : FVec Ideal S512x1024 .bf16) : FVec Ideal S512x512 .f32 :=
  matmul dot_S512x256_S512x256_S512x512_1_1_0_0_n_n none (shapeCast S512x256 qb shapeCasts_S1x512x256_S512x256)
    (extractStridedSlice S512x256 ![0, 256 * (h.val / 2)] k (slQ h)) (constant S512x512 .f32 0x00000000#32)
/-- The maximum of each row. -/
def mxF (s : FVec Ideal S512x512 .f32) : FVec Ideal S512x1 .f32 :=
  shapeCast S512x1 (multiReduction .maximumf [1] S512 s 0xFF800000#32 reduces_S512x512_S512 (.inl rfl) rfl) shapeCasts_S512_S512x1
/-- The maximum of each row, on every lane. -/
def mxF1 (s : FVec Ideal S512x512 .f32) : FVec Ideal S512x128 .f32 := broadcastTo S512x128 (mxF s) broadcasts_S512x1_S512x128
/-- The same, as the first tile states it. -/
def mxF2 (s : FVec Ideal S512x512 .f32) : FVec Ideal S512x128 .f32 :=
  broadcastTo S512x128 (shapeCast S512x1 (mxF s) shapeCasts_S512x1_S512x1) broadcasts_S512x1_S512x128
/-- A pair's values beside ones. -/
def vaF (p : Fin 4) (v : FVec Ideal S512x512 .bf16) : FVec Ideal S512x256 .bf16 :=
  concatenate S512x256 1 [⟨S512x128, extractStridedSlice S512x128 ![0, 128 * p.val] v (slV p)⟩,
    ⟨S512x128, broadcast S512x128 (Scalar.ofBits (F := Ideal) .bf16 0x3F80#16)⟩] concatenates_S512x128_S512x128_S512x256_d1
/-- The powers of two of the scores less `m`, times the values and ones. -/
def pvF (s : FVec Ideal S512x512 .f32) (m : FVec Ideal S512x128 .f32) (va : FVec Ideal S512x256 .bf16) : FVec Ideal S512x256 .f32 :=
  matmul dot_S512x512_S512x256_S512x256_1_0_0_1_n_n none
    (truncf .bf16 (exp2 (subf s (concatenate S512x512 1 [⟨S512x128, m⟩, ⟨S512x128, m⟩, ⟨S512x128, m⟩, ⟨S512x128, m⟩]
      concatenates_S512x128_S512x128_S512x128_S512x128_S512x512_d1))) bitsLt_bf16_f32) va (constant S512x256 .f32 0x00000000#32)
def numF (pv : FVec Ideal S512x256 .f32) : FVec Ideal S512x128 .f32 := extractStridedSlice S512x128 ![0, 0] pv slices_S512x256_o0_0_S512x128
def denF (pv : FVec Ideal S512x256 .f32) : FVec Ideal S512x128 .f32 := extractStridedSlice S512x128 ![0, 128] pv slices_S512x256_o0_128_S512x128
/-- The first 64 lanes of one, the last 64 of the other. -/
def pickF (a b : FVec Ideal S512x128 .f32) : FVec Ideal S512x128 .f32 :=
  select (cmpi .slt (iota .tc S512x128 32 [1] iota_S512x128_d1_w32) (broadcast S512x128 64#32)) a b
def upF (x : FVec Ideal S512x128 .f32) : FVec Ideal S1x512x128 .f32 := shapeCast S1x512x128 x shapeCasts_S512x128_S1x512x128
def downF (x : FVec Ideal S1x512x128 .f32) : FVec Ideal S512x128 .f32 := shapeCast S512x128 x shapeCasts_S1x512x128_S512x128

/-! ## A whole tile, the first of its row of tiles -/

def pvB (qb : Fin 8 → FVec Ideal S1x512x256 .bf16) (k : FVec Ideal S512x1024 .bf16) (v : FVec Ideal S512x512 .bf16) (p : Fin 4) (h : Fin 8) :=
  pvF (scF h (qb h) k) (mxF2 (scF h (qb h) k)) (vaF p v)
def mB (qb : Fin 8 → FVec Ideal S1x512x256 .bf16) (k : FVec Ideal S512x1024 .bf16) (h : Fin 8) : FVec Ideal S1x512x128 .f32 :=
  upF (mxF2 (scF h (qb h) k))
def lB (qb : Fin 8 → FVec Ideal S1x512x256 .bf16) (k : FVec Ideal S512x1024 .bf16) (v : FVec Ideal S512x512 .bf16) (h : Fin 8) : FVec Ideal S1x512x128 .f32 :=
  upF (denF (pvB qb k v ⟨h.val / 2, by omega⟩ h))
def aB (qb : Fin 8 → FVec Ideal S1x512x256 .bf16) (k : FVec Ideal S512x1024 .bf16) (v : FVec Ideal S512x512 .bf16) (p : Fin 4) : FVec Ideal S1x512x128 .f32 :=
  upF (pickF (numF (pvB qb k v p (fst p))) (numF (pvB qb k v p (snd p))))

/-! ## A whole tile, a later one -/

def mnF (mp : FVec Ideal S1x512x128 .f32) (s : FVec Ideal S512x512 .f32) : FVec Ideal S512x128 .f32 := maximumf (downF mp) (mxF1 s)
def alF (mp : FVec Ideal S1x512x128 .f32) (s : FVec Ideal S512x512 .f32) : FVec Ideal S512x128 .f32 := exp2 (subf (downF mp) (mnF mp s))
def pvD (qb : FVec Ideal S1x512x256 .bf16) (mp : FVec Ideal S1x512x128 .f32) (k : FVec Ideal S512x1024 .bf16) (v : FVec Ideal S512x512 .bf16) (p : Fin 4) (h : Fin 8) :=
  pvF (scF h qb k) (mnF mp (scF h qb k)) (vaF p v)
def mD (qb : FVec Ideal S1x512x256 .bf16) (mp : FVec Ideal S1x512x128 .f32) (k : FVec Ideal S512x1024 .bf16) (h : Fin 8) : FVec Ideal S1x512x128 .f32 :=
  upF (mnF mp (scF h qb k))
def lD (qb : FVec Ideal S1x512x256 .bf16) (mp lp : FVec Ideal S1x512x128 .f32) (k : FVec Ideal S512x1024 .bf16) (v : FVec Ideal S512x512 .bf16) (h : Fin 8) : FVec Ideal S1x512x128 .f32 :=
  upF (addf (mulf (alF mp (scF h qb k)) (downF lp)) (denF (pvD qb mp k v ⟨h.val / 2, by omega⟩ h)))
def aD (qb qb' : FVec Ideal S1x512x256 .bf16) (mp mp' ap : FVec Ideal S1x512x128 .f32) (k : FVec Ideal S512x1024 .bf16) (v : FVec Ideal S512x512 .bf16) (p : Fin 4) : FVec Ideal S1x512x128 .f32 :=
  upF (addf (mulf (downF ap) (pickF (alF mp (scF (fst p) qb k)) (alF mp' (scF (snd p) qb' k))))
    (pickF (numF (pvD qb mp k v p (fst p))) (numF (pvD qb' mp' k v p (snd p)))))

/-! ## Loads -/

def ldX (a : Memref sig .tc .vmem S512x1024 .bf16) (x : S512x1024.Idx → Elt Ideal .bf16) : FVec Ideal S512x1024 .bf16 :=
  View.readAt (Elt Ideal) a.view (Rect.unit (s := S512x1024) ![0, 0] S512x1024.size inb_S512x1024_S512x1024_0_0).toLoadRect (a.view.rep x)
def ldV (a : Memref sig .tc .vmem S512x512 .bf16) (x : S512x512.Idx → Elt Ideal .bf16) : FVec Ideal S512x512 .bf16 :=
  View.readAt (Elt Ideal) a.view (Rect.unit (s := S512x512) ![0, 0] S512x512.size inb_S512x512_S512x512_0_0).toLoadRect (a.view.rep x)
/-- The padded queries of a head, read back after being stored. -/
def bkQ (q : FVec Ideal S512x1024 .bf16) (h : Fin 8) : FVec Ideal S1x512x256 .bf16 :=
  scM0_0.view.readCov (list8Q (qpad q)) (Rect.unit (s := S8x512x256) ![h.val, 0, 0] S1x512x256.size (inQ h)).toLoadRect
def wQ (x : S8x512x256.Idx → Elt Ideal .bf16) (h : Fin 8) : FVec Ideal S1x512x256 .bf16 :=
  fun j => x ((Rect.unit (s := S8x512x256) ![h.val, 0, 0] S1x512x256.size (inQ h)).toLoadRect.idx j)
def wM (x : S8x512x128.Idx → Elt Ideal .f32) (h : Fin 8) : FVec Ideal S1x512x128 .f32 :=
  fun j => x ((Rect.unit (s := S8x512x128) ![h.val, 0, 0] S1x512x128.size (inM h)).toLoadRect.idx j)
def wA (x : S4x512x128.Idx → Elt Ideal .f32) (p : Fin 4) : FVec Ideal S1x512x128 .f32 :=
  fun j => x ((Rect.unit (s := S4x512x128) ![p.val, 0, 0] S1x512x128.size (inA p)).toLoadRect.idx j)

/-! ## A tile on the diagonal, in two halves of its rows -/

theorem inT (h : Fin 8) : ∀ a, (![h.val, 0, 0] : Fin 3 → ℕ) a + S1x256x128.size a ≤ S8x512x128.size a := by
  intro a; have := h.isLt; match a with
  | 0 => show h.val + 1 ≤ 8; omega
  | 1 => show 0 + 256 ≤ 512; omega
  | 2 => show 0 + 128 ≤ 128; omega
theorem inU (h : Fin 8) : ∀ a, (![h.val, 256, 0] : Fin 3 → ℕ) a + S1x256x128.size a ≤ S8x512x128.size a := by
  intro a; have := h.isLt; match a with
  | 0 => show h.val + 1 ≤ 8; omega
  | 1 => show 256 + 256 ≤ 512; omega
  | 2 => show 0 + 128 ≤ 128; omega
theorem inAT (p : Fin 4) : ∀ a, (![p.val, 0, 0] : Fin 3 → ℕ) a + S1x256x128.size a ≤ S4x512x128.size a := by
  intro a; have := p.isLt; match a with
  | 0 => show p.val + 1 ≤ 4; omega
  | 1 => show 0 + 256 ≤ 512; omega
  | 2 => show 0 + 128 ≤ 128; omega
theorem inAU (p : Fin 4) : ∀ a, (![p.val, 256, 0] : Fin 3 → ℕ) a + S1x256x128.size a ≤ S4x512x128.size a := by
  intro a; have := p.isLt; match a with
  | 0 => show p.val + 1 ≤ 4; omega
  | 1 => show 256 + 256 ≤ 512; omega
  | 2 => show 0 + 128 ≤ 128; omega

/-- The scores of all rows against the first half of the keys, and of the lower rows against the second half. -/
def sa (h : Fin 8) (qb : FVec Ideal S1x512x256 .bf16) (k : FVec Ideal S512x1024 .bf16) : FVec Ideal S512x256 .f32 :=
  matmul dot_S512x256_S256x256_S512x256_1_1_0_0_n_n none (shapeCast S512x256 qb shapeCasts_S1x512x256_S512x256)
    (extractStridedSlice S256x256 ![0, 0] (extractStridedSlice S512x256 ![0, 256 * (h.val / 2)] k (slQ h)) slices_S512x256_o0_0_S256x256)
    (constant S512x256 .f32 0x00000000#32)
def sb (h : Fin 8) (qb : FVec Ideal S1x512x256 .bf16) (k : FVec Ideal S512x1024 .bf16) : FVec Ideal S256x256 .f32 :=
  matmul dot_S256x256_S256x256_S256x256_1_1_0_0_n_n none
    (extractStridedSlice S256x256 ![256, 0] (shapeCast S512x256 qb shapeCasts_S1x512x256_S512x256) slices_S512x256_o256_0_S256x256)
    (extractStridedSlice S256x256 ![256, 0] (extractStridedSlice S512x256 ![0, 256 * (h.val / 2)] k (slQ h)) slices_S512x256_o256_0_S256x256)
    (constant S256x256 .f32 0x00000000#32)
/-- The masked scores of the upper rows and of the lower rows. -/
def sT (h : Fin 8) (qb : FVec Ideal S1x512x256 .bf16) (k : FVec Ideal S512x1024 .bf16) : FVec Ideal S256x256 .f32 := k0_pay205 k0_pay72 (sa h qb k)
def sU (h : Fin 8) (qb : FVec Ideal S1x512x256 .bf16) (k : FVec Ideal S512x1024 .bf16) : FVec Ideal S256x512 .f32 := k0_pay206 k0_pay72 (sa h qb k) (sb h qb k)

def mxT (s : FVec Ideal S256x256 .f32) : FVec Ideal S256x1 .f32 :=
  shapeCast S256x1 (multiReduction .maximumf [1] S256 s 0xFF800000#32 reduces_S256x256_S256 (.inl rfl) rfl) shapeCasts_S256_S256x1
def mxT1 (s : FVec Ideal S256x256 .f32) : FVec Ideal S256x128 .f32 := broadcastTo S256x128 (mxT s) broadcasts_S256x1_S256x128
def mxT2 (s : FVec Ideal S256x256 .f32) : FVec Ideal S256x128 .f32 :=
  broadcastTo S256x128 (shapeCast S256x1 (mxT s) shapeCasts_S256x1_S256x1) broadcasts_S256x1_S256x128
def mxU (s : FVec Ideal S256x512 .f32) : FVec Ideal S256x1 .f32 :=
  shapeCast S256x1 (multiReduction .maximumf [1] S256 s 0xFF800000#32 reduces_S256x512_S256 (.inl rfl) rfl) shapeCasts_S256_S256x1
def mxU1 (s : FVec Ideal S256x512 .f32) : FVec Ideal S256x128 .f32 := broadcastTo S256x128 (mxU s) broadcasts_S256x1_S256x128
def mxU2 (s : FVec Ideal S256x512 .f32) : FVec Ideal S256x128 .f32 :=
  broadcastTo S256x128 (shapeCast S256x1 (mxU s) shapeCasts_S256x1_S256x1) broadcasts_S256x1_S256x128
def pvT (s : FVec Ideal S256x256 .f32) (m : FVec Ideal S256x128 .f32) (va : FVec Ideal S512x256 .bf16) : FVec Ideal S256x256 .f32 :=
  matmul dot_S256x256_S256x256_S256x256_1_0_0_1_n_n none
    (truncf .bf16 (exp2 (subf s (concatenate S256x256 1 [⟨S256x128, m⟩, ⟨S256x128, m⟩] concatenates_S256x128_S256x128_S256x256_d1))) bitsLt_bf16_f32)
    (extractStridedSlice S256x256 ![0, 0] va slices_S512x256_o0_0_S256x256) (constant S256x256 .f32 0x00000000#32)
def pvU (s : FVec Ideal S256x512 .f32) (m : FVec Ideal S256x128 .f32) (va : FVec Ideal S512x256 .bf16) : FVec Ideal S256x256 .f32 :=
  matmul dot_S256x512_S512x256_S256x256_1_0_0_1_n_n none
    (truncf .bf16 (exp2 (subf s (concatenate S256x512 1 [⟨S256x128, m⟩, ⟨S256x128, m⟩, ⟨S256x128, m⟩, ⟨S256x128, m⟩]
      concatenates_S256x128_S256x128_S256x128_S256x128_S256x512_d1))) bitsLt_bf16_f32) va (constant S256x256 .f32 0x00000000#32)
def numH (pv : FVec Ideal S256x256 .f32) : FVec Ideal S256x128 .f32 := extractStridedSlice S256x128 ![0, 0] pv slices_S256x256_o0_0_S256x128
def denH (pv : FVec Ideal S256x256 .f32) : FVec Ideal S256x128 .f32 := extractStridedSlice S256x128 ![0, 128] pv slices_S256x256_o0_128_S256x128
def pickH (a b : FVec Ideal S256x128 .f32) : FVec Ideal S256x128 .f32 :=
  select (cmpi .slt (iota .tc S256x128 32 [1] iota_S256x128_d1_w32) (broadcast S256x128 64#32)) a b
def upH (x : FVec Ideal S256x128 .f32) : FVec Ideal S1x256x128 .f32 := shapeCast S1x256x128 x shapeCasts_S256x128_S1x256x128
def downH (x : FVec Ideal S1x256x128 .f32) : FVec Ideal S256x128 .f32 := shapeCast S256x128 x shapeCasts_S1x256x128_S256x128

/-- The new maximum, the factor for what is carried, and the products, of a half. -/
def mnT (mp : FVec Ideal S1x256x128 .f32) (s : FVec Ideal S256x256 .f32) : FVec Ideal S256x128 .f32 := maximumf (downH mp) (mxT1 s)
def mnU (mp : FVec Ideal S1x256x128 .f32) (s : FVec Ideal S256x512 .f32) : FVec Ideal S256x128 .f32 := maximumf (downH mp) (mxU1 s)
def alH (mp : FVec Ideal S1x256x128 .f32) (mn : FVec Ideal S256x128 .f32) : FVec Ideal S256x128 .f32 := exp2 (subf (downH mp) mn)

def lAT (qb : Fin 8 → FVec Ideal S1x512x256 .bf16) (k : FVec Ideal S512x1024 .bf16) (v : FVec Ideal S512x512 .bf16) (h : Fin 8) : FVec Ideal S1x256x128 .f32 :=
  upH (denH (pvT (sT h (qb h) k) (mxT2 (sT h (qb h) k)) (vaF ⟨h.val / 2, by omega⟩ v)))
def lAU (qb : Fin 8 → FVec Ideal S1x512x256 .bf16) (k : FVec Ideal S512x1024 .bf16) (v : FVec Ideal S512x512 .bf16) (h : Fin 8) : FVec Ideal S1x256x128 .f32 :=
  upH (denH (pvU (sU h (qb h) k) (mxU2 (sU h (qb h) k)) (vaF ⟨h.val / 2, by omega⟩ v)))
def aAT (qb : Fin 8 → FVec Ideal S1x512x256 .bf16) (k : FVec Ideal S512x1024 .bf16) (v : FVec Ideal S512x512 .bf16) (p : Fin 4) : FVec Ideal S1x256x128 .f32 :=
  upH (pickH (numH (pvT (sT (fst p) (qb (fst p)) k) (mxT2 (sT (fst p) (qb (fst p)) k)) (vaF p v)))
    (numH (pvT (sT (snd p) (qb (snd p)) k) (mxT2 (sT (snd p) (qb (snd p)) k)) (vaF p v))))
def aAU (qb : Fin 8 → FVec Ideal S1x512x256 .bf16) (k : FVec Ideal S512x1024 .bf16) (v : FVec Ideal S512x512 .bf16) (p : Fin 4) : FVec Ideal S1x256x128 .f32 :=
  upH (pickH (numH (pvU (sU (fst p) (qb (fst p)) k) (mxU2 (sU (fst p) (qb (fst p)) k)) (vaF p v)))
    (numH (pvU (sU (snd p) (qb (snd p)) k) (mxU2 (sU (snd p) (qb (snd p)) k)) (vaF p v))))

def lCT (qb : Fin 8 → FVec Ideal S1x512x256 .bf16) (mp lp : Fin 8 → FVec Ideal S1x256x128 .f32) (k : FVec Ideal S512x1024 .bf16) (v : FVec Ideal S512x512 .bf16) (h : Fin 8) :
    FVec Ideal S1x256x128 .f32 :=
  upH (addf (mulf (alH (mp h) (mnT (mp h) (sT h (qb h) k))) (downH (lp h)))
    (denH (pvT (sT h (qb h) k) (mnT (mp h) (sT h (qb h) k)) (vaF ⟨h.val / 2, by omega⟩ v))))
def lCU (qb : Fin 8 → FVec Ideal S1x512x256 .bf16) (mp lp : Fin 8 → FVec Ideal S1x256x128 .f32) (k : FVec Ideal S512x1024 .bf16) (v : FVec Ideal S512x512 .bf16) (h : Fin 8) :
    FVec Ideal S1x256x128 .f32 :=
  upH (addf (mulf (alH (mp h) (mnU (mp h) (sU h (qb h) k))) (downH (lp h)))
    (denH (pvU (sU h (qb h) k) (mnU (mp h) (sU h (qb h) k)) (vaF ⟨h.val / 2, by omega⟩ v))))
def aCT (qb : Fin 8 → FVec Ideal S1x512x256 .bf16) (mp : Fin 8 → FVec Ideal S1x256x128 .f32) (ap : Fin 4 → FVec Ideal S1x256x128 .f32) (k : FVec Ideal S512x1024 .bf16)
    (v : FVec Ideal S512x512 .bf16) (p : Fin 4) : FVec Ideal S1x256x128 .f32 :=
  upH (addf (mulf (downH (ap p)) (pickH (alH (mp (fst p)) (mnT (mp (fst p)) (sT (fst p) (qb (fst p)) k)))
      (alH (mp (snd p)) (mnT (mp (snd p)) (sT (snd p) (qb (snd p)) k)))))
    (pickH (numH (pvT (sT (fst p) (qb (fst p)) k) (mnT (mp (fst p)) (sT (fst p) (qb (fst p)) k)) (vaF p v)))
      (numH (pvT (sT (snd p) (qb (snd p)) k) (mnT (mp (snd p)) (sT (snd p) (qb (snd p)) k)) (vaF p v)))))
def aCU (qb : Fin 8 → FVec Ideal S1x512x256 .bf16) (mp : Fin 8 → FVec Ideal S1x256x128 .f32) (ap : Fin 4 → FVec Ideal S1x256x128 .f32) (k : FVec Ideal S512x1024 .bf16)
    (v : FVec Ideal S512x512 .bf16) (p : Fin 4) : FVec Ideal S1x256x128 .f32 :=
  upH (addf (mulf (downH (ap p)) (pickH (alH (mp (fst p)) (mnU (mp (fst p)) (sU (fst p) (qb (fst p)) k)))
      (alH (mp (snd p)) (mnU (mp (snd p)) (sU (snd p) (qb (snd p)) k)))))
    (pickH (numH (pvU (sU (fst p) (qb (fst p)) k) (mnU (mp (fst p)) (sU (fst p) (qb (fst p)) k)) (vaF p v)))
      (numH (pvU (sU (snd p) (qb (snd p)) k) (mnU (mp (snd p)) (sU (snd p) (qb (snd p)) k)) (vaF p v)))))

def list16 (f g : Fin 8 → S1x256x128.Idx → Elt Ideal .f32) : List (View.Piece (Elt Ideal) S8x512x128 .f32) :=
  [⟨Rect.unit (s := S8x512x128) ![7, 256, 0] S1x256x128.size inb_S8x512x128_S1x256x128_7_256_0, g 7⟩,
   ⟨Rect.unit (s := S8x512x128) ![7, 0, 0] S1x256x128.size inb_S8x512x128_S1x256x128_7_0_0, f 7⟩,
   ⟨Rect.unit (s := S8x512x128) ![6, 256, 0] S1x256x128.size inb_S8x512x128_S1x256x128_6_256_0, g 6⟩,
   ⟨Rect.unit (s := S8x512x128) ![6, 0, 0] S1x256x128.size inb_S8x512x128_S1x256x128_6_0_0, f 6⟩,
   ⟨Rect.unit (s := S8x512x128) ![5, 256, 0] S1x256x128.size inb_S8x512x128_S1x256x128_5_256_0, g 5⟩,
   ⟨Rect.unit (s := S8x512x128) ![5, 0, 0] S1x256x128.size inb_S8x512x128_S1x256x128_5_0_0, f 5⟩,
   ⟨Rect.unit (s := S8x512x128) ![4, 256, 0] S1x256x128.size inb_S8x512x128_S1x256x128_4_256_0, g 4⟩,
   ⟨Rect.unit (s := S8x512x128) ![4, 0, 0] S1x256x128.size inb_S8x512x128_S1x256x128_4_0_0, f 4⟩,
   ⟨Rect.unit (s := S8x512x128) ![3, 256, 0] S1x256x128.size inb_S8x512x128_S1x256x128_3_256_0, g 3⟩,
   ⟨Rect.unit (s := S8x512x128) ![3, 0, 0] S1x256x128.size inb_S8x512x128_S1x256x128_3_0_0, f 3⟩,
   ⟨Rect.unit (s := S8x512x128) ![2, 256, 0] S1x256x128.size inb_S8x512x128_S1x256x128_2_256_0, g 2⟩,
   ⟨Rect.unit (s := S8x512x128) ![2, 0, 0] S1x256x128.size inb_S8x512x128_S1x256x128_2_0_0, f 2⟩,
   ⟨Rect.unit (s := S8x512x128) ![1, 256, 0] S1x256x128.size inb_S8x512x128_S1x256x128_1_256_0, g 1⟩,
   ⟨Rect.unit (s := S8x512x128) ![1, 0, 0] S1x256x128.size inb_S8x512x128_S1x256x128_1_0_0, f 1⟩,
   ⟨Rect.unit (s := S8x512x128) ![0, 256, 0] S1x256x128.size inb_S8x512x128_S1x256x128_0_256_0, g 0⟩,
   ⟨Rect.unit (s := S8x512x128) ![0, 0, 0] S1x256x128.size inb_S8x512x128_S1x256x128_0_0_0, f 0⟩]
def list8A (f g : Fin 4 → S1x256x128.Idx → Elt Ideal .f32) : List (View.Piece (Elt Ideal) S4x512x128 .f32) :=
  [⟨Rect.unit (s := S4x512x128) ![3, 256, 0] S1x256x128.size inb_S4x512x128_S1x256x128_3_256_0, g 3⟩,
   ⟨Rect.unit (s := S4x512x128) ![3, 0, 0] S1x256x128.size inb_S4x512x128_S1x256x128_3_0_0, f 3⟩,
   ⟨Rect.unit (s := S4x512x128) ![2, 256, 0] S1x256x128.size inb_S4x512x128_S1x256x128_2_256_0, g 2⟩,
   ⟨Rect.unit (s := S4x512x128) ![2, 0, 0] S1x256x128.size inb_S4x512x128_S1x256x128_2_0_0, f 2⟩,
   ⟨Rect.unit (s := S4x512x128) ![1, 256, 0] S1x256x128.size inb_S4x512x128_S1x256x128_1_256_0, g 1⟩,
   ⟨Rect.unit (s := S4x512x128) ![1, 0, 0] S1x256x128.size inb_S4x512x128_S1x256x128_1_0_0, f 1⟩,
   ⟨Rect.unit (s := S4x512x128) ![0, 256, 0] S1x256x128.size inb_S4x512x128_S1x256x128_0_256_0, g 0⟩,
   ⟨Rect.unit (s := S4x512x128) ![0, 0, 0] S1x256x128.size inb_S4x512x128_S1x256x128_0_0_0, f 0⟩]
def list4O (f : Fin 4 → S512x128.Idx → Elt Ideal .bf16) : List (View.Piece (Elt Ideal) S512x512 .bf16) :=
  [⟨Rect.unit (s := S512x512) ![0, 384] S512x128.size inb_S512x512_S512x128_0_384, f 3⟩,
   ⟨Rect.unit (s := S512x512) ![0, 256] S512x128.size inb_S512x512_S512x128_0_256, f 2⟩,
   ⟨Rect.unit (s := S512x512) ![0, 128] S512x128.size inb_S512x512_S512x128_0_128, f 1⟩,
   ⟨Rect.unit (s := S512x512) ![0, 0] S512x128.size inb_S512x512_S512x128_0_0, f 0⟩]

def bkL (L : List (View.Piece (Elt Ideal) S8x512x128 .f32)) (h : Fin 8) : FVec Ideal S1x512x128 .f32 :=
  scM0_2.view.readCov L (Rect.unit (s := S8x512x128) ![h.val, 0, 0] S1x512x128.size (inM h)).toLoadRect
def bkA (L : List (View.Piece (Elt Ideal) S4x512x128 .f32)) (p : Fin 4) : FVec Ideal S1x512x128 .f32 :=
  scM0_3.view.readCov L (Rect.unit (s := S4x512x128) ![p.val, 0, 0] S1x512x128.size (inA p)).toLoadRect
/-- A pair's output: the accumulator over the sums. -/
def outF (l : Fin 8 → FVec Ideal S1x512x128 .f32) (a : Fin 4 → FVec Ideal S1x512x128 .f32) (p : Fin 4) : FVec Ideal S512x128 .bf16 :=
  truncf .bf16 (divf (downF (a p)) (pickF (downF (l (fst p))) (downF (l (snd p))))) bitsLt_bf16_f32

def wMT (x : S8x512x128.Idx → Elt Ideal .f32) (h : Fin 8) : FVec Ideal S1x256x128 .f32 :=
  fun j => x ((Rect.unit (s := S8x512x128) ![h.val, 0, 0] S1x256x128.size (inT h)).toLoadRect.idx j)
def wMU (x : S8x512x128.Idx → Elt Ideal .f32) (h : Fin 8) : FVec Ideal S1x256x128 .f32 :=
  fun j => x ((Rect.unit (s := S8x512x128) ![h.val, 256, 0] S1x256x128.size (inU h)).toLoadRect.idx j)
def wAT (x : S4x512x128.Idx → Elt Ideal .f32) (p : Fin 4) : FVec Ideal S1x256x128 .f32 :=
  fun j => x ((Rect.unit (s := S4x512x128) ![p.val, 0, 0] S1x256x128.size (inAT p)).toLoadRect.idx j)
def wAU (x : S4x512x128.Idx → Elt Ideal .f32) (p : Fin 4) : FVec Ideal S1x256x128 .f32 :=
  fun j => x ((Rect.unit (s := S4x512x128) ![p.val, 256, 0] S1x256x128.size (inAU p)).toLoadRect.idx j)

/-! ## The runs' lists -/

section Runs

variable {c : Dev nD} {i : grid0.Coords} {arg4 arg5 : Memref sig .tc .vmem S512x1024 .bf16} {harg4 : arg4.IsWhole} {harg5 : arg5.IsWhole}
  {arg6 arg7 : Memref sig .tc .vmem S512x512 .bf16} {harg6 : arg6.IsWhole} {harg7 : arg7.IsWhole} {T0 T1 : S10.Idx → Elt Ideal .i32}
  {x0 x1 : S512x1024.Idx → Elt Ideal .bf16} {x2 : S512x512.Idx → Elt Ideal .bf16}

theorem runD_m (xa0) (xa1) (xa2) (xa3) (hc0) (hc1) (hc2) (hc3) (hc4) (k6) :
    (kernelRun0_D c i arg4 harg4 arg5 harg5 arg6 harg6 arg7 harg7 T0 T1 x0 x1 x2 xa0 xa1 xa2 xa3 hc0 hc1 hc2 hc3 hc4 k6).2.1
      = (View.whole cc0_scratch1).writes (Elt Ideal) (View.whole cc0_scratch1).junk (list8M fun h => mD (wQ (scM0_0.view.read (Elt Ideal) xa0) h) (wM (scM0_1.view.read (Elt Ideal) xa1) h) (ldX arg5 x1) h) := by
  unfold kernelRun0_D
  dsimp only
  sl_unfold_words
  rfl

theorem runD_l (xa0) (xa1) (xa2) (xa3) (hc0) (hc1) (hc2) (hc3) (hc4) (k6) :
    (kernelRun0_D c i arg4 harg4 arg5 harg5 arg6 harg6 arg7 harg7 T0 T1 x0 x1 x2 xa0 xa1 xa2 xa3 hc0 hc1 hc2 hc3 hc4 k6).2.2.1
      = (View.whole cc0_scratch2).writes (Elt Ideal) (View.whole cc0_scratch2).junk (list8M fun h => lD (wQ (scM0_0.view.read (Elt Ideal) xa0) h) (wM (scM0_1.view.read (Elt Ideal) xa1) h) (wM (scM0_2.view.read (Elt Ideal) xa2) h) (ldX arg5 x1) (ldV arg6 x2) h) := by
  unfold kernelRun0_D
  dsimp only
  sl_unfold_words
  rfl

theorem runD_a (xa0) (xa1) (xa2) (xa3) (hc0) (hc1) (hc2) (hc3) (hc4) (k6) :
    (kernelRun0_D c i arg4 harg4 arg5 harg5 arg6 harg6 arg7 harg7 T0 T1 x0 x1 x2 xa0 xa1 xa2 xa3 hc0 hc1 hc2 hc3 hc4 k6).2.2.2.1
      = (View.whole cc0_scratch3).writes (Elt Ideal) (View.whole cc0_scratch3).junk (list4A fun p => aD (wQ (scM0_0.view.read (Elt Ideal) xa0) (fst p)) (wQ (scM0_0.view.read (Elt Ideal) xa0) (snd p)) (wM (scM0_1.view.read (Elt Ideal) xa1) (fst p)) (wM (scM0_1.view.read (Elt Ideal) xa1) (snd p)) (wA (scM0_3.view.read (Elt Ideal) xa3) p) (ldX arg5 x1) (ldV arg6 x2) p) := by
  unfold kernelRun0_D
  dsimp only
  sl_unfold_words
  rfl

theorem runD_q (xa0) (xa1) (xa2) (xa3) (hc0) (hc1) (hc2) (hc3) (hc4) (k6) :
    (kernelRun0_D c i arg4 harg4 arg5 harg5 arg6 harg6 arg7 harg7 T0 T1 x0 x1 x2 xa0 xa1 xa2 xa3 hc0 hc1 hc2 hc3 hc4 k6).1
      = xa0 := by
  unfold kernelRun0_D
  dsimp only

theorem runB_q (hc0) (hc1) (hc2) (hc3) (hc4) (k6) :
    (kernelRun0_B c i arg4 harg4 arg5 harg5 arg6 harg6 arg7 harg7 T0 T1 x0 x1 x2 hc0 hc1 hc2 hc3 hc4 k6).1
      = (View.whole cc0_scratch0).writes (Elt Ideal) (View.whole cc0_scratch0).junk (list8Q (qpad (ldX arg4 x0))) := by
  unfold kernelRun0_B
  dsimp only
  sl_unfold_words
  rfl

theorem runB_m (hc0) (hc1) (hc2) (hc3) (hc4) (k6) :
    (kernelRun0_B c i arg4 harg4 arg5 harg5 arg6 harg6 arg7 harg7 T0 T1 x0 x1 x2 hc0 hc1 hc2 hc3 hc4 k6).2.1
      = (View.whole cc0_scratch1).writes (Elt Ideal) (View.whole cc0_scratch1).junk (list8M (mB (bkQ (ldX arg4 x0)) (ldX arg5 x1))) := by
  unfold kernelRun0_B
  dsimp only
  sl_unfold_words
  rfl

theorem runB_l (hc0) (hc1) (hc2) (hc3) (hc4) (k6) :
    (kernelRun0_B c i arg4 harg4 arg5 harg5 arg6 harg6 arg7 harg7 T0 T1 x0 x1 x2 hc0 hc1 hc2 hc3 hc4 k6).2.2.1
      = (View.whole cc0_scratch2).writes (Elt Ideal) (View.whole cc0_scratch2).junk (list8M (lB (bkQ (ldX arg4 x0)) (ldX arg5 x1) (ldV arg6 x2))) := by
  unfold kernelRun0_B
  dsimp only
  sl_unfold_words
  rfl

theorem runB_a (hc0) (hc1) (hc2) (hc3) (hc4) (k6) :
    (kernelRun0_B c i arg4 harg4 arg5 harg5 arg6 harg6 arg7 harg7 T0 T1 x0 x1 x2 hc0 hc1 hc2 hc3 hc4 k6).2.2.2.1
      = (View.whole cc0_scratch3).writes (Elt Ideal) (View.whole cc0_scratch3).junk (list4A (aB (bkQ (ldX arg4 x0)) (ldX arg5 x1) (ldV arg6 x2))) := by
  unfold kernelRun0_B
  dsimp only
  sl_unfold_words
  rfl

theorem runA_o (hc0) (hc1) (hc2) (hc3) (hc4) (k6) :
    (kernelRun0_A c i arg4 harg4 arg5 harg5 arg6 harg6 arg7 harg7 T0 T1 x0 x1 x2 hc0 hc1 hc2 hc3 hc4 k6).1
      = list4O (outF (bkL (list16 (lAT (bkQ (ldX arg4 x0)) (ldX arg5 x1) (ldV arg6 x2)) (lAU (bkQ (ldX arg4 x0)) (ldX arg5 x1) (ldV arg6 x2)))) (bkA (list8A (aAT (bkQ (ldX arg4 x0)) (ldX arg5 x1) (ldV arg6 x2)) (aAU (bkQ (ldX arg4 x0)) (ldX arg5 x1) (ldV arg6 x2))))) := by
  unfold kernelRun0_A
  dsimp only
  sl_unfold_words
  rfl

theorem runC_o (xa0) (xa1) (xa2) (xa3) (hc0) (hc1) (hc2) (hc3) (hc4) (k6) :
    (kernelRun0_C c i arg4 harg4 arg5 harg5 arg6 harg6 arg7 harg7 T0 T1 x0 x1 x2 xa0 xa1 xa2 xa3 hc0 hc1 hc2 hc3 hc4 k6).1
      = list4O (outF (bkL (list16 (lCT (wQ (scM0_0.view.read (Elt Ideal) xa0)) (wMT (scM0_1.view.read (Elt Ideal) xa1)) (wMT (scM0_2.view.read (Elt Ideal) xa2)) (ldX arg5 x1) (ldV arg6 x2))
          (lCU (wQ (scM0_0.view.read (Elt Ideal) xa0)) (wMU (scM0_1.view.read (Elt Ideal) xa1)) (wMU (scM0_2.view.read (Elt Ideal) xa2)) (ldX arg5 x1) (ldV arg6 x2))))
        (bkA (list8A (aCT (wQ (scM0_0.view.read (Elt Ideal) xa0)) (wMT (scM0_1.view.read (Elt Ideal) xa1)) (wAT (scM0_3.view.read (Elt Ideal) xa3)) (ldX arg5 x1) (ldV arg6 x2))
          (aCU (wQ (scM0_0.view.read (Elt Ideal) xa0)) (wMU (scM0_1.view.read (Elt Ideal) xa1)) (wAU (scM0_3.view.read (Elt Ideal) xa3)) (ldX arg5 x1) (ldV arg6 x2))))) := by
  unfold kernelRun0_C
  dsimp only
  sl_unfold_words
  rfl

end Runs

end Cert.Flash
-- ==== Proof.FlashRead.lean ====
module

public import proofs.«01_k».proof.Proof.FlashOpen
public import proofs.«01_k».proof.Proof.Online
public import Idealize.ShloMosaic.Lib.VecWindow

@[expose] public section

set_option maxRecDepth 16384

noncomputable section

/-! # The prompt attention's arithmetic at an index

What the lists of stores hold at a head, a row and a lane, and the body's steps read there over extended reals. -/

namespace Cert.Flash

open Idealize.ShloMosaic Idealize.ShloMosaic.TcCoe Idealize.ShloMosaic.Tactic
open Idealize.SL Idealize.SL.Sem
open Cert.Kernel4Ideal Cert.Kernel4Ideal.Gen

/-! ## Stores and loads of a head's rows -/

theorem canon3_in {H R N C : ℕ} {e : EltTy} (L : List (View.Piece (Elt Ideal) ⟨3, ![H, R, C]⟩ e)) (a o : ℕ)
    (inb : ∀ b, ![a, o, 0] b + (⟨3, ![1, N, C]⟩ : Shape).size b ≤ (⟨3, ![H, R, C]⟩ : Shape).size b) (w : (⟨3, ![1, N, C]⟩ : Shape).Idx → Elt Ideal e)
    (h : Fin H) (i : Fin R) (c : Fin C) (q : Fin N) (ha : h.val = a) (hq : i.val = o + q.val) :
    View.canon (⟨Rect.unit (s := ⟨3, ![H, R, C]⟩) ![a, o, 0] (⟨3, ![1, N, C]⟩ : Shape).size inb, w⟩ :: L) (ix3 h i c) = w (ix3 0 q c) := by
  refine Eq.trans (congrArg _ ?_) (View.canon_cons_emb (Rect.unit (s := ⟨3, ![H, R, C]⟩) ![a, o, 0] (⟨3, ![1, N, C]⟩ : Shape).size inb) w L (ix3 0 q c))
  funext b
  match b with
  | 0 => apply Fin.ext; show h.val = a + 1 * 0; omega
  | 1 => apply Fin.ext; show i.val = o + 1 * q.val; omega
  | 2 => apply Fin.ext; show c.val = 0 + 1 * c.val; omega

theorem canon3_out {H R N C : ℕ} {e : EltTy} (L : List (View.Piece (Elt Ideal) ⟨3, ![H, R, C]⟩ e)) (a o : ℕ)
    (inb : ∀ b, ![a, o, 0] b + (⟨3, ![1, N, C]⟩ : Shape).size b ≤ (⟨3, ![H, R, C]⟩ : Shape).size b) (w : (⟨3, ![1, N, C]⟩ : Shape).Idx → Elt Ideal e)
    (h : Fin H) (i : Fin R) (c : Fin C) (ha : h.val ≠ a ∨ i.val < o ∨ o + N ≤ i.val) :
    View.canon (⟨Rect.unit (s := ⟨3, ![H, R, C]⟩) ![a, o, 0] (⟨3, ![1, N, C]⟩ : Shape).size inb, w⟩ :: L) (ix3 h i c) = View.canon L (ix3 h i c) :=
  View.canon_cons_of_not_mem _ L fun hm => by
    have h2 := (Rect.mem_set_unit (s := ⟨3, ![H, R, C]⟩) (off := ![a, o, 0]) (size := (⟨3, ![1, N, C]⟩ : Shape).size) (inb := inb)).1 hm
    have h0 : a ≤ h.val ∧ h.val < a + 1 := h2 0
    have h1 : o ≤ i.val ∧ i.val < o + N := h2 1
    omega

/-- One step down a list of stores, the rows of one head each. -/
theorem canon3_rec {H R N C : ℕ} {e : EltTy} (L : List (View.Piece (Elt Ideal) ⟨3, ![H, R, C]⟩ e)) (a o : ℕ)
    (inb : ∀ b, ![a, o, 0] b + (⟨3, ![1, N, C]⟩ : Shape).size b ≤ (⟨3, ![H, R, C]⟩ : Shape).size b) (w : (⟨3, ![1, N, C]⟩ : Shape).Idx → Elt Ideal e)
    (h : Fin H) (i : Fin R) (c : Fin C) (q : Fin N) (z : Elt Ideal e) (hq : i.val = o + q.val) (h1 : h.val = a → w (ix3 0 q c) = z)
    (h2 : h.val ≠ a → View.canon L (ix3 h i c) = z) :
    View.canon (⟨Rect.unit (s := ⟨3, ![H, R, C]⟩) ![a, o, 0] (⟨3, ![1, N, C]⟩ : Shape).size inb, w⟩ :: L) (ix3 h i c) = z := by
  by_cases e : h.val = a
  · exact (canon3_in L a o inb w h i c q e hq).trans (h1 e)
  · exact (canon3_out L a o inb w h i c (Or.inl e)).trans (h2 e)

/-- Row `r` of the upper and of the lower half. -/
def loR (r : Fin 256) : Fin 512 := ⟨r, by omega⟩
def hiR (r : Fin 256) : Fin 512 := ⟨256 + r, by omega⟩

theorem canon8Q (f) (h : Fin 8) (r : Fin 512) (x : Fin 256) : View.canon (list8Q f) (ix3 h r x) = f h (ix3 0 r x) := by
  have e : ∀ j : Fin 8, h.val = j.val → f j (ix3 0 r x) = f h (ix3 0 r x) := fun j hj => by rw [Fin.ext hj]
  unfold list8Q
  refine canon3_rec _ 7 0 _ _ h r x r _ (Nat.zero_add _).symm (e 7) fun n7 => ?_
  refine canon3_rec _ 6 0 _ _ h r x r _ (Nat.zero_add _).symm (e 6) fun n6 => ?_
  refine canon3_rec _ 5 0 _ _ h r x r _ (Nat.zero_add _).symm (e 5) fun n5 => ?_
  refine canon3_rec _ 4 0 _ _ h r x r _ (Nat.zero_add _).symm (e 4) fun n4 => ?_
  refine canon3_rec _ 3 0 _ _ h r x r _ (Nat.zero_add _).symm (e 3) fun n3 => ?_
  refine canon3_rec _ 2 0 _ _ h r x r _ (Nat.zero_add _).symm (e 2) fun n2 => ?_
  refine canon3_rec _ 1 0 _ _ h r x r _ (Nat.zero_add _).symm (e 1) fun n1 => ?_
  refine canon3_rec _ 0 0 _ _ h r x r _ (Nat.zero_add _).symm (e 0) fun n0 => ?_
  omega
theorem canon8M (f) (h : Fin 8) (r : Fin 512) (x : Fin 128) : View.canon (list8M f) (ix3 h r x) = f h (ix3 0 r x) := by
  have e : ∀ j : Fin 8, h.val = j.val → f j (ix3 0 r x) = f h (ix3 0 r x) := fun j hj => by rw [Fin.ext hj]
  unfold list8M
  refine canon3_rec _ 7 0 _ _ h r x r _ (Nat.zero_add _).symm (e 7) fun n7 => ?_
  refine canon3_rec _ 6 0 _ _ h r x r _ (Nat.zero_add _).symm (e 6) fun n6 => ?_
  refine canon3_rec _ 5 0 _ _ h r x r _ (Nat.zero_add _).symm (e 5) fun n5 => ?_
  refine canon3_rec _ 4 0 _ _ h r x r _ (Nat.zero_add _).symm (e 4) fun n4 => ?_
  refine canon3_rec _ 3 0 _ _ h r x r _ (Nat.zero_add _).symm (e 3) fun n3 => ?_
  refine canon3_rec _ 2 0 _ _ h r x r _ (Nat.zero_add _).symm (e 2) fun n2 => ?_
  refine canon3_rec _ 1 0 _ _ h r x r _ (Nat.zero_add _).symm (e 1) fun n1 => ?_
  refine canon3_rec _ 0 0 _ _ h r x r _ (Nat.zero_add _).symm (e 0) fun n0 => ?_
  omega
theorem canon4A (f) (h : Fin 4) (r : Fin 512) (x : Fin 128) : View.canon (list4A f) (ix3 h r x) = f h (ix3 0 r x) := by
  have e : ∀ j : Fin 4, h.val = j.val → f j (ix3 0 r x) = f h (ix3 0 r x) := fun j hj => by rw [Fin.ext hj]
  unfold list4A
  refine canon3_rec _ 3 0 _ _ h r x r _ (Nat.zero_add _).symm (e 3) fun n3 => ?_
  refine canon3_rec _ 2 0 _ _ h r x r _ (Nat.zero_add _).symm (e 2) fun n2 => ?_
  refine canon3_rec _ 1 0 _ _ h r x r _ (Nat.zero_add _).symm (e 1) fun n1 => ?_
  refine canon3_rec _ 0 0 _ _ h r x r _ (Nat.zero_add _).symm (e 0) fun n0 => ?_
  omega

theorem canon16_lo (f g) (h : Fin 8) (r : Fin 256) (x : Fin 128) : View.canon (list16 f g) (ix3 h (loR r) x) = f h (ix3 0 r x) := by
  have e : ∀ j : Fin 8, h.val = j.val → f j (ix3 0 r x) = f h (ix3 0 r x) := fun j hj => by rw [Fin.ext hj]
  unfold list16
  refine (canon3_out _ 7 256 _ _ h (loR r) x (Or.inr (Or.inl r.isLt))).trans ?_
  refine canon3_rec _ 7 0 _ _ h (loR r) x r _ (Nat.zero_add _).symm (e 7) fun n7 => ?_
  refine (canon3_out _ 6 256 _ _ h (loR r) x (Or.inr (Or.inl r.isLt))).trans ?_
  refine canon3_rec _ 6 0 _ _ h (loR r) x r _ (Nat.zero_add _).symm (e 6) fun n6 => ?_
  refine (canon3_out _ 5 256 _ _ h (loR r) x (Or.inr (Or.inl r.isLt))).trans ?_
  refine canon3_rec _ 5 0 _ _ h (loR r) x r _ (Nat.zero_add _).symm (e 5) fun n5 => ?_
  refine (canon3_out _ 4 256 _ _ h (loR r) x (Or.inr (Or.inl r.isLt))).trans ?_
  refine canon3_rec _ 4 0 _ _ h (loR r) x r _ (Nat.zero_add _).symm (e 4) fun n4 => ?_
  refine (canon3_out _ 3 256 _ _ h (loR r) x (Or.inr (Or.inl r.isLt))).trans ?_
  refine canon3_rec _ 3 0 _ _ h (loR r) x r _ (Nat.zero_add _).symm (e 3) fun n3 => ?_
  refine (canon3_out _ 2 256 _ _ h (loR r) x (Or.inr (Or.inl r.isLt))).trans ?_
  refine canon3_rec _ 2 0 _ _ h (loR r) x r _ (Nat.zero_add _).symm (e 2) fun n2 => ?_
  refine (canon3_out _ 1 256 _ _ h (loR r) x (Or.inr (Or.inl r.isLt))).trans ?_
  refine canon3_rec _ 1 0 _ _ h (loR r) x r _ (Nat.zero_add _).symm (e 1) fun n1 => ?_
  refine (canon3_out _ 0 256 _ _ h (loR r) x (Or.inr (Or.inl r.isLt))).trans ?_
  refine canon3_rec _ 0 0 _ _ h (loR r) x r _ (Nat.zero_add _).symm (e 0) fun n0 => ?_
  omega
theorem canon16_hi (f g) (h : Fin 8) (r : Fin 256) (x : Fin 128) : View.canon (list16 f g) (ix3 h (hiR r) x) = g h (ix3 0 r x) := by
  have e : ∀ j : Fin 8, h.val = j.val → g j (ix3 0 r x) = g h (ix3 0 r x) := fun j hj => by rw [Fin.ext hj]
  unfold list16
  refine canon3_rec _ 7 256 _ _ h (hiR r) x r _ rfl (e 7) fun n7 => ?_
  refine (canon3_out _ 7 0 _ _ h (hiR r) x (Or.inr (Or.inr (Nat.le_add_right _ _)))).trans ?_
  refine canon3_rec _ 6 256 _ _ h (hiR r) x r _ rfl (e 6) fun n6 => ?_
  refine (canon3_out _ 6 0 _ _ h (hiR r) x (Or.inr (Or.inr (Nat.le_add_right _ _)))).trans ?_
  refine canon3_rec _ 5 256 _ _ h (hiR r) x r _ rfl (e 5) fun n5 => ?_
  refine (canon3_out _ 5 0 _ _ h (hiR r) x (Or.inr (Or.inr (Nat.le_add_right _ _)))).trans ?_
  refine canon3_rec _ 4 256 _ _ h (hiR r) x r _ rfl (e 4) fun n4 => ?_
  refine (canon3_out _ 4 0 _ _ h (hiR r) x (Or.inr (Or.inr (Nat.le_add_right _ _)))).trans ?_
  refine canon3_rec _ 3 256 _ _ h (hiR r) x r _ rfl (e 3) fun n3 => ?_
  refine (canon3_out _ 3 0 _ _ h (hiR r) x (Or.inr (Or.inr (Nat.le_add_right _ _)))).trans ?_
  refine canon3_rec _ 2 256 _ _ h (hiR r) x r _ rfl (e 2) fun n2 => ?_
  refine (canon3_out _ 2 0 _ _ h (hiR r) x (Or.inr (Or.inr (Nat.le_add_right _ _)))).trans ?_
  refine canon3_rec _ 1 256 _ _ h (hiR r) x r _ rfl (e 1) fun n1 => ?_
  refine (canon3_out _ 1 0 _ _ h (hiR r) x (Or.inr (Or.inr (Nat.le_add_right _ _)))).trans ?_
  refine canon3_rec _ 0 256 _ _ h (hiR r) x r _ rfl (e 0) fun n0 => ?_
  refine (canon3_out _ 0 0 _ _ h (hiR r) x (Or.inr (Or.inr (Nat.le_add_right _ _)))).trans ?_
  omega
theorem canon8A_lo (f g) (h : Fin 4) (r : Fin 256) (x : Fin 128) : View.canon (list8A f g) (ix3 h (loR r) x) = f h (ix3 0 r x) := by
  have e : ∀ j : Fin 4, h.val = j.val → f j (ix3 0 r x) = f h (ix3 0 r x) := fun j hj => by rw [Fin.ext hj]
  unfold list8A
  refine (canon3_out _ 3 256 _ _ h (loR r) x (Or.inr (Or.inl r.isLt))).trans ?_
  refine canon3_rec _ 3 0 _ _ h (loR r) x r _ (Nat.zero_add _).symm (e 3) fun n3 => ?_
  refine (canon3_out _ 2 256 _ _ h (loR r) x (Or.inr (Or.inl r.isLt))).trans ?_
  refine canon3_rec _ 2 0 _ _ h (loR r) x r _ (Nat.zero_add _).symm (e 2) fun n2 => ?_
  refine (canon3_out _ 1 256 _ _ h (loR r) x (Or.inr (Or.inl r.isLt))).trans ?_
  refine canon3_rec _ 1 0 _ _ h (loR r) x r _ (Nat.zero_add _).symm (e 1) fun n1 => ?_
  refine (canon3_out _ 0 256 _ _ h (loR r) x (Or.inr (Or.inl r.isLt))).trans ?_
  refine canon3_rec _ 0 0 _ _ h (loR r) x r _ (Nat.zero_add _).symm (e 0) fun n0 => ?_
  omega
theorem canon8A_hi (f g) (h : Fin 4) (r : Fin 256) (x : Fin 128) : View.canon (list8A f g) (ix3 h (hiR r) x) = g h (ix3 0 r x) := by
  have e : ∀ j : Fin 4, h.val = j.val → g j (ix3 0 r x) = g h (ix3 0 r x) := fun j hj => by rw [Fin.ext hj]
  unfold list8A
  refine canon3_rec _ 3 256 _ _ h (hiR r) x r _ rfl (e 3) fun n3 => ?_
  refine (canon3_out _ 3 0 _ _ h (hiR r) x (Or.inr (Or.inr (Nat.le_add_right _ _)))).trans ?_
  refine canon3_rec _ 2 256 _ _ h (hiR r) x r _ rfl (e 2) fun n2 => ?_
  refine (canon3_out _ 2 0 _ _ h (hiR r) x (Or.inr (Or.inr (Nat.le_add_right _ _)))).trans ?_
  refine canon3_rec _ 1 256 _ _ h (hiR r) x r _ rfl (e 1) fun n1 => ?_
  refine (canon3_out _ 1 0 _ _ h (hiR r) x (Or.inr (Or.inr (Nat.le_add_right _ _)))).trans ?_
  refine canon3_rec _ 0 256 _ _ h (hiR r) x r _ rfl (e 0) fun n0 => ?_
  refine (canon3_out _ 0 0 _ _ h (hiR r) x (Or.inr (Or.inr (Nat.le_add_right _ _)))).trans ?_
  omega

theorem win3 {H R N C : ℕ} (a o : ℕ) (inb : ∀ b, ![a, o, 0] b + (⟨3, ![1, N, C]⟩ : Shape).size b ≤ (⟨3, ![H, R, C]⟩ : Shape).size b)
    (h : Fin H) (i : Fin R) (c : Fin C) (q : Fin N) (ha : h.val = a) (hq : i.val = o + q.val) :
    (Rect.unit (s := ⟨3, ![H, R, C]⟩) ![a, o, 0] (⟨3, ![1, N, C]⟩ : Shape).size inb).toLoadRect.idx (ix3 0 q c) = ix3 h i c := by
  funext b
  match b with
  | 0 => apply Fin.ext; show a + 1 * 0 = h.val; omega
  | 1 => apply Fin.ext; show o + 1 * q.val = i.val; omega
  | 2 => apply Fin.ext; show 0 + 1 * c.val = c.val; omega

theorem wQ_apply (X h) (r : Fin 512) (x : Fin 256) : wQ X h (ix3 0 r x) = X (ix3 h r x) :=
  congrArg X (win3 _ _ (inQ h) h r x r rfl (Nat.zero_add _).symm)
theorem wM_apply (X h) (r : Fin 512) (x : Fin 128) : wM X h (ix3 0 r x) = X (ix3 h r x) :=
  congrArg X (win3 _ _ (inM h) h r x r rfl (Nat.zero_add _).symm)
theorem wA_apply (X h) (r : Fin 512) (x : Fin 128) : wA X h (ix3 0 r x) = X (ix3 h r x) :=
  congrArg X (win3 _ _ (inA h) h r x r rfl (Nat.zero_add _).symm)
theorem wMT_apply (X h) (r : Fin 256) (x : Fin 128) : wMT X h (ix3 0 r x) = X (ix3 h (loR r) x) :=
  congrArg X (win3 _ _ (inT h) h (loR r) x r rfl (Nat.zero_add _).symm)
theorem wMU_apply (X h) (r : Fin 256) (x : Fin 128) : wMU X h (ix3 0 r x) = X (ix3 h (hiR r) x) :=
  congrArg X (win3 _ _ (inU h) h (hiR r) x r rfl rfl)
theorem wAT_apply (X h) (r : Fin 256) (x : Fin 128) : wAT X h (ix3 0 r x) = X (ix3 h (loR r) x) :=
  congrArg X (win3 _ _ (inAT h) h (loR r) x r rfl (Nat.zero_add _).symm)
theorem wAU_apply (X h) (r : Fin 256) (x : Fin 128) : wAU X h (ix3 0 r x) = X (ix3 h (hiR r) x) :=
  congrArg X (win3 _ _ (inAU h) h (hiR r) x r rfl rfl)
theorem bkQ_apply (q h) (r : Fin 512) (x : Fin 256) : bkQ q h (ix3 0 r x) = qpad q h (ix3 0 r x) := by
  unfold bkQ; rw [View.readCov_eq_canon']
  exact (congrArg _ (win3 _ _ (inQ h) h r x r rfl (Nat.zero_add _).symm)).trans (canon8Q _ h r x)
theorem bkL_apply (L h) (r : Fin 512) (x : Fin 128) : bkL L h (ix3 0 r x) = View.canon L (ix3 h r x) := by
  unfold bkL; rw [View.readCov_eq_canon']
  exact congrArg _ (win3 _ _ (inM h) h r x r rfl (Nat.zero_add _).symm)
theorem bkA_apply (L h) (r : Fin 512) (x : Fin 128) : bkA L h (ix3 0 r x) = View.canon L (ix3 h r x) := by
  unfold bkA; rw [View.readCov_eq_canon']
  exact congrArg _ (win3 _ _ (inA h) h r x r rfl (Nat.zero_add _).symm)
theorem ldX_eq (a x) : ldX a x = x := View.readAt_rep_full _ _ _
theorem ldV_eq (a x) : ldV a x = x := View.readAt_rep_full _ _ _

/-! ## A whole tile -/

theorem bits_bot : Ideal.ofBits .f32 4286578688#32 = ⊥ := by
  simp [Ideal.ofBits, Ideal.ieee, -EReal.coe_mul]
theorem lane4 {α : Type*} (f : Fin 128 → α) (c : Fin 512) :
    (if h : (c : ℕ) < 128 then f ⟨c, h⟩ else if h : (c : ℕ) - 128 < 128 then f ⟨c - 128, h⟩
      else if h : (c : ℕ) - 128 - 128 < 128 then f ⟨c - 128 - 128, h⟩ else f ⟨c - 128 - 128 - 128, by omega⟩)
      = f ⟨c % 128, Nat.mod_lt _ (by norm_num)⟩ := by
  split_ifs <;> exact congrArg f (Fin.ext (by simp only []; omega))
theorem lane2 {α : Type*} (f : Fin 128 → α) (c : Fin 256) :
    (if h : (c : ℕ) < 128 then f ⟨c, h⟩ else f ⟨c - 128, by omega⟩) = f ⟨c % 128, Nat.mod_lt _ (by norm_num)⟩ := by
  split_ifs <;> exact congrArg f (Fin.ext (by simp only []; omega))

/-- Column `x` of the pair of head `h` among the keys' columns, and column `c` of pair `p` among the values'. -/
def kc (h : Fin 8) (x : Fin 256) : Fin 1024 := ⟨256 * (h.val / 2) + x, by omega⟩
def vc (p : Fin 4) (c : Fin 128) : Fin 512 := ⟨128 * p.val + c, by omega⟩
/-- The lane of 128 a column falls on. -/
def ln {n : ℕ} (c : Fin n) : Fin 128 := ⟨c % 128, Nat.mod_lt _ (by norm_num)⟩

theorem scF_apply (h qb k) (r j : Fin 512) : scF h qb k (ix2 r j) = ∑ x : Fin 256, qb (ix3 0 r x) * k (ix2 j (kc h x)) := by
  unfold scF kc
  pointwise
theorem mxF1_apply (s) (r : Fin 512) (k : Fin 128) : mxF1 s (ix2 r k) = Finset.univ.fold max ⊥ fun j => s (ix2 r j) := by
  rw [← bits_bot]; pointwise [mxF1, mxF]
theorem mxF2_apply (s) (r : Fin 512) (k : Fin 128) : mxF2 s (ix2 r k) = Finset.univ.fold max ⊥ fun j => s (ix2 r j) := by
  rw [← bits_bot]; pointwise [mxF2, mxF]
theorem upF_apply (x) (r : Fin 512) (k : Fin 128) : upF x (ix3 0 r k) = x (ix2 r k) := by pointwise [upF]
theorem downF_apply (x) (r : Fin 512) (k : Fin 128) : downF x (ix2 r k) = x (ix3 0 r k) := by pointwise [downF]
theorem sel_lt (k : Fin 128) (a b : EReal) : Scalar.select (IntOp.cmpi .slt (BitVec.ofNat 32 k) 64#32) a b = if k.val < 64 then a else b := by
  have e : ∀ k : Fin 128, IntOp.cmpi .slt (BitVec.ofNat 32 k) 64#32 = if k.val < 64 then 1#1 else 0#1 := by decide
  rw [e]; split_ifs <;> rfl
theorem pickF_apply (a b) (r : Fin 512) (k : Fin 128) : pickF a b (ix2 r k) = if k.val < 64 then a (ix2 r k) else b (ix2 r k) := by
  rw [← sel_lt]
  pointwise [pickF]
theorem sel_half (h : Fin 8) (x : Fin 256) (a : EReal) : Scalar.select (IntOp.andi (IntOp.cmpi .sge (BitVec.ofNat 32 x) (BitVec.ofNat 32 (128 * (h.val % 2))))
    (IntOp.cmpi .slt (BitVec.ofNat 32 x) (BitVec.ofNat 32 (128 * (h.val % 2) + 128)))) a 0 = if x.val / 128 = h.val % 2 then a else 0 := by
  have e0 : ∀ x : Fin 256, IntOp.andi (IntOp.cmpi .sge (BitVec.ofNat 32 x) 0#32) (IntOp.cmpi .slt (BitVec.ofNat 32 x) 128#32)
      = if x.val / 128 = 0 then 1#1 else 0#1 := by decide
  have e1 : ∀ x : Fin 256, IntOp.andi (IntOp.cmpi .sge (BitVec.ofNat 32 x) 128#32) (IntOp.cmpi .slt (BitVec.ofNat 32 x) 256#32)
      = if x.val / 128 = 1 then 1#1 else 0#1 := by decide
  rcases Nat.mod_two_eq_zero_or_one h.val with e | e
  · rw [e]
    show Scalar.select (IntOp.andi (IntOp.cmpi .sge (BitVec.ofNat 32 x) 0#32) (IntOp.cmpi .slt (BitVec.ofNat 32 x) 128#32)) a 0 = _
    rw [e0]; split_ifs <;> rfl
  · rw [e]
    show Scalar.select (IntOp.andi (IntOp.cmpi .sge (BitVec.ofNat 32 x) 128#32) (IntOp.cmpi .slt (BitVec.ofNat 32 x) 256#32)) a 0 = _
    rw [e1]; split_ifs <;> rfl
theorem qpad_apply (q h) (r : Fin 512) (x : Fin 256) : qpad q h (ix3 0 r x) = if x.val / 128 = h.val % 2 then q (ix2 r (kc h x)) else 0 := by
  rw [← sel_half]
  unfold qpad kc
  pointwise
theorem numF_apply (s m p v) (r : Fin 512) (c : Fin 128) : numF (pvF s m (vaF p v)) (ix2 r c)
    = ∑ j : Fin 512, Ideal.exp2 (s (ix2 r j) - m (ix2 r (ln j))) * v (ix2 j (vc p c)) := by
  unfold ln
  rw [Finset.sum_congr rfl fun j _ => by rw [← lane4 fun k => m (ix2 r k)]]
  unfold numF pvF vaF vc
  pointwise
  rfl
theorem denF_apply (s m p v) (r : Fin 512) (c : Fin 128) : denF (pvF s m (vaF p v)) (ix2 r c)
    = ∑ j : Fin 512, Ideal.exp2 (s (ix2 r j) - m (ix2 r (ln j))) := by
  unfold ln
  rw [Finset.sum_congr rfl fun j _ => by rw [← lane4 fun k => m (ix2 r k)]]
  unfold denF pvF vaF
  pointwise
  rfl

/-! ## The halves of a tile on the diagonal -/

theorem bits_mask : (Named.named (F := Ideal) (φ := .f32) κ "mask" 0xF149F2CA#32 : EReal) = ⊥ := rfl
theorem sel_tri (r j : Fin 256) (a b : EReal) : Scalar.select (IntOp.cmpi .sle (IntOp.shrui .vector (BitVec.ofNat 32 j) 6#32) (IntOp.shrui .vector (BitVec.ofNat 32 r) 6#32)) a b
    = if j.val / 64 ≤ r.val / 64 then a else b := by
  have e : ∀ r : Fin 256, IntOp.shrui .vector (BitVec.ofNat 32 r) 6#32 = BitVec.ofNat 32 (r.val / 64) := by decide
  have e' : ∀ r j : Fin 4, IntOp.cmpi .sle (BitVec.ofNat 32 j) (BitVec.ofNat 32 r) = if j.val ≤ r.val then 1#1 else 0#1 := by decide
  rw [e, e]
  have := e' ⟨r.val / 64, by omega⟩ ⟨j.val / 64, by omega⟩
  simp only at this
  rw [this]; split_ifs <;> rfl

theorem sa_apply (h qb k) (r : Fin 512) (j : Fin 256) : sa h qb k (ix2 r j) = ∑ x : Fin 256, qb (ix3 0 r x) * k (ix2 (loR j) (kc h x)) := by
  unfold sa kc loR
  pointwise
theorem sb_apply (h qb k) (r j : Fin 256) : sb h qb k (ix2 r j) = ∑ x : Fin 256, qb (ix3 0 (hiR r) x) * k (ix2 (hiR j) (kc h x)) := by
  unfold sb kc hiR
  pointwise
theorem sT_apply (h qb k) (r j : Fin 256) : sT h qb k (ix2 r j)
    = if j.val / 64 ≤ r.val / 64 then ∑ x : Fin 256, qb (ix3 0 (loR r) x) * k (ix2 (loR j) (kc h x)) else ⊥ := by
  rw [← sa_apply, ← sel_tri, ← bits_mask]
  unfold sT loR
  generalize sa h qb k = s
  pointwise [k0_pay205, k0_pay72]
theorem sU_apply (h qb k) (r : Fin 256) (j : Fin 512) : sU h qb k (ix2 r j)
    = if j.val / 64 ≤ (256 + r.val) / 64 then ∑ x : Fin 256, qb (ix3 0 (hiR r) x) * k (ix2 j (kc h x)) else ⊥ := by
  have e : sU h qb k (ix2 r j) = if hj : j.val < 256 then sa h qb k (ix2 (hiR r) ⟨j, hj⟩)
      else if (j.val - 256) / 64 ≤ r.val / 64 then sb h qb k (ix2 r ⟨j.val - 256, by omega⟩) else ⊥ := by
    rw [← bits_mask]
    simp only [← sel_tri r ⟨j.val - 256, by omega⟩]
    unfold sU hiR
    generalize sa h qb k = s
    generalize sb h qb k = s'
    pointwise [k0_pay206, k0_pay72]
  rw [e]
  by_cases h1 : j.val < 256
  · rw [dif_pos h1, if_pos (by omega), sa_apply]; rfl
  · have e2 : hiR ⟨j.val - 256, by omega⟩ = j := Fin.ext (by show 256 + (j.val - 256) = j.val; omega)
    rw [dif_neg h1, sb_apply, e2]
    exact if_congr (by omega) rfl rfl
theorem mxT1_apply (s) (r : Fin 256) (k : Fin 128) : mxT1 s (ix2 r k) = Finset.univ.fold max ⊥ fun j => s (ix2 r j) := by
  rw [← bits_bot]; pointwise [mxT1, mxT]
theorem mxT2_apply (s) (r : Fin 256) (k : Fin 128) : mxT2 s (ix2 r k) = Finset.univ.fold max ⊥ fun j => s (ix2 r j) := by
  rw [← bits_bot]; pointwise [mxT2, mxT]
theorem mxU1_apply (s) (r : Fin 256) (k : Fin 128) : mxU1 s (ix2 r k) = Finset.univ.fold max ⊥ fun j => s (ix2 r j) := by
  rw [← bits_bot]; pointwise [mxU1, mxU]
theorem mxU2_apply (s) (r : Fin 256) (k : Fin 128) : mxU2 s (ix2 r k) = Finset.univ.fold max ⊥ fun j => s (ix2 r j) := by
  rw [← bits_bot]; pointwise [mxU2, mxU]
theorem upH_apply (x) (r : Fin 256) (k : Fin 128) : upH x (ix3 0 r k) = x (ix2 r k) := by pointwise [upH]
theorem downH_apply (x) (r : Fin 256) (k : Fin 128) : downH x (ix2 r k) = x (ix3 0 r k) := by pointwise [downH]
theorem pickH_apply (a b) (r : Fin 256) (k : Fin 128) : pickH a b (ix2 r k) = if k.val < 64 then a (ix2 r k) else b (ix2 r k) := by
  rw [← sel_lt]
  pointwise [pickH]
theorem numT_apply (s m p v) (r : Fin 256) (c : Fin 128) : numH (pvT s m (vaF p v)) (ix2 r c)
    = ∑ j : Fin 256, Ideal.exp2 (s (ix2 r j) - m (ix2 r (ln j))) * v (ix2 (loR j) (vc p c)) := by
  unfold ln
  rw [Finset.sum_congr rfl fun j _ => by rw [← lane2 fun k => m (ix2 r k)]]
  unfold numH pvT vaF vc loR
  pointwise
  rfl
theorem denT_apply (s m p v) (r : Fin 256) (c : Fin 128) : denH (pvT s m (vaF p v)) (ix2 r c)
    = ∑ j : Fin 256, Ideal.exp2 (s (ix2 r j) - m (ix2 r (ln j))) := by
  unfold ln
  rw [Finset.sum_congr rfl fun j _ => by rw [← lane2 fun k => m (ix2 r k)]]
  unfold denH pvT vaF
  pointwise
  rfl
theorem numU_apply (s m p v) (r : Fin 256) (c : Fin 128) : numH (pvU s m (vaF p v)) (ix2 r c)
    = ∑ j : Fin 512, Ideal.exp2 (s (ix2 r j) - m (ix2 r (ln j))) * v (ix2 j (vc p c)) := by
  unfold ln
  rw [Finset.sum_congr rfl fun j _ => by rw [← lane4 fun k => m (ix2 r k)]]
  unfold numH pvU vaF vc
  pointwise
  rfl
theorem denU_apply (s m p v) (r : Fin 256) (c : Fin 128) : denH (pvU s m (vaF p v)) (ix2 r c)
    = ∑ j : Fin 512, Ideal.exp2 (s (ix2 r j) - m (ix2 r (ln j))) := by
  unfold ln
  rw [Finset.sum_congr rfl fun j _ => by rw [← lane4 fun k => m (ix2 r k)]]
  unfold denH pvU vaF
  pointwise
  rfl

end Cert.Flash
-- ==== Proof.FlashState.lean ====
module

public import proofs.«01_k».proof.Proof.FlashRead

@[expose] public section

set_option maxRecDepth 16384

noncomputable section

/-! # The running softmax of the prompt attention

What the buffers stand for, head by head and row by row: the sums of the weights and of the weighted values over the tiles of
keys seen so far. -/

namespace Cert.Flash

open Idealize.ShloMosaic Idealize.ShloMosaic.TcCoe Idealize.ShloMosaic.Tactic
open Idealize.SL Idealize.SL.Sem
open Cert.Kernel4Ideal Cert.Kernel4Ideal.Gen Cert.Online

/-! ## The first tile -/

/-- A first tile's maximum, sum and accumulator stand for the tile's weights and weighted values. -/
theorem St_first {C ι : Type*} [Fintype ι] (s : ι → EReal) (v : ι → C → EReal) (w : ι → C → ℝ) (hs : ∀ k, s k ≠ ⊤)
    (hr : ∃ k, s k ≠ ⊥) (hv : ∀ k c, v k c = (w k c : EReal)) {m l : Fin 128 → EReal} {a : C → EReal} (lane : ι → Fin 128)
    (hm : ∀ k, m k = Finset.univ.fold max ⊥ s) (hl : ∀ k, l k = ∑ x, Ideal.exp2 (s x - m (lane x)))
    (ha : ∀ c, a c = ∑ x, Ideal.exp2 (s x - m (lane x)) * v x c) :
    St m l a (∑ x, wt (s x)) (fun c => ∑ x, wt (s x) * w x c) := by
  have h1 := fold_max_ne_top Finset.univ ⊥ s bot_ne_top hs
  have h2 : Finset.univ.fold max ⊥ s ≠ ⊥ := by
    obtain ⟨k, hk⟩ := hr
    have : s k ≤ Finset.univ.fold max ⊥ s := (Finset.le_fold_max _).2 (Or.inr ⟨k, Finset.mem_univ _, le_rfl⟩)
    exact fun h => hk (le_bot_iff.1 (h ▸ this))
  obtain ⟨μ, hμ⟩ : ∃ μ : ℝ, Finset.univ.fold max ⊥ s = (μ : EReal) := ⟨_, (EReal.coe_toReal h1 h2).symm⟩
  have hm' : ∀ k, m k = (μ : EReal) := fun k => (hm k).trans hμ
  refine ⟨μ, hm', fun k => ?_, fun c => ?_⟩
  · rw [hl]
    simp only [hm']
    rw [Finset.sum_congr rfl fun x _ => exp2_sub (hs x) μ, coe_sum, Finset.mul_sum]
  · rw [ha]
    simp only [hm']
    rw [Finset.sum_congr rfl fun x _ => by rw [exp2_sub (hs x) μ, hv x c, ← EReal.coe_mul], coe_sum, Finset.mul_sum]
    simp only [mul_assoc]

/-! ## Heads and columns -/

/-- The pair of a head, a head's columns among the queries', the values' and its pair's. -/
def pr (h : Fin 8) : Fin 4 := ⟨h / 2, by omega⟩
def hcol (h : Fin 8) (d : Fin 128) : Fin 1024 := ⟨128 * h + d, by omega⟩
def vcol (h : Fin 8) (c : Fin 64) : Fin 512 := ⟨64 * h + c, by omega⟩
def acol (h : Fin 8) (c : Fin 64) : Fin 128 := ⟨64 * (h % 2) + c, by omega⟩

theorem vc_pr (h : Fin 8) (c : Fin 64) : vc (pr h) (acol h c) = vcol h c := Fin.ext (by
  show 128 * (h.val / 2) + (64 * (h.val % 2) + c.val) = 64 * h.val + c.val; omega)
theorem acol_lt (h : Fin 8) (c : Fin 64) : (acol h c).val < 64 ↔ h.val % 2 = 0 := by
  show 64 * (h.val % 2) + c.val < 64 ↔ _; omega
theorem fst_pr (h : Fin 8) (e : h.val % 2 = 0) : fst (pr h) = h := Fin.ext (by show 2 * (h.val / 2) = _; omega)
theorem snd_pr (h : Fin 8) (e : ¬ h.val % 2 = 0) : snd (pr h) = h := Fin.ext (by show 2 * (h.val / 2) + 1 = _; omega)

theorem pickF_head (F : Fin 8 → FVec Ideal S512x128 .f32) (h : Fin 8) (r : Fin 512) (c : Fin 64) :
    pickF (F (fst (pr h))) (F (snd (pr h))) (ix2 r (acol h c)) = F h (ix2 r (acol h c)) := by
  rw [pickF_apply]
  by_cases e : h.val % 2 = 0
  · rw [if_pos ((acol_lt h c).2 e), fst_pr h e]
  · rw [if_neg (fun g => e ((acol_lt h c).1 g)), snd_pr h e]
theorem pickH_head (F : Fin 8 → FVec Ideal S256x128 .f32) (h : Fin 8) (r : Fin 256) (c : Fin 64) :
    pickH (F (fst (pr h))) (F (snd (pr h))) (ix2 r (acol h c)) = F h (ix2 r (acol h c)) := by
  rw [pickH_apply]
  by_cases e : h.val % 2 = 0
  · rw [if_pos ((acol_lt h c).2 e), fst_pr h e]
  · rw [if_neg (fun g => e ((acol_lt h c).1 g)), snd_pr h e]

/-! ## Scores, weights and what the buffers stand for -/

section
variable (qR kR : Fin 512 → Fin 1024 → ℝ) (vR : Fin 512 → Fin 512 → ℝ)

/-- The score of a query against a key. -/
def dotR (h : Fin 8) (r j : Fin 512) : ℝ := ∑ d : Fin 128, qR r (hcol h d) * kR j (hcol h d)
/-- A whole tile's weights and weighted values. -/
def tl (h : Fin 8) (r : Fin 512) : ℝ := ∑ j : Fin 512, (2 : ℝ) ^ dotR qR kR h r j
def ta (h : Fin 8) (r : Fin 512) (c : Fin 64) : ℝ := ∑ j : Fin 512, (2 : ℝ) ^ dotR qR kR h r j * vR j (vcol h c)
/-- The tile's on the diagonal: keys of later chunks than the query's weigh nothing. -/
def dw (h : Fin 8) (r j : Fin 512) : ℝ := if j.val / 64 ≤ r.val / 64 then (2 : ℝ) ^ dotR qR kR h r j else 0
def dl (h : Fin 8) (r : Fin 512) : ℝ := ∑ j : Fin 512, dw qR kR h r j
def da (h : Fin 8) (r : Fin 512) (c : Fin 64) : ℝ := ∑ j : Fin 512, dw qR kR h r j * vR j (vcol h c)

theorem dl_pos (h : Fin 8) (r : Fin 512) : 0 < dl qR kR h r := by
  refine Finset.sum_pos' (fun j _ => ?_) ⟨r, Finset.mem_univ _, ?_⟩
  · unfold dw; split_ifs <;> positivity
  · unfold dw; rw [if_pos le_rfl]; positivity
theorem tl_nonneg (h : Fin 8) (r : Fin 512) : 0 ≤ tl qR kR h r := Finset.sum_nonneg fun j _ => by positivity

/-- The padded queries of the heads. -/
def Padded (Q : Fin 8 → Fin 512 → Fin 256 → EReal) : Prop :=
  ∀ h r x, Q h r x = if x.val / 128 = h.val % 2 then (qR r (kc h x) : EReal) else 0

/-- What the four buffers stand for. -/
structure Good (Q : S8x512x256.Idx → EReal) (M L : S8x512x128.Idx → EReal) (A : S4x512x128.Idx → EReal) (Ls : Fin 8 → Fin 512 → ℝ)
    (As : Fin 8 → Fin 512 → Fin 64 → ℝ) : Prop where
  q : Padded qR fun h r x => Q (ix3 h r x)
  st : ∀ h r, St (fun k => M (ix3 h r k)) (fun k => L (ix3 h r k)) (fun c => A (ix3 (pr h) r (acol h c))) (Ls h r) (As h r)
end

section
variable {qR kR : Fin 512 → Fin 1024 → ℝ} {vR : Fin 512 → Fin 512 → ℝ} {k : FVec Ideal S512x1024 .bf16} {v : FVec Ideal S512x512 .bf16}

theorem dot_eq (hk : ∀ r c, k (ix2 r c) = (kR r c : EReal)) {Q : Fin 8 → Fin 512 → Fin 256 → EReal} (hQ : Padded qR Q) (h : Fin 8) (r j : Fin 512) :
    ∑ x : Fin 256, Q h r x * k (ix2 j (kc h x)) = ((dotR qR kR h r j : ℝ) : EReal) := by
  have e : ∀ x : Fin 256, Q h r x * k (ix2 j (kc h x))
      = ((if x.val / 128 = h.val % 2 then qR r (kc h x) * kR j (kc h x) else 0 : ℝ) : EReal) := fun x => by
    rw [hQ, hk]; split_ifs
    · rw [EReal.coe_mul]
    · simp
  rw [Finset.sum_congr rfl fun x _ => e x, coe_sum]
  congr 1
  unfold dotR
  rw [Fin.sum_univ_add (a := 128) (b := 128)]
  have c1 : ∀ x : Fin 128, ((Fin.castAdd 128 x : Fin 256).val / 128 = h.val % 2) = (0 = h.val % 2) := fun x => by
    congr 1; show x.val / 128 = 0; omega
  have c2 : ∀ x : Fin 128, ((Fin.natAdd 128 x : Fin 256).val / 128 = h.val % 2) = (1 = h.val % 2) := fun x => by
    congr 1; show (128 + x.val) / 128 = 1; omega
  rcases Nat.mod_two_eq_zero_or_one h.val with e | e
  · rw [Finset.sum_eq_zero (s := Finset.univ) (f := fun x : Fin 128 => if (Fin.natAdd 128 x : Fin 256).val / 128 = h.val % 2 then _ else (0 : ℝ))
      fun x _ => if_neg (by rw [c2]; omega), add_zero]
    refine Finset.sum_congr rfl fun x _ => ?_
    rw [if_pos (by rw [c1]; omega), show kc h (Fin.castAdd 128 x) = hcol h x from Fin.ext (by show 256 * (h.val / 2) + x.val = 128 * h.val + x.val; omega)]
  · rw [Finset.sum_eq_zero (s := Finset.univ) (f := fun x : Fin 128 => if (Fin.castAdd 128 x : Fin 256).val / 128 = h.val % 2 then _ else (0 : ℝ))
      fun x _ => if_neg (by rw [c1]; omega), zero_add]
    refine Finset.sum_congr rfl fun x _ => ?_
    rw [if_pos (by rw [c2]; omega), show kc h (Fin.natAdd 128 x) = hcol h x from Fin.ext (by show 256 * (h.val / 2) + (128 + x.val) = 128 * h.val + x.val; omega)]

variable (hk : ∀ r c, k (ix2 r c) = (kR r c : EReal)) (hv : ∀ r c, v (ix2 r c) = (vR r c : EReal))
  {qb : Fin 8 → FVec Ideal S1x512x256 .bf16} (hQ : Padded qR fun h r x => qb h (ix3 0 r x))

include hk hQ in
theorem scF_real (h : Fin 8) (r j : Fin 512) : scF h (qb h) k (ix2 r j) = ((dotR qR kR h r j : ℝ) : EReal) :=
  (scF_apply h (qb h) k r j).trans (dot_eq hk hQ h r j)

/-! ## A whole tile -/

include hk hv hQ in
theorem good_B (h : Fin 8) (r : Fin 512) :
    St (fun l => View.canon (list8M (mB qb k)) (ix3 h r l)) (fun l => View.canon (list8M (lB qb k v)) (ix3 h r l))
      (fun c => View.canon (list4A (aB qb k v)) (ix3 (pr h) r (acol h c))) (tl qR kR h r) (ta qR kR vR h r) := by
  have hs := scF_real hk hQ h r
  have em : ∀ l, View.canon (list8M (mB qb k)) (ix3 h r l) = mxF2 (scF h (qb h) k) (ix2 r l) := fun l => by
    rw [canon8M]; unfold mB; rw [upF_apply]
  refine cast ?_ (St_first (fun j => scF h (qb h) k (ix2 r j)) (fun j c => v (ix2 j (vcol h c))) (fun j c => vR j (vcol h c))
    (fun j => by rw [hs]; exact EReal.coe_ne_top _) ⟨r, by rw [hs]; exact EReal.coe_ne_bot _⟩ (fun j c => hv _ _)
    (m := fun l => View.canon (list8M (mB qb k)) (ix3 h r l)) (l := fun l => View.canon (list8M (lB qb k v)) (ix3 h r l))
    (a := fun c => View.canon (list4A (aB qb k v)) (ix3 (pr h) r (acol h c))) ln (fun l => ?_) (fun l => ?_) fun c => ?_)
  · congr 1
    · exact Finset.sum_congr rfl fun j _ => by rw [hs, wt_coe]
    · funext c; exact Finset.sum_congr rfl fun j _ => by rw [hs, wt_coe]
  · rw [em, mxF2_apply]
  · simp only [em]; rw [canon8M]; unfold lB; rw [upF_apply]; exact denF_apply _ _ _ _ _ _
  · simp only [em]; rw [canon4A]; unfold aB; rw [upF_apply, pickF_head (fun h' => numF (pvB qb k v (pr h) h')) h]
    exact (numF_apply _ _ _ _ _ _).trans (Finset.sum_congr rfl fun j _ => by rw [vc_pr])

include hk hv hQ in
theorem good_D {mp lp : Fin 8 → FVec Ideal S1x512x128 .f32} {ap : Fin 4 → FVec Ideal S1x512x128 .f32} {Ls : Fin 8 → Fin 512 → ℝ}
    {As : Fin 8 → Fin 512 → Fin 64 → ℝ} (h : Fin 8) (r : Fin 512)
    (g : St (fun l => mp h (ix3 0 r l)) (fun l => lp h (ix3 0 r l)) (fun c => ap (pr h) (ix3 0 r (acol h c))) (Ls h r) (As h r)) :
    St (fun l => View.canon (list8M fun h => mD (qb h) (mp h) k h) (ix3 h r l))
      (fun l => View.canon (list8M fun h => lD (qb h) (mp h) (lp h) k v h) (ix3 h r l))
      (fun c => View.canon (list4A fun p => aD (qb (fst p)) (qb (snd p)) (mp (fst p)) (mp (snd p)) (ap p) k v p) (ix3 (pr h) r (acol h c)))
      (Ls h r + tl qR kR h r) (fun c => As h r c + ta qR kR vR h r c) := by
  have hs := scF_real hk hQ h r
  have em : ∀ l, View.canon (list8M fun h => mD (qb h) (mp h) k h) (ix3 h r l) = mnF (mp h) (scF h (qb h) k) (ix2 r l) := fun l => by
    rw [canon8M]; unfold mD; rw [upF_apply]
  refine cast ?_ (St.step g (fun j => scF h (qb h) k (ix2 r j)) (fun j c => v (ix2 j (vcol h c))) (fun j c => vR j (vcol h c))
    (fun j => by rw [hs]; exact EReal.coe_ne_top _) (fun j c => hv _ _)
    (m' := fun l => View.canon (list8M fun h => mD (qb h) (mp h) k h) (ix3 h r l))
    (l' := fun l => View.canon (list8M fun h => lD (qb h) (mp h) (lp h) k v h) (ix3 h r l))
    (a' := fun c => View.canon (list4A fun p => aD (qb (fst p)) (qb (snd p)) (mp (fst p)) (mp (snd p)) (ap p) k v p) (ix3 (pr h) r (acol h c)))
    ln (acol h) (fun l => ?_) (fun l => ?_) fun c => ?_)
  · congr 1
    · exact congrArg (Ls h r + ·) (Finset.sum_congr rfl fun j _ => by rw [hs, wt_coe])
    · funext c; exact congrArg (As h r c + ·) (Finset.sum_congr rfl fun j _ => by rw [hs, wt_coe])
  · rw [em, ← mxF1_apply _ r l, ← downF_apply (mp h) r l]; rfl
  · simp only [em]; rw [canon8M]; unfold lD
    rw [upF_apply, ← downF_apply (mp h) r l, ← downF_apply (lp h) r l]
    exact congrArg (_ + ·) (denF_apply _ _ _ _ _ l)
  · simp only [em]; rw [canon4A]; unfold aD
    rw [upF_apply, ← downF_apply (mp h) r, ← downF_apply (ap (pr h)) r]
    refine Eq.trans (congrArg₂ (· + ·) (congrArg (_ * ·) (pickF_head (fun h' => alF (mp h') (scF h' (qb h') k)) h r c))
      (pickF_head (fun h' => numF (pvD (qb h') (mp h') k v (pr h) h')) h r c)) ?_
    refine congrArg₂ (· + ·) rfl ((numF_apply _ _ _ _ _ _).trans (Finset.sum_congr rfl fun j _ => by rw [vc_pr]))

/-! ## A tile on the diagonal -/

include hk hQ in
theorem sT_real (h : Fin 8) (r j : Fin 256) : sT h (qb h) k (ix2 r j)
    = if j.val / 64 ≤ r.val / 64 then ((dotR qR kR h (loR r) (loR j) : ℝ) : EReal) else ⊥ := by
  rw [sT_apply]
  split_ifs
  · exact dot_eq hk hQ h (loR r) (loR j)
  · rfl
include hk hQ in
theorem sU_real (h : Fin 8) (r : Fin 256) (j : Fin 512) : sU h (qb h) k (ix2 r j)
    = if j.val / 64 ≤ (256 + r.val) / 64 then ((dotR qR kR h (hiR r) j : ℝ) : EReal) else ⊥ := by
  rw [sU_apply]
  split_ifs
  · exact dot_eq hk hQ h (hiR r) j
  · rfl

theorem sum_lo (h : Fin 8) (r : Fin 256) (f : Fin 512 → ℝ) :
    ∑ j : Fin 512, dw qR kR h (loR r) j * f j = ∑ j : Fin 256, dw qR kR h (loR r) (loR j) * f (loR j) := by
  rw [Fin.sum_univ_add (a := 256) (b := 256), Finset.sum_eq_zero (s := Finset.univ)
    (f := fun j : Fin 256 => dw qR kR h (loR r) (Fin.natAdd 256 j) * f (Fin.natAdd 256 j)), add_zero]
  · rfl
  · intro j _
    unfold dw
    rw [if_neg, zero_mul]
    show ¬ (256 + j.val) / 64 ≤ r.val / 64
    omega

include hk hQ in
theorem wT (h : Fin 8) (r j : Fin 256) : wt (sT h (qb h) k (ix2 r j)) = dw qR kR h (loR r) (loR j) := by
  rw [sT_real hk hQ]
  unfold dw
  show wt _ = if j.val / 64 ≤ r.val / 64 then _ else _
  split_ifs
  · exact wt_coe _
  · exact wt_bot
include hk hQ in
theorem wU (h : Fin 8) (r : Fin 256) (j : Fin 512) : wt (sU h (qb h) k (ix2 r j)) = dw qR kR h (hiR r) j := by
  rw [sU_real hk hQ]
  unfold dw
  show wt _ = if j.val / 64 ≤ (256 + r.val) / 64 then _ else _
  split_ifs
  · exact wt_coe _
  · exact wt_bot

include hk hQ in
theorem sums_T (h : Fin 8) (r : Fin 256) : ∑ j, wt (sT h (qb h) k (ix2 r j)) = dl qR kR h (loR r) ∧
    (fun c => ∑ j, wt (sT h (qb h) k (ix2 r j)) * vR (loR j) (vcol h c)) = da qR kR vR h (loR r) := by
  refine ⟨?_, funext fun c => ?_⟩
  · have := sum_lo (qR := qR) (kR := kR) h r fun _ => 1
    simp only [mul_one] at this
    unfold dl; rw [this]
    exact Finset.sum_congr rfl fun j _ => wT hk hQ h r j
  · unfold da; rw [sum_lo h r fun j => vR j (vcol h c)]
    exact Finset.sum_congr rfl fun j _ => by rw [wT hk hQ]
include hk hQ in
theorem sums_U (h : Fin 8) (r : Fin 256) : ∑ j, wt (sU h (qb h) k (ix2 r j)) = dl qR kR h (hiR r) ∧
    (fun c => ∑ j, wt (sU h (qb h) k (ix2 r j)) * vR j (vcol h c)) = da qR kR vR h (hiR r) :=
  ⟨Finset.sum_congr rfl fun j _ => wU hk hQ h r j, funext fun c => Finset.sum_congr rfl fun j _ => by rw [wU hk hQ]⟩

include hk hQ in
theorem sT_ne (h : Fin 8) (r j : Fin 256) : sT h (qb h) k (ix2 r j) ≠ ⊤ := by
  rw [sT_real hk hQ]; split_ifs
  · exact EReal.coe_ne_top _
  · exact bot_ne_top
include hk hQ in
theorem sU_ne (h : Fin 8) (r : Fin 256) (j : Fin 512) : sU h (qb h) k (ix2 r j) ≠ ⊤ := by
  rw [sU_real hk hQ]; split_ifs
  · exact EReal.coe_ne_top _
  · exact bot_ne_top

include hk hv hQ in
theorem first_T (h : Fin 8) (r : Fin 256) : ∃ m, St m (fun l => lAT qb k v h (ix3 0 r l)) (fun c => aAT qb k v (pr h) (ix3 0 r (acol h c)))
    (dl qR kR h (loR r)) (da qR kR vR h (loR r)) := by
  rw [← (sums_T (vR := vR) hk hQ h r).1, ← (sums_T hk hQ h r).2]
  refine ⟨fun l => mxT2 (sT h (qb h) k) (ix2 r l), St_first (fun j => sT h (qb h) k (ix2 r j)) (fun j c => v (ix2 (loR j) (vcol h c)))
    (fun j c => vR (loR j) (vcol h c)) (sT_ne hk hQ h r) ⟨r, ?_⟩ (fun j c => hv _ _) ln (fun l => mxT2_apply _ _ _) (fun l => ?_) fun c => ?_⟩
  · rw [sT_real hk hQ, if_pos le_rfl]; exact EReal.coe_ne_bot _
  · unfold lAT; rw [upH_apply]; exact denT_apply _ _ _ _ _ _
  · unfold aAT
    rw [upH_apply, pickH_head (fun h' => numH (pvT (sT h' (qb h') k) (mxT2 (sT h' (qb h') k)) (vaF (pr h) v))) h]
    exact (numT_apply _ _ _ _ _ _).trans (Finset.sum_congr rfl fun j _ => by rw [vc_pr])
include hk hv hQ in
theorem first_U (h : Fin 8) (r : Fin 256) : ∃ m, St m (fun l => lAU qb k v h (ix3 0 r l)) (fun c => aAU qb k v (pr h) (ix3 0 r (acol h c)))
    (dl qR kR h (hiR r)) (da qR kR vR h (hiR r)) := by
  rw [← (sums_U (vR := vR) hk hQ h r).1, ← (sums_U hk hQ h r).2]
  refine ⟨fun l => mxU2 (sU h (qb h) k) (ix2 r l), St_first (fun j => sU h (qb h) k (ix2 r j)) (fun j c => v (ix2 j (vcol h c)))
    (fun j c => vR j (vcol h c)) (sU_ne hk hQ h r) ⟨hiR r, ?_⟩ (fun j c => hv _ _) ln (fun l => mxU2_apply _ _ _) (fun l => ?_) fun c => ?_⟩
  · rw [sU_real hk hQ, if_pos (show (hiR r).val / 64 ≤ (256 + r.val) / 64 from le_rfl)]; exact EReal.coe_ne_bot _
  · unfold lAU; rw [upH_apply]; exact denU_apply _ _ _ _ _ _
  · unfold aAU
    rw [upH_apply, pickH_head (fun h' => numH (pvU (sU h' (qb h') k) (mxU2 (sU h' (qb h') k)) (vaF (pr h) v))) h]
    exact (numU_apply _ _ _ _ _ _).trans (Finset.sum_congr rfl fun j _ => by rw [vc_pr])

section
variable {mp lp : Fin 8 → FVec Ideal S1x256x128 .f32} {ap : Fin 4 → FVec Ideal S1x256x128 .f32} {Ls : ℝ} {As : Fin 64 → ℝ}

include hk hv hQ in
theorem later_T (h : Fin 8) (r : Fin 256)
    (g : St (fun l => mp h (ix3 0 r l)) (fun l => lp h (ix3 0 r l)) (fun c => ap (pr h) (ix3 0 r (acol h c))) Ls As) :
    ∃ m, St m (fun l => lCT qb mp lp k v h (ix3 0 r l)) (fun c => aCT qb mp ap k v (pr h) (ix3 0 r (acol h c)))
      (Ls + dl qR kR h (loR r)) (fun c => As c + da qR kR vR h (loR r) c) := by
  rw [← (sums_T (vR := vR) hk hQ h r).1, ← (sums_T (vR := vR) hk hQ h r).2]
  refine ⟨fun l => mnT (mp h) (sT h (qb h) k) (ix2 r l), St.step g (fun j => sT h (qb h) k (ix2 r j)) (fun j c => v (ix2 (loR j) (vcol h c)))
    (fun j c => vR (loR j) (vcol h c)) (sT_ne hk hQ h r) (fun j c => hv _ _) ln (acol h) (fun l => ?_) (fun l => ?_) fun c => ?_⟩
  · rw [← mxT1_apply _ r l, ← downH_apply (mp h) r l]; rfl
  · unfold lCT
    rw [upH_apply, ← downH_apply (mp h) r l, ← downH_apply (lp h) r l]
    exact congrArg (_ + ·) (denT_apply _ _ _ _ _ l)
  · unfold aCT
    rw [upH_apply, ← downH_apply (mp h) r, ← downH_apply (ap (pr h)) r]
    refine Eq.trans (congrArg₂ (· + ·) (congrArg (_ * ·) (pickH_head (fun h' => alH (mp h') (mnT (mp h') (sT h' (qb h') k))) h r c))
      (pickH_head (fun h' => numH (pvT (sT h' (qb h') k) (mnT (mp h') (sT h' (qb h') k)) (vaF (pr h) v))) h r c)) ?_
    exact congrArg₂ (· + ·) rfl ((numT_apply _ _ _ _ _ _).trans (Finset.sum_congr rfl fun j _ => by rw [vc_pr]))

include hk hv hQ in
theorem later_U (h : Fin 8) (r : Fin 256)
    (g : St (fun l => mp h (ix3 0 r l)) (fun l => lp h (ix3 0 r l)) (fun c => ap (pr h) (ix3 0 r (acol h c))) Ls As) :
    ∃ m, St m (fun l => lCU qb mp lp k v h (ix3 0 r l)) (fun c => aCU qb mp ap k v (pr h) (ix3 0 r (acol h c)))
      (Ls + dl qR kR h (hiR r)) (fun c => As c + da qR kR vR h (hiR r) c) := by
  rw [← (sums_U (vR := vR) hk hQ h r).1, ← (sums_U (vR := vR) hk hQ h r).2]
  refine ⟨fun l => mnU (mp h) (sU h (qb h) k) (ix2 r l), St.step g (fun j => sU h (qb h) k (ix2 r j)) (fun j c => v (ix2 j (vcol h c)))
    (fun j c => vR j (vcol h c)) (sU_ne hk hQ h r) (fun j c => hv _ _) ln (acol h) (fun l => ?_) (fun l => ?_) fun c => ?_⟩
  · rw [← mxU1_apply _ r l, ← downH_apply (mp h) r l]; rfl
  · unfold lCU
    rw [upH_apply, ← downH_apply (mp h) r l, ← downH_apply (lp h) r l]
    exact congrArg (_ + ·) (denU_apply _ _ _ _ _ l)
  · unfold aCU
    rw [upH_apply, ← downH_apply (mp h) r, ← downH_apply (ap (pr h)) r]
    refine Eq.trans (congrArg₂ (· + ·) (congrArg (_ * ·) (pickH_head (fun h' => alH (mp h') (mnU (mp h') (sU h' (qb h') k))) h r c))
      (pickH_head (fun h' => numH (pvU (sU h' (qb h') k) (mnU (mp h') (sU h' (qb h') k)) (vaF (pr h) v))) h r c)) ?_
    exact congrArg₂ (· + ·) rfl ((numU_apply _ _ _ _ _ _).trans (Finset.sum_congr rfl fun j _ => by rw [vc_pr]))
end

end

/-! ## The output -/

theorem half (r : Fin 512) : (∃ r', r = loR r') ∨ ∃ r', r = hiR r' := by
  by_cases h : r.val < 256
  · exact .inl ⟨⟨r, h⟩, rfl⟩
  · exact .inr ⟨⟨r.val - 256, by omega⟩, Fin.ext (by show r.val = 256 + (r.val - 256); omega)⟩

theorem out_apply (l a) (h : Fin 8) (r : Fin 512) (c : Fin 64) : outF l a (pr h) (ix2 r (acol h c))
    = Ideal.div (a (pr h) (ix3 0 r (acol h c))) (l h (ix3 0 r (acol h c))) := by
  have e : outF l a (pr h) (ix2 r (acol h c)) = Ideal.div (downF (a (pr h)) (ix2 r (acol h c)))
      (pickF (downF (l (fst (pr h)))) (downF (l (snd (pr h)))) (ix2 r (acol h c))) := by
    unfold outF
    pointwise
  rw [e, pickF_head (fun h' => downF (l h')), downF_apply, downF_apply]

/-- A block's columns, in four tiles. -/
theorem canon2_in {rest} {f : S512x128.Idx → Elt Ideal .bf16} (o : ℕ) (inb) (r : Fin 512) (k : Fin 512) (k' : Fin 128) (hk : k.val = o + k'.val) :
    View.canon (⟨Rect.unit (s := S512x512) ![0, o] S512x128.size inb, f⟩ :: rest) (ix2 r k) = f (ix2 r k') := by
  have e : ix2 r k = (Rect.unit (s := S512x512) ![0, o] S512x128.size inb).idx (ix2 r k') := funext fun a => Fin.ext (by
    match a with
    | ⟨0, _⟩ => show r.val = 0 + 1 * r.val; omega
    | ⟨1, _⟩ => show k.val = o + 1 * k'.val; omega)
  rw [e]
  exact View.canon_cons_emb _ _ _ _
theorem canon2_out {rest} {f : S512x128.Idx → Elt Ideal .bf16} (o : ℕ) (inb) (r : Fin 512) (k : Fin 512) (hk : k.val < o ∨ o + 128 ≤ k.val) :
    View.canon (⟨Rect.unit (s := S512x512) ![0, o] S512x128.size inb, f⟩ :: rest) (ix2 r k) = View.canon rest (ix2 r k) :=
  View.canon_cons_of_not_mem _ rest fun hm => by
    have h2 := (Rect.mem_set_unit (s := S512x512) (off := ![0, o]) (size := S512x128.size) (inb := inb)).1 hm
    have h1 : o ≤ k.val ∧ k.val < o + 128 := h2 1
    omega
theorem canon2_rec {rest} {f : S512x128.Idx → Elt Ideal .bf16} (p : Fin 4) (o : ℕ) (ho : o = 128 * p.val) (inb) (h : Fin 8) (r : Fin 512) (c : Fin 64)
    (z) (h1 : p = pr h → f (ix2 r (acol h c)) = z) (h2 : p ≠ pr h → View.canon rest (ix2 r (vcol h c)) = z) :
    View.canon (⟨Rect.unit (s := S512x512) ![0, o] S512x128.size inb, f⟩ :: rest) (ix2 r (vcol h c)) = z := by
  have hv : (vcol h c).val = 64 * h.val + c.val := rfl
  have ha : (acol h c).val = 64 * (h.val % 2) + c.val := rfl
  have hp : (pr h).val = h.val / 2 := rfl
  by_cases e : p = pr h
  · exact (canon2_in o inb r (vcol h c) (acol h c) (by subst e; omega)).trans (h1 e)
  · have : p.val ≠ (pr h).val := fun g => e (Fin.ext g)
    exact (canon2_out o inb r (vcol h c) (by omega)).trans (h2 e)
theorem canon4O (f) (h : Fin 8) (r : Fin 512) (c : Fin 64) : View.canon (list4O f) (ix2 r (vcol h c)) = f (pr h) (ix2 r (acol h c)) := by
  unfold list4O
  refine canon2_rec 3 384 rfl _ h r c _ (fun e => by rw [e]) fun n3 => ?_
  refine canon2_rec 2 256 rfl _ h r c _ (fun e => by rw [e]) fun n2 => ?_
  refine canon2_rec 1 128 rfl _ h r c _ (fun e => by rw [e]) fun n1 => ?_
  refine canon2_rec 0 0 rfl _ h r c _ (fun e => by rw [e]) fun n0 => ?_
  exfalso
  revert n0 n1 n2 n3
  revert h
  decide

/-- The output's entry is the quotient of what the two halves' buffers stand for. -/
theorem out_eq (lT lU : Fin 8 → FVec Ideal S1x256x128 .f32) (aT aU : Fin 4 → FVec Ideal S1x256x128 .f32) (Ls : Fin 512 → ℝ) (As : Fin 512 → Fin 64 → ℝ)
    (h : Fin 8) (hL : ∀ r, Ls r ≠ 0)
    (gT : ∀ r, ∃ m, St m (fun l => lT h (ix3 0 r l)) (fun c => aT (pr h) (ix3 0 r (acol h c))) (Ls (loR r)) (As (loR r)))
    (gU : ∀ r, ∃ m, St m (fun l => lU h (ix3 0 r l)) (fun c => aU (pr h) (ix3 0 r (acol h c))) (Ls (hiR r)) (As (hiR r)))
    (r : Fin 512) (c : Fin 64) :
    View.canon (list4O (outF (bkL (list16 lT lU)) (bkA (list8A aT aU)))) (ix2 r (vcol h c)) = ((As r c / Ls r : ℝ) : EReal) := by
  rw [canon4O, out_apply, bkL_apply, bkA_apply]
  rcases half r with ⟨r, rfl⟩ | ⟨r, rfl⟩
  · obtain ⟨m, g⟩ := gT r
    rw [canon16_lo, canon8A_lo]
    exact g.finish (hL _) (acol h c) c
  · obtain ⟨m, g⟩ := gU r
    rw [canon16_hi, canon8A_hi]
    exact g.finish (hL _) (acol h c) c

end Cert.Flash
-- ==== Proof.FlashBlocks.lean ====
module

public import proofs.«01_k».proof.Proof.FlashState
public import proofs.«01_k».proof.Proof.Gen.Kernel4Ideal.Flash
public import Idealize.ShloMosaic.Lib.Pipeline.ValueKit.Geometry
public import Idealize.ShloMosaic.Lib.Pipeline.ValueKit.Point

@[expose] public section

set_option maxRecDepth 16384

noncomputable section

/-! # The blocks of the prompt attention's grid points -/

namespace Cert.Flash

open Idealize.ShloMosaic Idealize.ShloMosaic.TcCoe Idealize.ShloMosaic.Tactic
open Idealize.SL Idealize.SL.Sem
open Cert.Kernel4Ideal Cert.Kernel4Ideal.Gen Cert.Online

/-- The block of queries and the block of keys of a step. -/
def qn (t : ℕ) : ℕ := ([0, 1, 1, 2, 2, 2, 3, 3, 3, 3] : List ℕ).getD (t % 10) 0
def kn (t : ℕ) : ℕ := ([0, 0, 1, 0, 1, 2, 0, 1, 2, 3] : List ℕ).getD (t % 10) 0

theorem points (t : Fin (cfgA 0).N) : t.val < 80 := t.isLt

theorem steps : ∀ t : Fin 80, kn t ≤ qn t ∧ qn t < 4 ∧ (kn t ≠ 0 → t.val ≠ 0 ∧ (t.val - 1) / 10 = t.val / 10 ∧ qn (t.val - 1) = qn t ∧ kn (t.val - 1) + 1 = kn t) := by
  decide

theorem paths : ∀ t : Fin (cfgA 0).N, (P0_0 0 t ↔ kn t.val = 0) ∧ (P0_1 0 t ↔ kn t.val < qn t.val ∧ kn t.val = 0) ∧ (P0_2 0 t ↔ kn t.val < qn t.val ∧ kn t.val ≠ 0) := by
  decide +kernel

theorem idx : ∀ t : Fin (cfgA 0).N, ((cfgA 0).win 0).index t = ![4 * (t.val / 10) + qn t.val, 0] ∧ ((cfgA 0).win 1).index t = ![4 * (t.val / 10) + kn t.val, 0]
    ∧ ((cfgA 0).win 2).index t = ![4 * (t.val / 10) + kn t.val, 0] ∧ ((cfgA 0).win 3).index t = ![4 * (t.val / 10) + qn t.val, 0] := by
  decide +kernel

/-- The row of an array that row `r` of a sequence's block is. -/
def row (b n : ℕ) (r : Fin 512) : Fin 16384 := ⟨(2048 * b + 512 * n + r) % 16384, Nat.mod_lt _ (by decide)⟩

variable (m : (ℓ : Loc nD τ sig) → Buf (Elt Ideal) ℓ) (ρ : Dev nD → PrngReg) (c : Dev nD) (t : Fin (cfgA 0).N)

theorem b0 (r : Fin 512) (x : Fin 1024) : iblk 0 m ρ c 0 t (ix2 r x) = m ((c.tc : Thread nD τ).loc main_arg2) (ix2 (row (t.val / 10) (qn t.val) r) x) := by
  have hp := points t
  have hs := steps t
  have e0 := congrFun (idx t).1 0
  have e1 := congrFun (idx t).1 1
  unfold iblk
  show m ((c.tc : Thread nD τ).loc main_arg2) _ = _
  congr 1
  funext a
  match a with
  | 0 =>
    apply Fin.ext
    show ((cfgA 0).win 0).index t (0 : Fin 2) * 512 + 1 * r.val = (2048 * (t.val / 10) + 512 * qn t.val + r.val) % 16384
    rw [e0]
    show (4 * (t.val / 10) + qn t.val) * 512 + 1 * r.val = _
    omega
  | 1 =>
    apply Fin.ext
    show ((cfgA 0).win 0).index t (1 : Fin 2) * 1024 + 1 * x.val = x.val
    rw [e1]
    show 0 * 1024 + 1 * x.val = x.val
    omega

theorem b1 (r : Fin 512) (x : Fin 1024) : iblk 0 m ρ c 1 t (ix2 r x) = m ((c.tc : Thread nD τ).loc main_arg3) (ix2 (row (t.val / 10) (kn t.val) r) x) := by
  have hp := points t
  have hs := steps t
  have e0 := congrFun (idx t).2.1 0
  have e1 := congrFun (idx t).2.1 1
  unfold iblk
  show m ((c.tc : Thread nD τ).loc main_arg3) _ = _
  congr 1
  funext a
  match a with
  | 0 =>
    apply Fin.ext
    show ((cfgA 0).win 1).index t (0 : Fin 2) * 512 + 1 * r.val = (2048 * (t.val / 10) + 512 * kn t.val + r.val) % 16384
    rw [e0]
    show (4 * (t.val / 10) + kn t.val) * 512 + 1 * r.val = _
    omega
  | 1 =>
    apply Fin.ext
    show ((cfgA 0).win 1).index t (1 : Fin 2) * 1024 + 1 * x.val = x.val
    rw [e1]
    show 0 * 1024 + 1 * x.val = x.val
    omega

theorem b2 (r : Fin 512) (x : Fin 512) : iblk 0 m ρ c 2 t (ix2 r x) = m ((c.tc : Thread nD τ).loc main_arg4) (ix2 (row (t.val / 10) (kn t.val) r) x) := by
  have hp := points t
  have hs := steps t
  have e0 := congrFun (idx t).2.2.1 0
  have e1 := congrFun (idx t).2.2.1 1
  unfold iblk
  show m ((c.tc : Thread nD τ).loc main_arg4) _ = _
  congr 1
  funext a
  match a with
  | 0 =>
    apply Fin.ext
    show ((cfgA 0).win 2).index t (0 : Fin 2) * 512 + 1 * r.val = (2048 * (t.val / 10) + 512 * kn t.val + r.val) % 16384
    rw [e0]
    show (4 * (t.val / 10) + kn t.val) * 512 + 1 * r.val = _
    omega
  | 1 =>
    apply Fin.ext
    show ((cfgA 0).win 2).index t (1 : Fin 2) * 512 + 1 * x.val = x.val
    rw [e1]
    show 0 * 512 + 1 * x.val = x.val
    omega

end Cert.Flash
-- ==== Proof.FlashStep.lean ====
module

public import proofs.«01_k».proof.Proof.FlashBlocks

@[expose] public section

set_option maxRecDepth 16384
set_option maxHeartbeats 1000000

noncomputable section

/-! # One point of the prompt attention's grid

What the buffers and the output stand for after a point, from what the buffers stood for before it: one theorem for each of
the four ways through the kernel's body. -/

namespace Cert.Flash

open Idealize.ShloMosaic Idealize.ShloMosaic.TcCoe Idealize.ShloMosaic.Tactic
open Idealize.SL Idealize.SL.Sem
open Cert.Kernel4Ideal Cert.Kernel4Ideal.Gen Cert.Online

section
variable (m : (ℓ : Loc nD τ sig) → Buf (Elt Ideal) ℓ) (ρ : Dev nD → PrngReg) (c : Dev nD) (t : Fin (cfgA 0).N)
variable (qR kR : Fin 512 → Fin 1024 → ℝ) (vR : Fin 512 → Fin 512 → ℝ)

/-- What the four buffers hold after a point stands for the sums `Ls` and `As`. -/
def After (n : ℕ) (hn : n < (cfgA 0).N) (Ls : Fin 8 → Fin 512 → ℝ) (As : Fin 8 → Fin 512 → Fin 64 → ℝ) : Prop :=
  Good qR (scM0_0.view.read (Elt Ideal) (traj0 0 m ρ c n hn).2.1) (scM0_1.view.read (Elt Ideal) (traj0 0 m ρ c n hn).2.2.1)
    (scM0_2.view.read (Elt Ideal) (traj0 0 m ρ c n hn).2.2.2.1) (scM0_3.view.read (Elt Ideal) (traj0 0 m ρ c n hn).2.2.2.2) Ls As

variable {qR kR vR}
variable (hq : ∀ r x, iblk 0 m ρ c 0 t (ix2 r x) = (qR r x : EReal)) (hk : ∀ r x, iblk 0 m ρ c 1 t (ix2 r x) = (kR r x : EReal))
  (hv : ∀ r x, iblk 0 m ρ c 2 t (ix2 r x) = (vR r x : EReal))

include hq in
theorem padded_q (a : Memref sig .tc .vmem S512x1024 .bf16) : Padded qR fun h r x => bkQ (ldX a (iblk 0 m ρ c 0 t)) h (ix3 0 r x) := fun h r x => by
  show bkQ _ h (ix3 0 r x) = _
  rw [bkQ_apply, qpad_apply, ldX_eq]
  split_ifs
  · exact hq _ _
  · rfl

include hq hk hv in
theorem after_B (q0 : P0_0 0 t) (q1 : P0_1 0 t) : After m ρ c qR t.val t.isLt (tl qR kR) (ta qR kR vR) := by
  unfold After
  rw [traj0_eq, step0_B 0 m ρ c t _ q0 q1]
  dsimp only
  have hQ := padded_q m ρ c t hq (ms0_0 0 t)
  have hk' : ∀ r x, ldX (ms0_1 0 t) (iblk 0 m ρ c 1 t) (ix2 r x) = (kR r x : EReal) := fun r x => by rw [ldX_eq]; exact hk r x
  have hv' : ∀ r x, ldV (ms0_2 0 t) (iblk 0 m ρ c 2 t) (ix2 r x) = (vR r x : EReal) := fun r x => by rw [ldV_eq]; exact hv r x
  refine ⟨fun h r x => ?_, fun h r => ?_⟩
  · refine Eq.trans (congrFun ((congrArg (scM0_0.view.read (Elt Ideal)) (runB_q _ _ _ _ _ _)).trans (View.read_writes_junk_eq_canon (View.whole cc0_scratch0) _)) (ix3 h r x)) ?_
    rw [canon8Q]
    exact (bkQ_apply _ h r x).symm.trans (hQ h r x)
  · refine cast ?_ (good_B hk' hv' hQ h r)
    refine congrFun (congrFun (congr (congr (congrArg St ?_) ?_) ?_) _) _
    · funext l; exact (congrFun ((congrArg (scM0_1.view.read (Elt Ideal)) (runB_m _ _ _ _ _ _)).trans (View.read_writes_junk_eq_canon (View.whole cc0_scratch1) _)) (ix3 h r l)).symm
    · funext l; exact (congrFun ((congrArg (scM0_2.view.read (Elt Ideal)) (runB_l _ _ _ _ _ _)).trans (View.read_writes_junk_eq_canon (View.whole cc0_scratch2) _)) (ix3 h r l)).symm
    · funext l; exact (congrFun ((congrArg (scM0_3.view.read (Elt Ideal)) (runB_a _ _ _ _ _ _)).trans (View.read_writes_junk_eq_canon (View.whole cc0_scratch3) _)) (ix3 (pr h) r (acol h l))).symm

section
variable {Ls : Fin 8 → Fin 512 → ℝ} {As : Fin 8 → Fin 512 → Fin 64 → ℝ} (h0 : t.val ≠ 0)
  (hn : t.val - 1 < (cfgA 0).N) (hp : After m ρ c qR (t.val - 1) hn Ls As)

include h0 hp hk hv in
theorem after_D (q0 : ¬ P0_0 0 t) (q1 : P0_2 0 t) :
    After m ρ c qR t.val t.isLt (fun h r => Ls h r + tl qR kR h r) (fun h r c => As h r c + ta qR kR vR h r c) := by
  unfold After
  rw [traj0_eq, step0_D 0 m ρ c t _ q0 q1]
  dsimp only
  unfold prev0
  rw [dif_neg h0]
  unfold After at hp
  generalize traj0 0 m ρ c (t.val - 1) _ = P at hp ⊢
  obtain ⟨hQ, hS⟩ := hp
  have hk' : ∀ r x, ldX (ms0_1 0 t) (iblk 0 m ρ c 1 t) (ix2 r x) = (kR r x : EReal) := fun r x => by rw [ldX_eq]; exact hk r x
  have hv' : ∀ r x, ldV (ms0_2 0 t) (iblk 0 m ρ c 2 t) (ix2 r x) = (vR r x : EReal) := fun r x => by rw [ldV_eq]; exact hv r x
  have hQ' : Padded qR fun h r x => wQ (scM0_0.view.read (Elt Ideal) P.2.1) h (ix3 0 r x) := fun h r x => (wQ_apply _ h r x).trans (hQ h r x)
  refine ⟨fun h r x => Eq.trans (congrFun (congrArg (scM0_0.view.read (Elt Ideal)) (runD_q _ _ _ _ _ _ _ _ _ _)) (ix3 h r x)) (hQ h r x), fun h r => ?_⟩
  have g := good_D hk' hv' hQ' (mp := wM (scM0_1.view.read (Elt Ideal) P.2.2.1)) (lp := wM (scM0_2.view.read (Elt Ideal) P.2.2.2.1))
    (ap := wA (scM0_3.view.read (Elt Ideal) P.2.2.2.2)) (Ls := Ls) (As := As) h r (by simp only [wM_apply, wA_apply]; exact hS h r)
  refine cast ?_ g
  refine congrFun (congrFun (congr (congr (congrArg St ?_) ?_) ?_) _) _
  · funext l; exact (congrFun ((congrArg (scM0_1.view.read (Elt Ideal)) (runD_m _ _ _ _ _ _ _ _ _ _)).trans (View.read_writes_junk_eq_canon (View.whole cc0_scratch1) _)) (ix3 h r l)).symm
  · funext l; exact (congrFun ((congrArg (scM0_2.view.read (Elt Ideal)) (runD_l _ _ _ _ _ _ _ _ _ _)).trans (View.read_writes_junk_eq_canon (View.whole cc0_scratch2) _)) (ix3 h r l)).symm
  · funext l; exact (congrFun ((congrArg (scM0_3.view.read (Elt Ideal)) (runD_a _ _ _ _ _ _ _ _ _ _)).trans (View.read_writes_junk_eq_canon (View.whole cc0_scratch3) _)) (ix3 (pr h) r (acol h l))).symm

include h0 hp hk hv in
theorem after_C (q0 : ¬ P0_0 0 t) (q1 : ¬ P0_2 0 t) (hL : ∀ h r, Ls h r + dl qR kR h r ≠ 0) (h : Fin 8) (r : Fin 512) (e : Fin 64) :
    (traj0 0 m ρ c t.val t.isLt).1 (ix2 r (vcol h e)) = (((As h r e + da qR kR vR h r e) / (Ls h r + dl qR kR h r) : ℝ) : EReal) := by
  rw [traj0_eq, step0_C 0 m ρ c t _ q0 q1]
  dsimp only
  unfold out0_C_3
  rw [View.read_writes_junk_eq_canon, runC_o]
  unfold prev0
  rw [dif_neg h0]
  unfold After at hp
  generalize traj0 0 m ρ c (t.val - 1) _ = P at hp ⊢
  obtain ⟨hQ, hS⟩ := hp
  have hk' : ∀ r x, ldX (ms0_1 0 t) (iblk 0 m ρ c 1 t) (ix2 r x) = (kR r x : EReal) := fun r x => by rw [ldX_eq]; exact hk r x
  have hv' : ∀ r x, ldV (ms0_2 0 t) (iblk 0 m ρ c 2 t) (ix2 r x) = (vR r x : EReal) := fun r x => by rw [ldV_eq]; exact hv r x
  have hQ' : Padded qR fun h r x => wQ (scM0_0.view.read (Elt Ideal) P.2.1) h (ix3 0 r x) := fun h r x => (wQ_apply _ h r x).trans (hQ h r x)
  exact out_eq _ _ _ _ (fun r => Ls h r + dl qR kR h r) (fun r c => As h r c + da qR kR vR h r c) h (hL h)
    (fun r => later_T hk' hv' hQ' h r (by simp only [wMT_apply, wAT_apply]; exact hS h (loR r)))
    (fun r => later_U hk' hv' hQ' h r (by simp only [wMU_apply, wAU_apply]; exact hS h (hiR r))) r e
end

include hq hk hv in
theorem after_A (q0 : P0_0 0 t) (q1 : ¬ P0_1 0 t) (h : Fin 8) (r : Fin 512) (e : Fin 64) :
    (traj0 0 m ρ c t.val t.isLt).1 (ix2 r (vcol h e)) = ((da qR kR vR h r e / dl qR kR h r : ℝ) : EReal) := by
  rw [traj0_eq, step0_A 0 m ρ c t _ q0 q1]
  dsimp only
  unfold out0_A_3
  rw [View.read_writes_junk_eq_canon, runA_o]
  have hQ := padded_q m ρ c t hq (ms0_0 0 t)
  have hk' : ∀ r x, ldX (ms0_1 0 t) (iblk 0 m ρ c 1 t) (ix2 r x) = (kR r x : EReal) := fun r x => by rw [ldX_eq]; exact hk r x
  have hv' : ∀ r x, ldV (ms0_2 0 t) (iblk 0 m ρ c 2 t) (ix2 r x) = (vR r x : EReal) := fun r x => by rw [ldV_eq]; exact hv r x
  exact out_eq _ _ _ _ (fun r => dl qR kR h r) (fun r c => da qR kR vR h r c) h (fun r => (dl_pos qR kR h r).ne')
    (fun r => first_T hk' hv' hQ h r) (fun r => first_U hk' hv' hQ h r) r e
end

end Cert.Flash
-- ==== Proof.FlashValue.lean ====
module

public import proofs.«01_k».proof.Proof.FlashStep

@[expose] public section

set_option maxRecDepth 16384
set_option maxHeartbeats 1000000

noncomputable section

/-! # What the prompt attention's kernel leaves in its output

Point by point: a sequence's block of queries meets the blocks of keys before it, whole tiles, then the one on the diagonal,
after which the block's rows of the output are written. -/

namespace Cert.Flash

open Idealize.ShloMosaic Idealize.ShloMosaic.TcCoe Idealize.ShloMosaic.Tactic
open Idealize.SL Idealize.SL.Sem
open Idealize.ShloMosaic.Pipeline
open Cert.Kernel4Ideal Cert.Kernel4Ideal.Gen Cert.Online

/-- The rows of a sequence's block. -/
def tile {n : ℕ} (G : Fin 16384 → Fin n → ℝ) (b i : ℕ) : Fin 512 → Fin n → ℝ := fun r => G (row b i r)

section
variable (qG kG : Fin 16384 → Fin 1024 → ℝ) (vG : Fin 16384 → Fin 512 → ℝ)

/-- The weights, and the weighted values, of a sequence's first `n` blocks of keys for a row of its block `i` of queries. -/
def lS (b i n : ℕ) (h : Fin 8) (r : Fin 512) : ℝ := ∑ j ∈ Finset.range n, tl (tile qG b i) (tile kG b j) h r
def aS (b i n : ℕ) (h : Fin 8) (r : Fin 512) (e : Fin 64) : ℝ := ∑ j ∈ Finset.range n, ta (tile qG b i) (tile kG b j) (tile vG b j) h r e
/-- All that a row of block `i` sees. -/
def lA (b i : ℕ) (h : Fin 8) (r : Fin 512) : ℝ := lS qG kG b i i h r + dl (tile qG b i) (tile kG b i) h r
def aA (b i : ℕ) (h : Fin 8) (r : Fin 512) (e : Fin 64) : ℝ := aS qG kG vG b i i h r e + da (tile qG b i) (tile kG b i) (tile vG b i) h r e

theorem lA_pos (b i : ℕ) (h : Fin 8) (r : Fin 512) : 0 < lA qG kG b i h r :=
  add_pos_of_nonneg_of_pos (Finset.sum_nonneg fun _ _ => tl_nonneg _ _ _ _) (dl_pos _ _ _ _)
end

section
variable (m : (ℓ : Loc nD τ sig) → Buf (Elt Ideal) ℓ) (ρ : Dev nD → PrngReg) (c : Dev nD)
variable {qG kG : Fin 16384 → Fin 1024 → ℝ} {vG : Fin 16384 → Fin 512 → ℝ}
variable (h2 : ∀ R x, m ((c.tc : Thread nD τ).loc main_arg2) (ix2 R x) = (qG R x : EReal))
  (h3 : ∀ R x, m ((c.tc : Thread nD τ).loc main_arg3) (ix2 R x) = (kG R x : EReal))
  (h4 : ∀ R x, m ((c.tc : Thread nD τ).loc main_arg4) (ix2 R x) = (vG R x : EReal))
include h2 h3 h4

theorem after_point (n : ℕ) : ∀ hn : n < (cfgA 0).N, kn n < qn n →
    After m ρ c (tile qG (n / 10) (qn n)) n hn (lS qG kG (n / 10) (qn n) (kn n + 1)) (aS qG kG vG (n / 10) (qn n) (kn n + 1)) := by
  induction n using Nat.strong_induction_on with
  | _ n ih =>
  intro hn hlt
  have hq : ∀ r x, iblk 0 m ρ c 0 ⟨n, hn⟩ (ix2 r x) = (tile qG (n / 10) (qn n) r x : EReal) := fun r x => (b0 m ρ c ⟨n, hn⟩ r x).trans (h2 _ _)
  have hk : ∀ r x, iblk 0 m ρ c 1 ⟨n, hn⟩ (ix2 r x) = (tile kG (n / 10) (kn n) r x : EReal) := fun r x => (b1 m ρ c ⟨n, hn⟩ r x).trans (h3 _ _)
  have hv : ∀ r x, iblk 0 m ρ c 2 ⟨n, hn⟩ (ix2 r x) = (tile vG (n / 10) (kn n) r x : EReal) := fun r x => (b2 m ρ c ⟨n, hn⟩ r x).trans (h4 _ _)
  obtain ⟨p0, p1, p2⟩ := paths ⟨n, hn⟩
  by_cases hz : kn n = 0
  · have e1 : lS qG kG (n / 10) (qn n) (kn n + 1) = tl (tile qG (n / 10) (qn n)) (tile kG (n / 10) (kn n)) := by
      funext h r; rw [hz]; unfold lS; rw [Finset.sum_range_one]
    have e2 : aS qG kG vG (n / 10) (qn n) (kn n + 1) = ta (tile qG (n / 10) (qn n)) (tile kG (n / 10) (kn n)) (tile vG (n / 10) (kn n)) := by
      funext h r e; rw [hz]; unfold aS; rw [Finset.sum_range_one]
    rw [e1, e2]
    exact after_B m ρ c ⟨n, hn⟩ hq hk hv (p0.2 hz) (p1.2 ⟨hlt, hz⟩)
  · obtain ⟨s1, s2, s3, s4⟩ := (steps ⟨n, hn⟩).2.2 hz
    dsimp only at s1 s2 s3 s4
    have hp := ih (n - 1) (by omega) (by omega) (by omega)
    rw [s2, s3, s4] at hp
    have e1 : lS qG kG (n / 10) (qn n) (kn n + 1) = fun h r => lS qG kG (n / 10) (qn n) (kn n) h r + tl (tile qG (n / 10) (qn n)) (tile kG (n / 10) (kn n)) h r := by
      funext h r; unfold lS; rw [Finset.sum_range_succ]
    have e2 : aS qG kG vG (n / 10) (qn n) (kn n + 1)
        = fun h r e => aS qG kG vG (n / 10) (qn n) (kn n) h r e + ta (tile qG (n / 10) (qn n)) (tile kG (n / 10) (kn n)) (tile vG (n / 10) (kn n)) h r e := by
      funext h r e; unfold aS; rw [Finset.sum_range_succ]
    rw [e1, e2]
    exact after_D m ρ c ⟨n, hn⟩ hk hv s1 _ hp (fun p => hz (p0.1 p)) (p2.2 ⟨hlt, hz⟩)

theorem out_point (t : Fin (cfgA 0).N) (hkq : kn t.val = qn t.val) (h : Fin 8) (r : Fin 512) (e : Fin 64) :
    (traj0 0 m ρ c t.val t.isLt).1 (ix2 r (vcol h e))
      = ((aA qG kG vG (t.val / 10) (qn t.val) h r e / lA qG kG (t.val / 10) (qn t.val) h r : ℝ) : EReal) := by
  have hq : ∀ r x, iblk 0 m ρ c 0 t (ix2 r x) = (tile qG (t.val / 10) (qn t.val) r x : EReal) := fun r x => (b0 m ρ c t r x).trans (h2 _ _)
  have hk : ∀ r x, iblk 0 m ρ c 1 t (ix2 r x) = (tile kG (t.val / 10) (qn t.val) r x : EReal) := fun r x => by
    rw [← hkq]; exact (b1 m ρ c t r x).trans (h3 _ _)
  have hv : ∀ r x, iblk 0 m ρ c 2 t (ix2 r x) = (tile vG (t.val / 10) (qn t.val) r x : EReal) := fun r x => by
    rw [← hkq]; exact (b2 m ρ c t r x).trans (h4 _ _)
  obtain ⟨p0, p1, p2⟩ := paths t
  by_cases hz : kn t.val = 0
  · refine (after_A m ρ c t hq hk hv (p0.2 hz) (fun p => by have := p1.1 p; omega) h r e).trans ?_
    unfold aA lA aS lS
    rw [← hkq, hz, Finset.range_zero, Finset.sum_empty, Finset.sum_empty, zero_add, zero_add]
  · obtain ⟨s1, s2, s3, s4⟩ := (steps t).2.2 hz
    have hp := after_point m ρ c h2 h3 h4 (t.val - 1) (Nat.lt_of_le_of_lt (Nat.sub_le _ _) t.isLt) (by omega)
    rw [s2, s3, s4, hkq] at hp
    exact after_C m ρ c t hk hv s1 _ hp (fun p => hz (p0.1 p)) (fun p => by have := p2.1 p; omega)
      (fun h r => (lA_pos qG kG (t.val / 10) (qn t.val) h r).ne') h r e

end

/-! ## The array -/

theorem flushes : ∀ t : Fin (cfgA 0).N, ((cfgA 0).win 3).flush t = true ↔ kn t.val = qn t.val := by decide +kernel
theorem rows_differ : ∀ t t' : Fin 80, kn t = qn t → kn t' = qn t' → 4 * (t.val / 10) + qn t = 4 * (t'.val / 10) + qn t' → t = t' := by decide +kernel
theorem apart (t t' : Fin (cfgA 0).N) (hf : ((cfgA 0).win 3).flush t = true) (hf' : ((cfgA 0).win 3).flush t' = true)
    (e : ((cfgA 0).win 3).index t = ((cfgA 0).win 3).index t') : t = t' := by
  have e0 := congrFun e 0
  rw [congrFun (idx t).2.2.2 0, congrFun (idx t').2.2.2 0] at e0
  exact rows_differ t t' ((flushes t).1 hf) ((flushes t').1 hf') e0

/-- The point at which a sequence's block of queries is done. -/
def done (b : Fin 8) (i : Fin 4) : Fin (cfgA 0).N := ⟨10 * b.val + i.val * (i.val + 3) / 2, by
  show _ < 80
  have : i.val * (i.val + 3) / 2 < 10 := by revert i; decide
  omega⟩
theorem done_eq : ∀ (b : Fin 8) (i : Fin 4), (done b i).val / 10 = b.val ∧ qn (done b i).val = i.val ∧ kn (done b i).val = i.val := by decide +kernel

section
variable (m : (ℓ : Loc nD τ sig) → Buf (Elt Ideal) ℓ) (ρ : Dev nD → PrngReg) (c : Dev nD)
variable {qG kG : Fin 16384 → Fin 1024 → ℝ} {vG : Fin 16384 → Fin 512 → ℝ}
variable (h2 : ∀ R x, m ((c.tc : Thread nD τ).loc main_arg2) (ix2 R x) = (qG R x : EReal))
  (h3 : ∀ R x, m ((c.tc : Thread nD τ).loc main_arg3) (ix2 R x) = (kG R x : EReal))
  (h4 : ∀ R x, m ((c.tc : Thread nD τ).loc main_arg4) (ix2 R x) = (vG R x : EReal))
include h2 h3 h4

theorem result (b : Fin 8) (i : Fin 4) (r : Fin 512) (h : Fin 8) (e : Fin 64) :
    (dats 0 m ρ 0 c).arrAt 3 (cfgA 0).N (ix2 (row b i r) (vcol h e))
      = ((aA qG kG vG b i h r e / lA qG kG b i h r : ℝ) : EReal) := by
  obtain ⟨d1, d2, d3⟩ := done_eq b i
  have hf := (flushes (done b i)).2 (d3.trans d2.symm)
  have key := congrFun ((dats 0 m ρ 0 c).read_blk_arrAt_eq_flushed 3 (Window.hdisj_of_index_inj _ apart) (cfgA 0).N (done b i) (done b i).isLt hf) (ix2 r (vcol h e))
  have out := out_point m ρ c h2 h3 h4 (done b i) (d3.trans d2.symm) h r e
  rw [d1, d2] at out
  have e0 := congrFun (idx (done b i)).2.2.2 0
  have e1 := congrFun (idx (done b i)).2.2.2 1
  refine Eq.trans ?_ (key.trans (Eq.trans ?_ out))
  · show _ = (dats 0 m ρ 0 c).arrAt 3 (cfgA 0).N _
    congr 1
    funext a
    match a with
    | 0 =>
      apply Fin.ext
      show (2048 * b.val + 512 * i.val + r.val) % 16384 = ((cfgA 0).win 3).index (done b i) (0 : Fin 2) * 512 + 1 * r.val
      rw [e0]
      show _ = (4 * ((done b i).val / 10) + qn (done b i).val) * 512 + 1 * r.val
      rw [d1, d2]
      omega
    | 1 =>
      apply Fin.ext
      show (vcol h e).val = ((cfgA 0).win 3).index (done b i) (1 : Fin 2) * 512 + 1 * (vcol h e).val
      rw [e1]
      show (vcol h e).val = 0 * 512 + 1 * (vcol h e).val
      omega
  · rfl

end

end Cert.Flash
-- ==== Proof.RefFlash.lean ====
module

public import proofs.«01_k».proof.Proof.Gen.Reference4Ideal.Read
public import proofs.«01_k».proof.Proof.Online
public import Idealize.ShloMosaic.Lib.Pointwise

@[expose] public section

set_option maxRecDepth 16384
set_option maxHeartbeats 1000000

noncomputable section

/-! # What the prompt attention's reference computes -/

namespace Cert.Reference4Ideal.Attend

open Idealize.ShloMosaic Idealize.ShloMosaic.TcCoe Idealize.ShloMosaic.Tactic
open Cert.Reference4Ideal Cert.Reference4Ideal.Gen Cert.Reference4Ideal.Read

/-! ## The mask -/

theorem chunk_key (k : Fin 2048) : val_main_v11 (F := Ideal) (ix1 k) = BitVec.ofNat 32 (k.val / 64) := by
  simp only [val_main_v11_apply, val_main_call0_v0_apply, val_main_call0_v1_apply, val_main_call0_v2_apply, val_main_call0_v5_apply, val_main_call0_v6_apply, val_main_call0_v7_apply, val_main_call0_v8_apply, val_main_call0_c_apply, val_main_call0_v9_apply, val_main_call0_v10_apply, val_main_call0_v11_apply, val_main_call0_c_0_apply, val_main_call0_v12_apply, val_main_call0_v13_apply, val_main_call0_v3, val_main_call0_v4, signi, val_main_v6_apply, val_main_c_apply]
  revert k
  decide +kernel

theorem chunk_query (q : Fin 2048) : val_main_v13 (F := Ideal) (ix1 q) = BitVec.ofNat 32 (q.val / 64) := by
  simp only [val_main_v13_apply, val_main_call1_v0_apply, val_main_call1_v1_apply, val_main_call1_v2_apply, val_main_call1_v5_apply, val_main_call1_v6_apply, val_main_call1_v7_apply, val_main_call1_v8_apply, val_main_call1_c_apply, val_main_call1_v9_apply, val_main_call1_v10_apply, val_main_call1_v11_apply, val_main_call1_c_0_apply, val_main_call1_v12_apply, val_main_call1_v13_apply, val_main_call1_v3, val_main_call1_v4, signi, val_main_v6_apply, val_main_c_0_apply]
  revert q
  decide +kernel

theorem chunk_le : ∀ a b : Fin 32, IntOp.cmpi .sle (BitVec.ofNat 32 a.val) (BitVec.ofNat 32 b.val) = if a.val ≤ b.val then 1#1 else 0#1 := by decide +kernel

theorem mask (q k : Fin 2048) : val_main_v17 (F := Ideal) (ix2 q k) = if k.val / 64 ≤ q.val / 64 then 1#1 else 0#1 := by
  pointwise [val_main_v17, val_main_v16, val_main_v15, val_main_v14, val_main_v12]
  rw [chunk_query, chunk_key]
  exact chunk_le ⟨k.val / 64, by omega⟩ ⟨q.val / 64, by omega⟩

/-! ## The scores -/

/-- A sequence's row, and a head's columns among the queries' and the values'. -/
def pos (b : Fin 8) (q : Fin 2048) : Fin 16384 := ⟨b.val * 2048 + q.val, by omega⟩
def hc (h : Fin 8) (d : Fin 128) : Fin 1024 := ⟨h.val * 128 + d.val, by omega⟩
def vcl (h : Fin 8) (e : Fin 64) : Fin 512 := ⟨h.val * 64 + e.val, by omega⟩

variable (x2 x3 : (⟨S16384x1024, .bf16⟩ : BufTy).Contents (Elt Ideal)) (x4 : (⟨S16384x512, .bf16⟩ : BufTy).Contents (Elt Ideal))

theorem v7 (b h : Fin 8) (q k : Fin 2048) : val_main_v7 (F := Ideal) x2 x3 (ix4 b h q k)
    = (∑ d : Fin 128, x2 (ix2 (pos b q) (hc h d)) * x3 (ix2 (pos b k) (hc h d)) : EReal) := by
  rw [val_main_v7_apply]
  refine Finset.sum_congr rfl fun d _ => congrArg₂ (· * ·) ?_ ?_
  · pointwise [val_main_v1, val_main_v0]
    rfl
  · pointwise [val_main_v3, val_main_v2]
    rfl

theorem v10 (b h : Fin 8) (q k : Fin 2048) : val_main_v10 (F := Ideal) x2 x3 (ix4 b h q k)
    = (val_main_v7 (F := Ideal) x2 x3 (ix4 b h q k) * ((Real.log 2 : ℝ) : EReal) : EReal) := by
  pointwise [val_main_v10, val_main_v9, val_main_v8, val_main_cst]
  rw [show Ideal.ofBits FTy.f32 1073741824#32 = ((2 : ℝ) : EReal) by
    simp [Ideal.ofBits, Ideal.ieee, -EReal.coe_mul]; norm_num, Ideal.log_coe, if_neg (by norm_num)]

theorem v18 (b h : Fin 8) (q k : Fin 2048) : val_main_v18 (F := Ideal) x2 x3 (ix4 b h q k)
    = if k.val / 64 ≤ q.val / 64 then val_main_v10 (F := Ideal) x2 x3 (ix4 b h q k) else (⊥ : EReal) := by
  rw [val_main_v18_apply, val_main_call2_v1_apply, show idx_main_call2_v1 (ix4 b h q k) = ix2 q k from funext fun a => by
      match a with
      | ⟨0, _⟩ => rfl
      | ⟨1, _⟩ => rfl, mask, val_main_call2_v2_apply, val_main_call2_v0_apply, val_main_cst_1_apply]
  split_ifs
  · rfl
  · show Ideal.ofBits FTy.f32 4286578688#32 = ⊥
    simp [Ideal.ofBits, Ideal.ieee]

/-! ## The maximum -/

theorem max_is_real {n : ℕ} (f : Fin n → EReal) (hf : ∀ k, f k ≠ ⊤) (hr : ∃ k, f k ≠ ⊥) :
    ∃ M : ℝ, (Finset.univ : Finset (Fin n)).fold max ⊥ f = (M : EReal) := by
  have h1 := Online.fold_max_ne_top (Finset.univ : Finset (Fin n)) ⊥ f bot_ne_top hf
  have h2 : (Finset.univ : Finset (Fin n)).fold max ⊥ f ≠ ⊥ := by
    obtain ⟨k, hk⟩ := hr
    have : f k ≤ (Finset.univ : Finset (Fin n)).fold max ⊥ f := (Finset.le_fold_max _).2 (Or.inr ⟨k, Finset.mem_univ _, le_rfl⟩)
    exact fun h => hk (le_bot_iff.1 (h ▸ this))
  exact ⟨_, (EReal.coe_toReal h1 h2).symm⟩

theorem v21_real (hf : ∀ b h q k, val_main_v18 (F := Ideal) x2 x3 (ix4 b h q k) ≠ (⊤ : EReal))
    (hr : ∀ b h q, val_main_v18 (F := Ideal) x2 x3 (ix4 b h q q) ≠ (⊥ : EReal)) (b h : Fin 8) (q : Fin 2048) :
    ∃ M : ℝ, val_main_v21 (F := Ideal) x2 x3 (ix3 b h q) = (M : EReal) := by
  have hb : val_main_v20 (F := Ideal) (ix3 b h q) = (⊥ : EReal) := by
    rw [val_main_v20_apply, val_main_cst_3_apply]
    simp [FloatOps.ofBits, Ideal.ofBits, Ideal.ieee]
  have hb' : val_main_cst_2 (F := Ideal) (Shape.Idx.first h_S_) = (⊥ : EReal) := by
    rw [val_main_cst_2_apply]
    simp [FloatOps.ofBits, Ideal.ofBits, Ideal.ieee]
  have hi : ∀ i : S8x8x2048x2048.Idx, i = ix4 (i 0) (i 1) (i 2) (i 3) := fun i => funext fun a => by
    match a with
    | ⟨0, _⟩ => rfl
    | ⟨1, _⟩ => rfl
    | ⟨2, _⟩ => rfl
    | ⟨3, _⟩ => rfl
  have hR : S8x8x2048x2048.Reduces [3] S8x8x2048 := by decide
  have hl : hR.lift (ix3 b h q) q = ix4 b h q q := funext fun a => Fin.ext (by
    match a with
    | ⟨0, _⟩ => rfl
    | ⟨1, _⟩ => rfl
    | ⟨2, _⟩ => rfl
    | ⟨3, _⟩ => rfl)
  have hm : ∃ M : ℝ, val_main_v19 (F := Ideal) x2 x3 (ix3 b h q) = (M : EReal) := by
    unfold val_main_v19
    generalize val_main_v18 (F := Ideal) x2 x3 = y at hf hr
    generalize val_main_cst_2 (F := Ideal) = z at hb'
    have e := Host.reduce_eq_fold_single (α := EReal) max y z reducesTo_S8x8x2048x2048_S8x8x2048_d3 hR h_S_ (ix3 b h q)
    rw [hb'] at e
    obtain ⟨M, hM⟩ := max_is_real (y ∘ hR.lift (ix3 b h q))
      (fun k => (congrArg y (hi (hR.lift (ix3 b h q) k))).trans_ne (hf _ _ _ _)) ⟨q, (congrArg y hl).trans_ne (hr b h q)⟩
    exact ⟨M, Eq.trans e hM⟩
  obtain ⟨M, hM⟩ := hm
  refine ⟨M, ?_⟩
  rw [val_main_v21_apply, hb, hM]
  exact max_eq_right bot_le

/-! ## The result -/

section
variable (qG kG : Fin 16384 → Fin 1024 → ℝ) (vG : Fin 16384 → Fin 512 → ℝ)

def D (b h : Fin 8) (q k : Fin 2048) : ℝ := ∑ d : Fin 128, qG (pos b q) (hc h d) * kG (pos b k) (hc h d)
def W (b h : Fin 8) (q k : Fin 2048) : ℝ := if k.val / 64 ≤ q.val / 64 then (2 : ℝ) ^ D qG kG b h q k else 0

theorem W_pos (b h : Fin 8) (q : Fin 2048) : 0 < ∑ k, W qG kG b h q k := by
  refine Finset.sum_pos' (fun k _ => ?_) ⟨q, Finset.mem_univ _, ?_⟩
  · unfold W; split_ifs <;> positivity
  · unfold W; rw [if_pos le_rfl]; positivity

variable (h2 : ∀ R x, x2 (ix2 R x) = ((qG R x : ℝ) : EReal)) (h3 : ∀ R x, x3 (ix2 R x) = ((kG R x : ℝ) : EReal))
  (h4 : ∀ R x, x4 (ix2 R x) = ((vG R x : ℝ) : EReal))

include h2 h3 in
theorem score (b h : Fin 8) (q k : Fin 2048) : val_main_v18 (F := Ideal) x2 x3 (ix4 b h q k)
    = if k.val / 64 ≤ q.val / 64 then ((D qG kG b h q k * Real.log 2 : ℝ) : EReal) else (⊥ : EReal) := by
  rw [v18, v10, v7]
  simp only [h2, h3, ← EReal.coe_mul, Online.coe_sum]
  rfl

include h2 h3 in
theorem score_top (b h : Fin 8) (q k : Fin 2048) : val_main_v18 (F := Ideal) x2 x3 (ix4 b h q k) ≠ (⊤ : EReal) := by
  rw [score x2 x3 qG kG h2 h3]
  split_ifs
  · exact EReal.coe_ne_top _
  · exact bot_ne_top

include h2 h3 in
theorem weight (b h : Fin 8) (q k : Fin 2048) : Online.wte (val_main_v18 (F := Ideal) x2 x3 (ix4 b h q k)) = W qG kG b h q k := by
  rw [score x2 x3 qG kG h2 h3]
  unfold W
  split_ifs
  · rw [Online.wte_coe, Real.rpow_def_of_pos two_pos, mul_comm]
  · exact Online.wte_bot

include h2 h3 h4 in
theorem average (b h : Fin 8) (q : Fin 2048) (e : Fin 64) :
    (∑ k, x4 (ix2 (pos b k) (vcl h e)) * Ideal.div (Ideal.exp (val_main_v18 (F := Ideal) x2 x3 (ix4 b h q k) - val_main_v21 (F := Ideal) x2 x3 (ix3 b h q)))
        (∑ k, Ideal.exp (val_main_v18 (F := Ideal) x2 x3 (ix4 b h q k) - val_main_v21 (F := Ideal) x2 x3 (ix3 b h q))) : EReal)
      = (((∑ k, W qG kG b h q k * vG (pos b k) (vcl h e)) / ∑ k, W qG kG b h q k : ℝ) : EReal) := by
  have ht := score_top x2 x3 qG kG h2 h3
  obtain ⟨M, hM⟩ := v21_real x2 x3 ht (fun b h q => by
    rw [score x2 x3 qG kG h2 h3, if_pos le_rfl]; exact EReal.coe_ne_bot _) b h q
  rw [hM, Online.ref_sum M _ (ht b h q)]
  simp only [weight x2 x3 qG kG h2 h3, fun k => Online.ref_weight (ht b h q k) M _ (W_pos qG kG b h q).ne', h4, ← EReal.coe_mul, Online.coe_sum]
  refine congrArg (fun x : ℝ => (x : EReal)) ?_
  rw [Finset.sum_div]
  exact Finset.sum_congr rfl fun k _ => by ring

include h2 h3 h4 in
theorem result (b h : Fin 8) (q : Fin 2048) (e : Fin 64) :
    val_main_v33 (F := Ideal) x2 x3 x4 (ix2 (pos b q) (vcl h e))
      = (((∑ k, W qG kG b h q k * vG (pos b k) (vcl h e)) / ∑ k, W qG kG b h q k : ℝ) : EReal) := by
  rw [← average x2 x3 x4 qG kG vG h2 h3 h4]
  have e1 : (b.val * 2048 + q.val) / 2048 = b.val := by omega
  have e2 : (b.val * 2048 + q.val) % 2048 = q.val := by omega
  have e3 : (h.val * 64 + e.val) / 64 = h.val := by omega
  have e4 : (h.val * 64 + e.val) % 64 = e.val := by omega
  unfold pos vcl
  pointwise [val_main_v33, val_main_v32, val_main_v31, val_main_v30, val_main_v29, val_main_v28, val_main_v27, val_main_v26, val_main_cst_4, val_main_v25, val_main_v24, val_main_v23, val_main_v22, val_main_v5, val_main_v4]
end

end Cert.Reference4Ideal.Attend
-- ==== Proof.FlashClaim.lean ====
module

public import proofs.«01_k».proof.Proof.FlashValue
public import proofs.«01_k».proof.Proof.RefFlash
public import proofs.«01_k».proof.Proof.Scheduled

@[expose] public section

set_option maxRecDepth 16384

noncomputable section

/-! # The prompt attention's kernel and reference agree

The reference sums over a sequence's 2048 keys at once, the kernel over its blocks of 512: those before the query's whole, its
own up to the query's chunk of 64, and those after it not at all. -/

namespace Cert.Flash

open Idealize.ShloMosaic Idealize.ShloMosaic.TcCoe Idealize.ShloMosaic.Tactic
open Idealize.SL Idealize.SL.Sem
open Cert.Kernel4Ideal Cert.Kernel4Ideal.Gen
open Cert.Reference4Ideal.Attend (pos hc vcl D W)

/-- A place in a sequence from its block and the place within it. -/
def plc (j : Fin 4) (s : Fin 512) : Fin 2048 := ⟨512 * j.val + s.val, by omega⟩

theorem row_eq (b : Fin 8) (i : Fin 4) (r : Fin 512) : row b i r = pos b (plc i r) := Fin.ext (by
  show (2048 * b.val + 512 * i.val + r.val) % 16384 = b.val * 2048 + (512 * i.val + r.val)
  omega)
theorem hcol_eq (h : Fin 8) (d : Fin 128) : hcol h d = hc h d := Fin.ext (by show 128 * h.val + d.val = h.val * 128 + d.val; omega)
theorem vcol_eq (h : Fin 8) (e : Fin 64) : vcol h e = vcl h e := Fin.ext (by show 64 * h.val + e.val = h.val * 64 + e.val; omega)

theorem sum_blocks (f : Fin 2048 → ℝ) : ∑ k, f k = ∑ j : Fin 4, ∑ s : Fin 512, f (plc j s) := by
  rw [← Fintype.sum_prod_type' (f := fun j s => f (plc j s))]
  refine (Equiv.sum_comp (finProdFinEquiv (m := 4) (n := 512)) f).symm.trans (Finset.sum_congr rfl fun x _ => congrArg f (Fin.ext ?_))
  show x.2.val + 512 * x.1.val = 512 * x.1.val + x.2.val
  omega

theorem sum_seen (F : Fin 4 → ℝ) (T : ℕ → ℝ) (d : ℝ) (i : Fin 4) (h1 : ∀ j, j.val < i.val → F j = T j.val) (h2 : F i = d)
    (h3 : ∀ j, i.val < j.val → F j = 0) : ∑ j, F j = ∑ j ∈ Finset.range i.val, T j + d := by
  rw [Fin.sum_univ_four]
  match i with
  | 0 => rw [h2, h3 1 (by decide), h3 2 (by decide), h3 3 (by decide)]; simp
  | 1 => rw [h1 0 (by decide), h2, h3 2 (by decide), h3 3 (by decide)]; simp
  | 2 => rw [h1 0 (by decide), h1 1 (by decide), h2, h3 3 (by decide)]; simp [Finset.sum_range_succ]
  | 3 => rw [h1 0 (by decide), h1 1 (by decide), h1 2 (by decide), h2]; simp [Finset.sum_range_succ]

section
variable (qG kG : Fin 16384 → Fin 1024 → ℝ) (vG : Fin 16384 → Fin 512 → ℝ) (b : Fin 8) (i : Fin 4) (r : Fin 512) (h : Fin 8)

theorem dot_same (j : Fin 4) (s : Fin 512) : dotR (tile qG b i) (tile kG b j) h r s = D qG kG b h (plc i r) (plc j s) := by
  unfold dotR D tile
  simp only [row_eq, hcol_eq]

theorem W_before (j : Fin 4) (hj : j.val < i.val) (s : Fin 512) : W qG kG b h (plc i r) (plc j s) = (2 : ℝ) ^ dotR (tile qG b i) (tile kG b j) h r s := by
  rw [dot_same]
  unfold W
  exact if_pos (by show (512 * j.val + s.val) / 64 ≤ (512 * i.val + r.val) / 64; omega)
theorem W_own (s : Fin 512) : W qG kG b h (plc i r) (plc i s) = dw (tile qG b i) (tile kG b i) h r s := by
  unfold W dw
  rw [dot_same]
  exact if_congr (by show (512 * i.val + s.val) / 64 ≤ (512 * i.val + r.val) / 64 ↔ s.val / 64 ≤ r.val / 64; omega) rfl rfl
theorem W_after (j : Fin 4) (hj : i.val < j.val) (s : Fin 512) : W qG kG b h (plc i r) (plc j s) = 0 := by
  unfold W
  exact if_neg (by show ¬ (512 * j.val + s.val) / 64 ≤ (512 * i.val + r.val) / 64; omega)

theorem den_same : ∑ k, W qG kG b h (plc i r) k = lA qG kG b i h r := by
  rw [sum_blocks]
  refine sum_seen _ (fun j => tl (tile qG b i) (tile kG b j) h r) _ i (fun j hj => ?_) ?_ fun j hj => ?_
  · exact Finset.sum_congr rfl fun s _ => W_before qG kG b i r h j hj s
  · exact Finset.sum_congr rfl fun s _ => W_own qG kG b i r h s
  · exact Finset.sum_eq_zero fun s _ => W_after qG kG b i r h j hj s

theorem num_same (e : Fin 64) : ∑ k, W qG kG b h (plc i r) k * vG (pos b k) (vcl h e) = aA qG kG vG b i h r e := by
  rw [sum_blocks]
  refine sum_seen _ (fun j => ta (tile qG b i) (tile kG b j) (tile vG b j) h r e) _ i (fun j hj => ?_) ?_ fun j hj => ?_
  · exact Finset.sum_congr rfl fun s _ => by rw [W_before qG kG b i r h j hj s, ← row_eq, ← vcol_eq]; rfl
  · exact Finset.sum_congr rfl fun s _ => by rw [W_own qG kG b i r h s, ← row_eq, ← vcol_eq]; rfl
  · exact Finset.sum_eq_zero fun s _ => by rw [W_after qG kG b i r h j hj s, zero_mul]
end

theorem out_index (j : S16384x512.Idx) : ∃ (b : Fin 8) (i : Fin 4) (r : Fin 512) (h : Fin 8) (e : Fin 64), j = ix2 (pos b (plc i r)) (vcl h e) := by
  have h0 : (j 0).val < 16384 := (j 0).isLt
  have h1 : (j 1).val < 512 := (j 1).isLt
  refine ⟨⟨(j 0).val / 2048, by omega⟩, ⟨(j 0).val % 2048 / 512, by omega⟩, ⟨(j 0).val % 512, by omega⟩, ⟨(j 1).val / 64, by omega⟩,
    ⟨(j 1).val % 64, by omega⟩, funext fun a => ?_⟩
  match a with
  | ⟨0, _⟩ => exact Fin.ext (by
      show (j 0).val = (j 0).val / 2048 * 2048 + (512 * ((j 0).val % 2048 / 512) + (j 0).val % 512); omega)
  | ⟨1, _⟩ => exact Fin.ext (by show (j 1).val = (j 1).val / 64 * 64 + (j 1).val % 64; omega)

theorem value (m : (ℓ : Loc nD τ sig) → Buf (Elt Ideal) ℓ) (ρ : Dev nD → PrngReg) (hpre : Cert.Pre_Kernel4Ideal m) (c : Dev nD) :
    Cert.Reference4Ideal.Read.val_main_v33 (F := Ideal) (m ((c.tc : Thread nD τ).loc main_arg2)) (m ((c.tc : Thread nD τ).loc main_arg3))
      (m ((c.tc : Thread nD τ).loc main_arg4)) = (dats 0 m ρ 0 c).arrAt 3 (cfgA 0).N := by
  obtain ⟨r2, r3, r4⟩ := Cert.Scheduled.all_real _ _ _ _ _ (fun j => congrFun (hpre c) j)
  choose q h2 using r2
  choose k h3 using r3
  choose v h4 using r4
  refine funext fun (j : S16384x512.Idx) => ?_
  obtain ⟨b, i, r, h, e, rfl⟩ := out_index j
  refine (Cert.Reference4Ideal.Attend.result _ _ _ (fun R x => q (ix2 R x)) (fun R x => k (ix2 R x)) (fun R x => v (ix2 R x))
    (fun _ _ => h2 _) (fun _ _ => h3 _) (fun _ _ => h4 _) b h (plc i r) e).trans ?_
  refine (congrArg (fun x : ℝ => (x : EReal)) (congrArg₂ (· / ·) (num_same _ _ (fun R x => v (ix2 R x)) b i r h e) (den_same _ _ b i r h))).trans ?_
  rw [← row_eq, ← vcol_eq]
  exact (result m ρ c (qG := fun R x => q (ix2 R x)) (kG := fun R x => k (ix2 R x)) (vG := fun R x => v (ix2 R x))
    (fun _ _ => h2 _) (fun _ _ => h3 _) (fun _ _ => h4 _) b i r h e).symm

end Cert.Flash
-- ==== Proof.lean ====
/-
  The proof of `Cert.Claim`: the frames are the generated ones; the value claim joins what the kernel leaves in its
  result (`Proof/Attend.lean`) with what the reference computes (`Proof/RefAttend.lean`), both written over the reals as
  the weighted average of the latents followed by the value projection (`Proof/Common.lean`). The second call's value claim
  joins what its grid leaves (`Proof/FfnValue.lean`) with what its reference computes (`Proof/RefFfn.lean`), both written
  with the row functions of `Proof/FfnSeq.lean`. The same call at the sample group's shapes, where nothing is carried between
  tiles, is joined with its reference in `Proof/FfnSampleValue.lean`. The prompt attention's grid (`Proof/FlashValue.lean`) and
  its reference (`Proof/RefFlash.lean`) meet in `Proof/FlashClaim.lean`.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Attend
public import proofs.«01_k».proof.Proof.RefAttend
public import proofs.«01_k».proof.Proof.Finite
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Scheduled
public import proofs.«01_k».proof.Proof.Gen.Kernel4.Flash
public import proofs.«01_k».proof.Proof.Gen.Kernel4Ideal.Flash
public import proofs.«01_k».proof.Proof.Gen.Reference4Ideal.Run
public import proofs.«01_k».proof.Proof.Gen.Reference4Ideal.Read
public import proofs.«01_k».proof.Proof.Gen.Pre_scheduled
public import proofs.«01_k».proof.Proof.FfnClaim
public import proofs.«01_k».proof.Proof.FfnSampleValue
public import proofs.«01_k».proof.Proof.FlashClaim

@[expose] public section

noncomputable section

namespace Cert.Proof

open Idealize.ShloMosaic Idealize.ShloMosaic.TcCoe Idealize.ShloMosaic.Tactic Idealize.SL.Sem
open Cert.KernelIdeal Cert.KernelIdeal.Gen Cert.KernelIdeal.Host

/-- Every place of the result belongs to one batch and query, and to one head and lane. -/
theorem result_index (i : S2048x512.Idx) : ∃ (b : Fin 32) (q : Fin 64) (h : Fin 8) (v : Fin 64),
    i = ix2 ⟨64 * b.val + q.val, by omega⟩ ⟨64 * h.val + v.val, by omega⟩ := by
  have h0 : (i 0).val < 2048 := (i 0).isLt
  have h1 : (i 1).val < 512 := (i 1).isLt
  refine ⟨⟨(i 0).val / 64, by omega⟩, ⟨(i 0).val % 64, by omega⟩, ⟨(i 1).val / 64, by omega⟩,
    ⟨(i 1).val % 64, by omega⟩, funext fun a => ?_⟩
  match a with
  | ⟨0, _⟩ => exact Fin.ext (Nat.div_add_mod (i 0).val 64).symm
  | ⟨1, _⟩ => exact Fin.ext (Nat.div_add_mod (i 1).val 64).symm

theorem value (m : (ℓ : Loc nD τ sig) → Buf (Elt Ideal) ℓ) (hpre : Cert.Pre_KernelIdeal_finite m) (c : Dev nD) :
    Cert.ReferenceIdeal.Read.val_main_v38 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))
    = (dats m 0 c).arrAt 6 cfg0.N := by
  obtain ⟨r0, r1, r2, r3, r4, r5⟩ := Finite.all_real _ _ _ _ _ _ _ (fun j => congrFun (hpre c) j)
  choose a0 h0 using r0
  choose a1 h1 using r1
  choose a2 h2 using r2
  choose a3 h3 using r3
  choose a4 h4 using r4
  choose a5 h5 using r5
  refine funext fun (i : S2048x512.Idx) => ?_
  obtain ⟨b, q, h, v, rfl⟩ := result_index i
  refine (ReferenceIdeal.Attend.result _ _ _ _ _ _ _ (fun b q h e => a0 (ix4 b q h e)) (fun b q h d => a1 (ix4 b q h d))
    (fun b k e => a2 (ix3 b k e)) (fun b k d => a3 (ix3 b k d)) (fun b k e => a4 (ix3 b k e)) (fun b k d => a5 (ix3 b k d))
    (fun _ _ _ _ => h0 _) (fun _ _ _ _ => h1 _) (fun _ _ _ => h2 _) (fun _ _ _ => h3 _) (fun _ _ _ => h4 _)
    (fun _ _ _ => h5 _) b q h v).trans ?_
  exact (result m c ⟨b.val, b.isLt⟩ (fun b q h e => a0 (ix4 b q h e)) (fun b q h d => a1 (ix4 b q h d))
    (fun b k e => a2 (ix3 b k e)) (fun b k d => a3 (ix3 b k d)) (fun b k e => a4 (ix3 b k e)) (fun b k d => a5 (ix3 b k d))
    (fun _ _ _ _ => h0 _) (fun _ _ _ _ => h1 _) (fun _ _ _ => h2 _) (fun _ _ _ => h3 _) (fun _ _ _ => h4 _)
    (fun _ _ _ => h5 _) q h v).symm

theorem reference_frame : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

theorem algebraic : Cert.algebraic_KernelIdeal_ReferenceIdeal_pre_finite := by
  intro m g m' g' hpre hargs
  refine ⟨fun c => (dats m 0 c).arrAt 6 cfg0.N, Cert.KernelIdeal.Value.run_blocks m g, ?_⟩
  refine (θ_run Cert.ReferenceIdeal.defs _ _).mono (fun r h c => ⟨(h c).1.trans ?_, (h c).2⟩)
    (Cert.ReferenceIdeal.Value.run m' g')
  obtain ⟨e0, e1, e2, e3, e4, e5, e6⟩ := hargs c
  rw [Cert.ReferenceIdeal.Read.val_main_v38_eq, e0, e1, e2, e3, e4, e5, e6]
  exact value m hpre c

theorem reference2_frame : Cert.quiescent_Reference2Ideal := fun m g _ =>
  (θ_run Cert.Reference2Ideal.defs _ _).mono (fun r h => ⟨fun c => (h c).2.2, sem_eq_zero_of_no_sems rfl r.2⟩)
    (Cert.Reference2Ideal.Value.run m g)

theorem algebraic2 : Cert.algebraic_Kernel2Ideal_Reference2Ideal := by
  intro m g m' g' _ hargs
  refine ⟨fun c => Cert.Kernel2Ideal.Value.G10 m c, fun c => Cert.Kernel2Ideal.Value.G11 m c, Cert.Kernel2Ideal.Value.run m g, ?_⟩
  refine (θ_run Cert.Reference2Ideal.defs _ _).mono (fun r h c => ⟨(h c).1.trans ?_, (h c).2.1.trans ?_, (h c).2.2⟩)
    (Cert.Reference2Ideal.Value.run m' g')
  · obtain ⟨e0, e1, e2, e3, e4, e5, e6, e7, e8, e9, e10⟩ := hargs c
    rw [Cert.Reference2Ideal.Read.val_main_v63_eq, e0, e1, e2, e3, e4, e5, e6, e7, e8, e9, e10]
    exact Cert.Kernel2Ideal.Host.result_value m c
  · obtain ⟨e0, e1, e2, e3, e4, e5, e6, e7, e8, e9, e10⟩ := hargs c
    rw [Cert.Reference2Ideal.Read.val_main_v64_eq, e0, e1, e2, e3, e4, e5, e6]
    exact Cert.Kernel2Ideal.Host.state_value m c

theorem reference3_frame : Cert.quiescent_Reference3Ideal := fun m g _ =>
  (θ_run Cert.Reference3Ideal.defs _ _).mono (fun r h => ⟨fun c => (h c).2.2, sem_eq_zero_of_no_sems rfl r.2⟩)
    (Cert.Reference3Ideal.Value.run m g)

theorem algebraic3 : Cert.algebraic_Kernel3Ideal_Reference3Ideal := by
  intro m g m' g' _ hargs
  refine ⟨fun c => (Cert.Kernel3Ideal.Gen.dats m 0 c).arrAt 10 Cert.Kernel3Ideal.cfg0.N,
    fun c => (Cert.Kernel3Ideal.Gen.dats m 0 c).arrAt 11 Cert.Kernel3Ideal.cfg0.N, Cert.Kernel3Ideal.Value.run_blocks m g, ?_⟩
  refine (θ_run Cert.Reference3Ideal.defs _ _).mono (fun r h c => ⟨(h c).1.trans ?_, (h c).2.1.trans ?_, (h c).2.2⟩)
    (Cert.Reference3Ideal.Value.run m' g')
  · obtain ⟨e0, e1, e2, e3, e4, e5, e6, e7, e8, e9, e10⟩ := hargs c
    rw [Cert.Reference3Ideal.Read.val_main_v63_eq, e0, e1, e2, e3, e4, e5, e6, e7, e8, e9, e10]
    exact Cert.Kernel3Ideal.Host.result_value m c
  · obtain ⟨e0, e1, e2, e3, e4, e5, e6, e7, e8, e9, e10⟩ := hargs c
    rw [Cert.Reference3Ideal.Read.val_main_v64_eq, e0, e1, e2, e3, e4, e5, e6]
    exact Cert.Kernel3Ideal.Host.state_value m c

theorem reference4_frame : Cert.quiescent_Reference4Ideal := fun m g _ =>
  (θ_run Cert.Reference4Ideal.defs _ _).mono (fun r h => ⟨fun c => (h c).2, sem_eq_zero_of_no_sems rfl r.2⟩)
    (Cert.Reference4Ideal.Value.run m g)

/-- The mask's literal is the number the table names. -/
theorem mask_named : Cert.preserves_Kernel4_Kernel4Ideal :=
  IdealRules.named_const.statement Cert.Kernel4Ideal.κ "mask" .f32 0xF149F2CA#32 ⊥ rfl

theorem algebraic4 : Cert.algebraic_Kernel4Ideal_Reference4Ideal := by
  intro m g m' g' hpre hargs
  have hp := Cert.Scheduled.pinned_ideal m hpre
  refine ⟨fun c => (Cert.Kernel4Ideal.Gen.dats 0 m g 0 c).arrAt 3 (Cert.Kernel4Ideal.Gen.cfgA 0).N, ?_, ?_⟩
  · exact (θ_run Cert.Kernel4Ideal.defs _ _).mono (fun r h c => ⟨(h.1 c).1 3, h.2 c⟩)
      (θ_run_and (Cert.Kernel4Ideal.Gen.run_main 0 m g hp) (Cert.Kernel4Ideal.Gen.unchanged 0 m g hp))
  · refine (θ_run Cert.Reference4Ideal.defs _ _).mono (fun r h c => ⟨(h c).1.trans ?_, (h c).2⟩)
      (Cert.Reference4Ideal.Value.run m' g')
    obtain ⟨e0, e1, e2, e3, e4⟩ := hargs c
    rw [Cert.Reference4Ideal.Read.val_main_v33_eq, e2, e3, e4]
    exact Cert.Flash.value m g hpre c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.Gen.facts, Cert.Pre_scheduled.Gen.facts, fun m ρ _ => Cert.Kernel.Gen.frame m ρ, fun m ρ _ => Cert.KernelIdeal.Gen.frame m ρ,
  fun m ρ _ => Cert.KernelIdeal.Gen.frame m ρ, reference_frame,
  fun m ρ _ => reference_frame m ρ trivial, fun m ρ _ => Cert.Kernel2.Gen.frame m ρ,
  fun m ρ _ => Cert.Kernel2Ideal.Gen.frame m ρ, reference2_frame, fun m ρ _ => Cert.Kernel3.Gen.frame m ρ,
  fun m ρ _ => Cert.Kernel3Ideal.Gen.frame m ρ, reference3_frame,
  fun m ρ h => Cert.Kernel4.Gen.frame 0 m ρ (Cert.Scheduled.pinned m h),
  fun m ρ h => Cert.Kernel4Ideal.Gen.frame 0 m ρ (Cert.Scheduled.pinned_ideal m h), reference4_frame,
  fun m ρ _ => reference4_frame m ρ trivial,
  trivial, algebraic, trivial, algebraic2, trivial, algebraic3, mask_named, algebraic4⟩

end Cert.Proof

end
